-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 8192, 8, 128]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 8192, 8, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024x8x128 : S_.BroadcastsInDim S1x1024x8x128 (![] : Fin 0 → Fin S1x1024x8x128.rank)
  reducesTo_S1x1024x8x128_S_d0_1_2_3 : S1x1024x8x128.ReducesTo [0, 1, 2, 3] S_

variable [Facts]

def fn {F : FTy → Type} [FloatOps F] (main_arg0 : FVec F S1x1024x1024 .f32) (main_arg1 : FVec F S1024x1024 .f32) (main_arg2 : FVec F S1x1024x8x128 .f32) (main_arg3 : FVec F S1x1024x8x128 .f32) (main_arg4 : FVec F S1024x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x1024x8x128 .f32 := Host.absf main_arg2
  let main_cst_2 : FVec F S_ .f32 := constant S_ .f32 0x7F800000#32
  let main_v10 : FVec F S1x1024x8x128 .f32 := broadcastInDim S1x1024x8x128 ![] bcast_S_S1x1024x8x128 main_cst_2
  let main_v11 : IVec S1x1024x8x128 1 := cmpf .olt main_v9 main_v10
  let main_c_3 : IVec S_ 1 := constantI S_ 1 1#1
  let main_v12 : IVec S_ 1 := (fun x v => Host.reduce IntOp.andi x v reducesTo_S1x1024x8x128_S_d0_1_2_3 h_S_) main_v11 main_c_3
  let main_v13 : IVec S_ 1 := andi main_v8 main_v12
  main_v13
-- ==== Pre_finite_ReferenceIdeal.lean ====
abbrev S1x1024x1024 : Shape := ⟨3, ![1, 1024, 1024]⟩
abbrev S1024x1024 : Shape := ⟨2, ![1024, 1024]⟩
abbrev S1x8192x8x128 : Shape := ⟨4, ![1, 8192, 8, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x8192x8x128 : S_.BroadcastsInDim S1x8192x8x128 (![] : Fin 0 → Fin S1x8192x8x128.rank)
  reducesTo_S1x8192x8x128_S_d0_1_2_3 : S1x8192x8x128.ReducesTo [0, 1, 2, 3] S_

variable [Facts]

def fn {F : FTy → Type} [FloatOps F] (main_arg0 : FVec F S1x1024x1024 .f32) (main_arg1 : FVec F S1024x1024 .f32) (main_arg2 : FVec F S1x8192x8x128 .f32) (main_arg3 : FVec F S1x8192x8x128 .f32) (main_arg4 : FVec F S1024x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x8192x8x128 .f32 := Host.absf main_arg2
  let main_cst_2 : FVec F S_ .f32 := constant S_ .f32 0x7F800000#32
  let main_v10 : FVec F S1x8192x8x128 .f32 := broadcastInDim S1x8192x8x128 ![] bcast_S_S1x8192x8x128 main_cst_2
  let main_v11 : IVec S1x8192x8x128 1 := cmpf .olt main_v9 main_v10
  let main_c_3 : IVec S_ 1 := constantI S_ 1 1#1
  let main_v12 : IVec S_ 1 := (fun x v => Host.reduce IntOp.andi x v reducesTo_S1x8192x8x128_S_d0_1_2_3 h_S_) main_v11 main_c_3
  let main_v13 : IVec S_ 1 := andi main_v8 main_v12
  main_v13
-- ==== Kernel.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S1024x8x128 : Shape := ⟨3, ![1024, 8, 128]⟩
abbrev S7x128x1152 : Shape := ⟨3, ![7, 128, 1152]⟩
abbrev S32x1152 : Shape := ⟨2, ![32, 1152]⟩
abbrev S128x1152 : Shape := ⟨2, ![128, 1152]⟩
abbrev S7x32x1152 : Shape := ⟨3, ![7, 32, 1152]⟩
abbrev S2x128x1152 : Shape := ⟨3, ![2, 128, 1152]⟩
abbrev S128x1024 : Shape := ⟨2, ![128, 1024]⟩
abbrev S8x128x1024 : Shape := ⟨3, ![8, 128, 1024]⟩
abbrev S7 : Shape := ⟨1, ![7]⟩
abbrev S2 : Shape := ⟨1, ![2]⟩
abbrev S8 : Shape := ⟨1, ![8]⟩
abbrev S_ : Shape := ⟨0, ![]⟩
abbrev S128x384 : Shape := ⟨2, ![128, 384]⟩
abbrev S128x128 : Shape := ⟨2, ![128, 128]⟩
abbrev S384x128 : Shape := ⟨2, ![384, 128]⟩
abbrev S128 : Shape := ⟨1, ![128]⟩
abbrev S128x1 : Shape := ⟨2, ![128, 1]⟩
abbrev S128x8 : Shape := ⟨2, ![128, 8]⟩
abbrev S128x120 : Shape := ⟨2, ![128, 120]⟩
abbrev S1x128x1152 : Shape := ⟨3, ![1, 128, 1152]⟩
abbrev S1 : Shape := ⟨1, ![1]⟩
abbrev S32x128 : Shape := ⟨2, ![32, 128]⟩
abbrev S128x32 : Shape := ⟨2, ![128, 32]⟩
abbrev S128x256 : Shape := ⟨2, ![128, 256]⟩
abbrev S256x128 : Shape := ⟨2, ![256, 128]⟩
abbrev S1024x128 : Shape := ⟨2, ![1024, 128]⟩
abbrev S1x32x1024 : Shape := ⟨3, ![1, 32, 1024]⟩
abbrev S32x1024 : Shape := ⟨2, ![32, 1024]⟩
abbrev S32 : Shape := ⟨1, ![32]⟩
abbrev S32x1 : Shape := ⟨2, ![32, 1]⟩
abbrev S32x8 : Shape := ⟨2, ![32, 8]⟩
abbrev S32x120 : Shape := ⟨2, ![32, 120]⟩
abbrev S1x32x1152 : Shape := ⟨3, ![1, 32, 1152]⟩
abbrev S1x128x1024 : Shape := ⟨3, ![1, 128, 1024]⟩

abbrev nBuf : Space → Nat
  | .hbm => 10
  | .vmem => 14
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x8x128, .f32⟩
  | .hbm, ⟨3, _⟩ => ⟨S1x1024x8x128, .f32⟩
  | .hbm, ⟨4, _⟩ => ⟨S1024x1024, .f32⟩
  | .hbm, ⟨5, _⟩ => ⟨S1024x8x128, .f32⟩
  | .hbm, ⟨6, _⟩ => ⟨S1024x1024, .f32⟩
  | .hbm, ⟨7, _⟩ => ⟨S1024x8x128, .f32⟩
  | .hbm, ⟨8, _⟩ => ⟨S1024x1024, .f32⟩
  | .hbm, ⟨9, _⟩ => ⟨S1x1024x1024, .f32⟩
  | .local _ .vmem, ⟨0, _⟩ => ⟨S1x1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1x1024x1024, .f32⟩
  | .local _ .vmem, ⟨6, _⟩ => ⟨S7x128x1152, .bf16⟩
  | .local _ .vmem, ⟨7, _⟩ => ⟨S32x1152, .bf16⟩
  | .local _ .vmem, ⟨8, _⟩ => ⟨S128x1152, .bf16⟩
  | .local _ .vmem, ⟨9, _⟩ => ⟨S7x32x1152, .bf16⟩
  | .local _ .vmem, ⟨10, _⟩ => ⟨S2x128x1152, .bf16⟩
  | .local _ .vmem, ⟨11, _⟩ => ⟨S128x1152, .f32⟩
  | .local _ .vmem, ⟨12, _⟩ => ⟨S128x1024, .bf16⟩
  | .local _ .vmem, ⟨13, _⟩ => ⟨S8x128x1024, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 2 → Bool
  | ⟨0, _⟩ => false
  | ⟨1, _⟩ => true
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 2 40 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_115 : BitVec 32 := 0#32
  let c0_i32_113 : BitVec 32 := 0#32
  let c1_i32_114 : BitVec 32 := 1#32
  let v193 : BitVec 32 := Scalar.muli c0_i32_113 c1_i32_114
  let v194 : BitVec 32 := Scalar.addi c0_i32_115 v193
  v194.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_115 : BitVec 32 := 0#32
  let c1_i32_113 : BitVec 32 := 1#32
  let c1_i32_114 : BitVec 32 := 1#32
  let v193 : BitVec 32 := Scalar.muli c1_i32_113 c1_i32_114
  let v194 : BitVec 32 := Scalar.addi c0_i32_115 v193
  v194.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_115 : BitVec 32 := 0#32
  let c2_i32_113 : BitVec 32 := 2#32
  let c1_i32_114 : BitVec 32 := 1#32
  let v193 : BitVec 32 := Scalar.muli c2_i32_113 c1_i32_114
  let v194 : BitVec 32 := Scalar.addi c0_i32_115 v193
  v194.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_115 : BitVec 32 := 0#32
  let c3_i32_113 : BitVec 32 := 3#32
  let c1_i32_114 : BitVec 32 := 1#32
  let v193 : BitVec 32 := Scalar.muli c3_i32_113 c1_i32_114
  let v194 : BitVec 32 := Scalar.addi c0_i32_115 v193
  v194.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_115 : BitVec 32 := 0#32
  let c4_i32_113 : BitVec 32 := 4#32
  let c1_i32_114 : BitVec 32 := 1#32
  let v193 : BitVec 32 := Scalar.muli c4_i32_113 c1_i32_114
  let v194 : BitVec 32 := Scalar.addi c0_i32_115 v193
  v194.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_115 : BitVec 32 := 0#32
  let c5_i32_113 : BitVec 32 := 5#32
  let c1_i32_114 : BitVec 32 := 1#32
  let v193 : BitVec 32 := Scalar.muli c5_i32_113 c1_i32_114
  let v194 : BitVec 32 := Scalar.addi c0_i32_115 v193
  v194.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_115 : BitVec 32 := 0#32
  let c6_i32_113 : BitVec 32 := 6#32
  let c1_i32_114 : BitVec 32 := 1#32
  let v193 : BitVec 32 := Scalar.muli c6_i32_113 c1_i32_114
  let v194 : BitVec 32 := Scalar.addi c0_i32_115 v193
  v194.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_115 : BitVec 32 := 0#32
  let c7_i32_113 : BitVec 32 := 7#32
  let c1_i32_114 : BitVec 32 := 1#32
  let v193 : BitVec 32 := Scalar.muli c7_i32_113 c1_i32_114
  let v194 : BitVec 32 := Scalar.addi c0_i32_115 v193
  v194.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_10 : BitVec 32 := 0#32
  let v28 : BitVec 1 := Scalar.cmpi .eq v2 c0_i32_10
  let v29 : BitVec 32 := Scalar.extui v28
  let c0_i32_11 : BitVec 32 := 0#32
  let v30 : BitVec 1 := Scalar.cmpi .ne v29 c0_i32_11
  v30

def k0_dev9 : Nat :=
  let c0_i32_204 : BitVec 32 := 0#32
  let c1_i32_202 : BitVec 32 := 1#32
  let c1_i32_203 : BitVec 32 := 1#32
  let v333 : BitVec 32 := Scalar.muli c1_i32_202 c1_i32_203
  let v334 : BitVec 32 := Scalar.addi c0_i32_204 v333
  v334.toNat
def k0_dev10 : Nat :=
  let c0_i32_358 : BitVec 32 := 0#32
  let c2_i32_356 : BitVec 32 := 2#32
  let c1_i32_357 : BitVec 32 := 1#32
  let v582 : BitVec 32 := Scalar.muli c2_i32_356 c1_i32_357
  let v583 : BitVec 32 := Scalar.addi c0_i32_358 v582
  v583.toNat
def k0_dev11 : Nat :=
  let c0_i32_512 : BitVec 32 := 0#32
  let c3_i32_510 : BitVec 32 := 3#32
  let c1_i32_511 : BitVec 32 := 1#32
  let v831 : BitVec 32 := Scalar.muli c3_i32_510 c1_i32_511
  let v832 : BitVec 32 := Scalar.addi c0_i32_512 v831
  v832.toNat
def k0_dev12 : Nat :=
  let c0_i32_666 : BitVec 32 := 0#32
  let c4_i32_664 : BitVec 32 := 4#32
  let c1_i32_665 : BitVec 32 := 1#32
  let v1080 : BitVec 32 := Scalar.muli c4_i32_664 c1_i32_665
  let v1081 : BitVec 32 := Scalar.addi c0_i32_666 v1080
  v1081.toNat
def k0_dev13 : Nat :=
  let c0_i32_820 : BitVec 32 := 0#32
  let c5_i32_818 : BitVec 32 := 5#32
  let c1_i32_819 : BitVec 32 := 1#32
  let v1329 : BitVec 32 := Scalar.muli c5_i32_818 c1_i32_819
  let v1330 : BitVec 32 := Scalar.addi c0_i32_820 v1329
  v1330.toNat
def k0_dev14 : Nat :=
  let c0_i32_974 : BitVec 32 := 0#32
  let c6_i32_972 : BitVec 32 := 6#32
  let c1_i32_973 : BitVec 32 := 1#32
  let v1578 : BitVec 32 := Scalar.muli c6_i32_972 c1_i32_973
  let v1579 : BitVec 32 := Scalar.addi c0_i32_974 v1578
  v1579.toNat
def k0_dev15 : Nat :=
  let c0_i32_1128 : BitVec 32 := 0#32
  let c7_i32_1126 : BitVec 32 := 7#32
  let c1_i32_1127 : BitVec 32 := 1#32
  let v1827 : BitVec 32 := Scalar.muli c7_i32_1126 c1_i32_1127
  let v1828 : BitVec 32 := Scalar.addi c0_i32_1128 v1827
  v1828.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_14 : BitVec 32 := 1#32
  let v34 : BitVec 1 := Scalar.cmpi .eq v2 c1_i32_14
  let v35 : BitVec 32 := Scalar.extui v34
  let c0_i32_15 : BitVec 32 := 0#32
  let v36 : BitVec 1 := Scalar.cmpi .ne v35 c0_i32_15
  v36

def k0_dev16 : Nat :=
  let c0_i32_117 : BitVec 32 := 0#32
  let c0_i32_115 : BitVec 32 := 0#32
  let c1_i32_116 : BitVec 32 := 1#32
  let v193 : BitVec 32 := Scalar.muli c0_i32_115 c1_i32_116
  let v194 : BitVec 32 := Scalar.addi c0_i32_117 v193
  v194.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_16 : BitVec 32 := 2#32
  let v37 : BitVec 1 := Scalar.cmpi .eq v2 c2_i32_16
  let v38 : BitVec 32 := Scalar.extui v37
  let c0_i32_17 : BitVec 32 := 0#32
  let v39 : BitVec 1 := Scalar.cmpi .ne v38 c0_i32_17
  v39

def k0_dev17 : Nat :=
  let c0_i32_117 : BitVec 32 := 0#32
  let c0_i32_115 : BitVec 32 := 0#32
  let c1_i32_116 : BitVec 32 := 1#32
  let v193 : BitVec 32 := Scalar.muli c0_i32_115 c1_i32_116
  let v194 : BitVec 32 := Scalar.addi c0_i32_117 v193
  v194.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_18 : BitVec 32 := 3#32
  let v40 : BitVec 1 := Scalar.cmpi .eq v2 c3_i32_18
  let v41 : BitVec 32 := Scalar.extui v40
  let c0_i32_19 : BitVec 32 := 0#32
  let v42 : BitVec 1 := Scalar.cmpi .ne v41 c0_i32_19
  v42

def k0_dev18 : Nat :=
  let c0_i32_117 : BitVec 32 := 0#32
  let c0_i32_115 : BitVec 32 := 0#32
  let c1_i32_116 : BitVec 32 := 1#32
  let v193 : BitVec 32 := Scalar.muli c0_i32_115 c1_i32_116
  let v194 : BitVec 32 := Scalar.addi c0_i32_117 v193
  v194.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_20 : BitVec 32 := 4#32
  let v43 : BitVec 1 := Scalar.cmpi .eq v2 c4_i32_20
  let v44 : BitVec 32 := Scalar.extui v43
  let c0_i32_21 : BitVec 32 := 0#32
  let v45 : BitVec 1 := Scalar.cmpi .ne v44 c0_i32_21
  v45

def k0_dev19 : Nat :=
  let c0_i32_117 : BitVec 32 := 0#32
  let c0_i32_115 : BitVec 32 := 0#32
  let c1_i32_116 : BitVec 32 := 1#32
  let v193 : BitVec 32 := Scalar.muli c0_i32_115 c1_i32_116
  let v194 : BitVec 32 := Scalar.addi c0_i32_117 v193
  v194.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_22 : BitVec 32 := 5#32
  let v46 : BitVec 1 := Scalar.cmpi .eq v2 c5_i32_22
  let v47 : BitVec 32 := Scalar.extui v46
  let c0_i32_23 : BitVec 32 := 0#32
  let v48 : BitVec 1 := Scalar.cmpi .ne v47 c0_i32_23
  v48

def k0_dev20 : Nat :=
  let c0_i32_117 : BitVec 32 := 0#32
  let c0_i32_115 : BitVec 32 := 0#32
  let c1_i32_116 : BitVec 32 := 1#32
  let v193 : BitVec 32 := Scalar.muli c0_i32_115 c1_i32_116
  let v194 : BitVec 32 := Scalar.addi c0_i32_117 v193
  v194.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_24 : BitVec 32 := 6#32
  let v49 : BitVec 1 := Scalar.cmpi .eq v2 c6_i32_24
  let v50 : BitVec 32 := Scalar.extui v49
  let c0_i32_25 : BitVec 32 := 0#32
  let v51 : BitVec 1 := Scalar.cmpi .ne v50 c0_i32_25
  v51

def k0_dev21 : Nat :=
  let c0_i32_117 : BitVec 32 := 0#32
  let c0_i32_115 : BitVec 32 := 0#32
  let c1_i32_116 : BitVec 32 := 1#32
  let v193 : BitVec 32 := Scalar.muli c0_i32_115 c1_i32_116
  let v194 : BitVec 32 := Scalar.addi c0_i32_117 v193
  v194.toNat
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_26 : BitVec 32 := 7#32
  let v52 : BitVec 1 := Scalar.cmpi .eq v2 c7_i32_26
  let v53 : BitVec 32 := Scalar.extui v52
  let c0_i32_27 : BitVec 32 := 0#32
  let v54 : BitVec 1 := Scalar.cmpi .ne v53 c0_i32_27
  v54

def k0_dev22 : Nat :=
  let c0_i32_117 : BitVec 32 := 0#32
  let c0_i32_115 : BitVec 32 := 0#32
  let c1_i32_116 : BitVec 32 := 1#32
  let v193 : BitVec 32 := Scalar.muli c0_i32_115 c1_i32_116
  let v194 : BitVec 32 := Scalar.addi c0_i32_117 v193
  v194.toNat
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_28 : BitVec 32 := 1#32
  let v55 : BitVec 1 := Scalar.cmpi .eq v2 c1_i32_28
  let v56 : BitVec 32 := Scalar.extui v55
  let c0_i32_29 : BitVec 32 := 0#32
  let v57 : BitVec 1 := Scalar.cmpi .ne v56 c0_i32_29
  v57

def k0_dev23 : Nat :=
  let c0_i32_199 : BitVec 32 := 0#32
  let c7_i32_197 : BitVec 32 := 7#32
  let c1_i32_198 : BitVec 32 := 1#32
  let v327 : BitVec 32 := Scalar.muli c7_i32_197 c1_i32_198
  let v328 : BitVec 32 := Scalar.addi c0_i32_199 v327
  v328.toNat
def k0_off1 (d0 : Dev nD) : Fin 3 → Nat :=
  let c0_60 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v112 : BitVec 32 := Scalar.muli v2 c128_i32
  let v113 : Index := Scalar.indexCast v112
  let c0_61 : Index := 0#32
  ![0, v113.toNat, 0]
def k0_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_64 : BitVec 32 := 0#32
  let v121 : BitVec 1 := Scalar.cmpi .ne v2 c0_i32_64
  let v122 : BitVec 32 := Scalar.extui v121
  let c0_i32_65 : BitVec 32 := 0#32
  let v123 : BitVec 1 := Scalar.cmpi .ne v122 c0_i32_65
  v123

def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_116 : BitVec 32 := 0#32
  let c0_i32_117 : BitVec 32 := 0#32
  ![v2.toNat, 0, 0]
def k0_dev24 : Nat :=
  let c0_i32_115 : BitVec 32 := 0#32
  let c0_i32_113 : BitVec 32 := 0#32
  let c1_i32_114 : BitVec 32 := 1#32
  let v193 : BitVec 32 := Scalar.muli c0_i32_113 c1_i32_114
  let v194 : BitVec 32 := Scalar.addi c0_i32_115 v193
  v194.toNat
def k0_cond26 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_66 : BitVec 32 := 1#32
  let v124 : BitVec 1 := Scalar.cmpi .ne v2 c1_i32_66
  let v125 : BitVec 32 := Scalar.extui v124
  let c0_i32_67 : BitVec 32 := 0#32
  let v126 : BitVec 1 := Scalar.cmpi .ne v125 c0_i32_67
  v126

def k0_off4 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_116 : BitVec 32 := 0#32
  let c0_i32_117 : BitVec 32 := 0#32
  ![v2.toNat, 0, 0]
def k0_dev25 : Nat :=
  let c0_i32_115 : BitVec 32 := 0#32
  let c1_i32_113 : BitVec 32 := 1#32
  let c1_i32_114 : BitVec 32 := 1#32
  let v193 : BitVec 32 := Scalar.muli c1_i32_113 c1_i32_114
  let v194 : BitVec 32 := Scalar.addi c0_i32_115 v193
  v194.toNat
def k0_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_68 : BitVec 32 := 2#32
  let v127 : BitVec 1 := Scalar.cmpi .ne v2 c2_i32_68
  let v128 : BitVec 32 := Scalar.extui v127
  let c0_i32_69 : BitVec 32 := 0#32
  let v129 : BitVec 1 := Scalar.cmpi .ne v128 c0_i32_69
  v129

def k0_off6 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off7 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_116 : BitVec 32 := 0#32
  let c0_i32_117 : BitVec 32 := 0#32
  ![v2.toNat, 0, 0]
def k0_dev26 : Nat :=
  let c0_i32_115 : BitVec 32 := 0#32
  let c2_i32_113 : BitVec 32 := 2#32
  let c1_i32_114 : BitVec 32 := 1#32
  let v193 : BitVec 32 := Scalar.muli c2_i32_113 c1_i32_114
  let v194 : BitVec 32 := Scalar.addi c0_i32_115 v193
  v194.toNat
def k0_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_70 : BitVec 32 := 3#32
  let v130 : BitVec 1 := Scalar.cmpi .ne v2 c3_i32_70
  let v131 : BitVec 32 := Scalar.extui v130
  let c0_i32_71 : BitVec 32 := 0#32
  let v132 : BitVec 1 := Scalar.cmpi .ne v131 c0_i32_71
  v132

def k0_off8 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off9 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_116 : BitVec 32 := 0#32
  let c0_i32_117 : BitVec 32 := 0#32
  ![v2.toNat, 0, 0]
def k0_dev27 : Nat :=
  let c0_i32_115 : BitVec 32 := 0#32
  let c3_i32_113 : BitVec 32 := 3#32
  let c1_i32_114 : BitVec 32 := 1#32
  let v193 : BitVec 32 := Scalar.muli c3_i32_113 c1_i32_114
  let v194 : BitVec 32 := Scalar.addi c0_i32_115 v193
  v194.toNat
def k0_cond29 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_72 : BitVec 32 := 4#32
  let v133 : BitVec 1 := Scalar.cmpi .ne v2 c4_i32_72
  let v134 : BitVec 32 := Scalar.extui v133
  let c0_i32_73 : BitVec 32 := 0#32
  let v135 : BitVec 1 := Scalar.cmpi .ne v134 c0_i32_73
  v135

def k0_off10 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off11 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_116 : BitVec 32 := 0#32
  let c0_i32_117 : BitVec 32 := 0#32
  ![v2.toNat, 0, 0]
def k0_dev28 : Nat :=
  let c0_i32_115 : BitVec 32 := 0#32
  let c4_i32_113 : BitVec 32 := 4#32
  let c1_i32_114 : BitVec 32 := 1#32
  let v193 : BitVec 32 := Scalar.muli c4_i32_113 c1_i32_114
  let v194 : BitVec 32 := Scalar.addi c0_i32_115 v193
  v194.toNat
def k0_cond30 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_74 : BitVec 32 := 5#32
  let v136 : BitVec 1 := Scalar.cmpi .ne v2 c5_i32_74
  let v137 : BitVec 32 := Scalar.extui v136
  let c0_i32_75 : BitVec 32 := 0#32
  let v138 : BitVec 1 := Scalar.cmpi .ne v137 c0_i32_75
  v138

def k0_off12 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off13 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_116 : BitVec 32 := 0#32
  let c0_i32_117 : BitVec 32 := 0#32
  ![v2.toNat, 0, 0]
def k0_dev29 : Nat :=
  let c0_i32_115 : BitVec 32 := 0#32
  let c5_i32_113 : BitVec 32 := 5#32
  let c1_i32_114 : BitVec 32 := 1#32
  let v193 : BitVec 32 := Scalar.muli c5_i32_113 c1_i32_114
  let v194 : BitVec 32 := Scalar.addi c0_i32_115 v193
  v194.toNat
def k0_cond31 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_76 : BitVec 32 := 6#32
  let v139 : BitVec 1 := Scalar.cmpi .ne v2 c6_i32_76
  let v140 : BitVec 32 := Scalar.extui v139
  let c0_i32_77 : BitVec 32 := 0#32
  let v141 : BitVec 1 := Scalar.cmpi .ne v140 c0_i32_77
  v141

def k0_off14 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off15 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_116 : BitVec 32 := 0#32
  let c0_i32_117 : BitVec 32 := 0#32
  ![v2.toNat, 0, 0]
def k0_dev30 : Nat :=
  let c0_i32_115 : BitVec 32 := 0#32
  let c6_i32_113 : BitVec 32 := 6#32
  let c1_i32_114 : BitVec 32 := 1#32
  let v193 : BitVec 32 := Scalar.muli c6_i32_113 c1_i32_114
  let v194 : BitVec 32 := Scalar.addi c0_i32_115 v193
  v194.toNat
def k0_cond32 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_78 : BitVec 32 := 7#32
  let v142 : BitVec 1 := Scalar.cmpi .ne v2 c7_i32_78
  let v143 : BitVec 32 := Scalar.extui v142
  let c0_i32_79 : BitVec 32 := 0#32
  let v144 : BitVec 1 := Scalar.cmpi .ne v143 c0_i32_79
  v144

def k0_off16 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off17 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_116 : BitVec 32 := 0#32
  let c0_i32_117 : BitVec 32 := 0#32
  ![v2.toNat, 0, 0]
def k0_dev31 : Nat :=
  let c0_i32_115 : BitVec 32 := 0#32
  let c7_i32_113 : BitVec 32 := 7#32
  let c1_i32_114 : BitVec 32 := 1#32
  let v193 : BitVec 32 := Scalar.muli c7_i32_113 c1_i32_114
  let v194 : BitVec 32 := Scalar.addi c0_i32_115 v193
  v194.toNat
def k0_cond49 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_112_r0 : BitVec 32 := 0#32
  let v194_r0 : BitVec 1 := Scalar.cmpi .ne v2 c0_i32_112_r0
  let v195_r0 : BitVec 32 := Scalar.extui v194_r0
  let c0_i32_113_r0 : BitVec 32 := 0#32
  let v196_r0 : BitVec 1 := Scalar.cmpi .ne v195_r0 c0_i32_113_r0
  v196_r0

def k0_dev32 : Nat :=
  let c0_i32_133_r0 : BitVec 32 := 0#32
  let c0_i32_131_r0 : BitVec 32 := 0#32
  let c1_i32_132_r0 : BitVec 32 := 1#32
  let v218_r0 : BitVec 32 := Scalar.muli c0_i32_131_r0 c1_i32_132_r0
  let v219_r0 : BitVec 32 := Scalar.addi c0_i32_133_r0 v218_r0
  v219_r0.toNat
def k0_cond50 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_114_r0 : BitVec 32 := 1#32
  let v197_r0 : BitVec 1 := Scalar.cmpi .ne v2 c1_i32_114_r0
  let v198_r0 : BitVec 32 := Scalar.extui v197_r0
  let c0_i32_115_r0 : BitVec 32 := 0#32
  let v199_r0 : BitVec 1 := Scalar.cmpi .ne v198_r0 c0_i32_115_r0
  v199_r0

def k0_dev33 : Nat :=
  let c0_i32_133_r0 : BitVec 32 := 0#32
  let c1_i32_131_r0 : BitVec 32 := 1#32
  let c1_i32_132_r0 : BitVec 32 := 1#32
  let v218_r0 : BitVec 32 := Scalar.muli c1_i32_131_r0 c1_i32_132_r0
  let v219_r0 : BitVec 32 := Scalar.addi c0_i32_133_r0 v218_r0
  v219_r0.toNat
def k0_cond51 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_116_r0 : BitVec 32 := 2#32
  let v200_r0 : BitVec 1 := Scalar.cmpi .ne v2 c2_i32_116_r0
  let v201_r0 : BitVec 32 := Scalar.extui v200_r0
  let c0_i32_117_r0 : BitVec 32 := 0#32
  let v202_r0 : BitVec 1 := Scalar.cmpi .ne v201_r0 c0_i32_117_r0
  v202_r0

def k0_dev34 : Nat :=
  let c0_i32_133_r0 : BitVec 32 := 0#32
  let c2_i32_131_r0 : BitVec 32 := 2#32
  let c1_i32_132_r0 : BitVec 32 := 1#32
  let v218_r0 : BitVec 32 := Scalar.muli c2_i32_131_r0 c1_i32_132_r0
  let v219_r0 : BitVec 32 := Scalar.addi c0_i32_133_r0 v218_r0
  v219_r0.toNat
def k0_cond52 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_118_r0 : BitVec 32 := 3#32
  let v203_r0 : BitVec 1 := Scalar.cmpi .ne v2 c3_i32_118_r0
  let v204_r0 : BitVec 32 := Scalar.extui v203_r0
  let c0_i32_119_r0 : BitVec 32 := 0#32
  let v205_r0 : BitVec 1 := Scalar.cmpi .ne v204_r0 c0_i32_119_r0
  v205_r0

def k0_dev35 : Nat :=
  let c0_i32_133_r0 : BitVec 32 := 0#32
  let c3_i32_131_r0 : BitVec 32 := 3#32
  let c1_i32_132_r0 : BitVec 32 := 1#32
  let v218_r0 : BitVec 32 := Scalar.muli c3_i32_131_r0 c1_i32_132_r0
  let v219_r0 : BitVec 32 := Scalar.addi c0_i32_133_r0 v218_r0
  v219_r0.toNat
def k0_cond53 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_120_r0 : BitVec 32 := 4#32
  let v206_r0 : BitVec 1 := Scalar.cmpi .ne v2 c4_i32_120_r0
  let v207_r0 : BitVec 32 := Scalar.extui v206_r0
  let c0_i32_121_r0 : BitVec 32 := 0#32
  let v208_r0 : BitVec 1 := Scalar.cmpi .ne v207_r0 c0_i32_121_r0
  v208_r0

def k0_dev36 : Nat :=
  let c0_i32_133_r0 : BitVec 32 := 0#32
  let c4_i32_131_r0 : BitVec 32 := 4#32
  let c1_i32_132_r0 : BitVec 32 := 1#32
  let v218_r0 : BitVec 32 := Scalar.muli c4_i32_131_r0 c1_i32_132_r0
  let v219_r0 : BitVec 32 := Scalar.addi c0_i32_133_r0 v218_r0
  v219_r0.toNat
def k0_cond54 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_122_r0 : BitVec 32 := 5#32
  let v209_r0 : BitVec 1 := Scalar.cmpi .ne v2 c5_i32_122_r0
  let v210_r0 : BitVec 32 := Scalar.extui v209_r0
  let c0_i32_123_r0 : BitVec 32 := 0#32
  let v211_r0 : BitVec 1 := Scalar.cmpi .ne v210_r0 c0_i32_123_r0
  v211_r0

def k0_dev37 : Nat :=
  let c0_i32_133_r0 : BitVec 32 := 0#32
  let c5_i32_131_r0 : BitVec 32 := 5#32
  let c1_i32_132_r0 : BitVec 32 := 1#32
  let v218_r0 : BitVec 32 := Scalar.muli c5_i32_131_r0 c1_i32_132_r0
  let v219_r0 : BitVec 32 := Scalar.addi c0_i32_133_r0 v218_r0
  v219_r0.toNat
def k0_cond55 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_124_r0 : BitVec 32 := 6#32
  let v212_r0 : BitVec 1 := Scalar.cmpi .ne v2 c6_i32_124_r0
  let v213_r0 : BitVec 32 := Scalar.extui v212_r0
  let c0_i32_125_r0 : BitVec 32 := 0#32
  let v214_r0 : BitVec 1 := Scalar.cmpi .ne v213_r0 c0_i32_125_r0
  v214_r0

def k0_dev38 : Nat :=
  let c0_i32_133_r0 : BitVec 32 := 0#32
  let c6_i32_131_r0 : BitVec 32 := 6#32
  let c1_i32_132_r0 : BitVec 32 := 1#32
  let v218_r0 : BitVec 32 := Scalar.muli c6_i32_131_r0 c1_i32_132_r0
  let v219_r0 : BitVec 32 := Scalar.addi c0_i32_133_r0 v218_r0
  v219_r0.toNat
def k0_cond56 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_126_r0 : BitVec 32 := 7#32
  let v215_r0 : BitVec 1 := Scalar.cmpi .ne v2 c7_i32_126_r0
  let v216_r0 : BitVec 32 := Scalar.extui v215_r0
  let c0_i32_127_r0 : BitVec 32 := 0#32
  let v217_r0 : BitVec 1 := Scalar.cmpi .ne v216_r0 c0_i32_127_r0
  v217_r0

def k0_dev39 : Nat :=
  let c0_i32_133_r0 : BitVec 32 := 0#32
  let c7_i32_131_r0 : BitVec 32 := 7#32
  let c1_i32_132_r0 : BitVec 32 := 1#32
  let v218_r0 : BitVec 32 := Scalar.muli c7_i32_131_r0 c1_i32_132_r0
  let v219_r0 : BitVec 32 := Scalar.addi c0_i32_133_r0 v218_r0
  v219_r0.toNat
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x1024x1024 : Shape := ⟨3, ![1, 1024, 1024]⟩
abbrev S1024x1024 : Shape := ⟨2, ![1024, 1024]⟩
abbrev S1x8192x8x128 : Shape := ⟨4, ![1, 8192, 8, 128]⟩
abbrev S1x1024x8x128 : Shape := ⟨4, ![1, 1024, 8, 128]⟩
abbrev S1024 : Shape := ⟨1, ![1024]⟩
abbrev S1024x1 : Shape := ⟨2, ![1024, 1]⟩
abbrev S8192 : Shape := ⟨1, ![8192]⟩
abbrev S1x8192 : Shape := ⟨2, ![1, 8192]⟩
abbrev S1024x8192 : Shape := ⟨2, ![1024, 8192]⟩
abbrev S_ : Shape := ⟨0, ![]⟩
abbrev S1x8x1024x8192 : Shape := ⟨4, ![1, 8, 1024, 8192]⟩
abbrev S1x1x1024x8192 : Shape := ⟨4, ![1, 1, 1024, 8192]⟩
abbrev S1x8x1024 : Shape := ⟨3, ![1, 8, 1024]⟩
abbrev S1x8x1024x1 : Shape := ⟨4, ![1, 8, 1024, 1]⟩
abbrev S1x1x1024x1 : Shape := ⟨4, ![1, 1, 1024, 1]⟩
abbrev S1x8x128x1024 : Shape := ⟨4, ![1, 8, 128, 1024]⟩

abbrev nBuf : Space → Nat
  | .hbm => 67
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x8192x8x128, .f32⟩
  | .hbm, ⟨3, _⟩ => ⟨S1x8192x8x128, .f32⟩
  | .hbm, ⟨4, _⟩ => ⟨S1024x1024, .f32⟩
  | .hbm, ⟨5, _⟩ => ⟨S1x1024x1024, .f32⟩
  | .hbm, ⟨6, _⟩ => ⟨S1x1024x8x128, .f32⟩
  | .hbm, ⟨7, _⟩ => ⟨S1024, .i32⟩
  | .hbm, ⟨8, _⟩ => ⟨S1024x1, .i32⟩
  | .hbm, ⟨9, _⟩ => ⟨S8192, .i32⟩
  | .hbm, ⟨10, _⟩ => ⟨S1x8192, .i32⟩
  | .hbm, ⟨11, _⟩ => ⟨S1024x8192, .i32⟩
  | .hbm, ⟨12, _⟩ => ⟨S1024x8192, .i32⟩
  | .hbm, ⟨13, _⟩ => ⟨S1024x8192, .i32⟩
  | .hbm, ⟨14, _⟩ => ⟨S1024x8192, .i32⟩
  | .hbm, ⟨15, _⟩ => ⟨S_, .i32⟩
  | .hbm, ⟨16, _⟩ => ⟨S1024x8192, .i32⟩
  | .hbm, ⟨17, _⟩ => ⟨S1024x8192, .i1⟩
  | .hbm, ⟨18, _⟩ => ⟨S_, .i32⟩
  | .hbm, ⟨19, _⟩ => ⟨S1x8192, .i32⟩
  | .hbm, ⟨20, _⟩ => ⟨S1x8192, .i1⟩
  | .hbm, ⟨21, _⟩ => ⟨S_, .i32⟩
  | .hbm, ⟨22, _⟩ => ⟨S1024x1, .i32⟩
  | .hbm, ⟨23, _⟩ => ⟨S1024x1, .i1⟩
  | .hbm, ⟨24, _⟩ => ⟨S1024x8192, .i1⟩
  | .hbm, ⟨25, _⟩ => ⟨S1024x8192, .i1⟩
  | .hbm, ⟨26, _⟩ => ⟨S1024x8192, .i1⟩
  | .hbm, ⟨27, _⟩ => ⟨S1024x8192, .i1⟩
  | .hbm, ⟨28, _⟩ => ⟨S1x8x1024x8192, .f32⟩
  | .hbm, ⟨29, _⟩ => ⟨S_, .f32⟩
  | .hbm, ⟨30, _⟩ => ⟨S1x8x1024x8192, .f32⟩
  | .hbm, ⟨31, _⟩ => ⟨S1x8x1024x8192, .f32⟩
  | .hbm, ⟨32, _⟩ => ⟨S1x1x1024x8192, .i1⟩
  | .hbm, ⟨33, _⟩ => ⟨S_, .f32⟩
  | .hbm, ⟨34, _⟩ => ⟨S_, .f32⟩
  | .hbm, ⟨35, _⟩ => ⟨S1x8x1024x8192, .i1⟩
  | .hbm, ⟨36, _⟩ => ⟨S1x8x1024x8192, .f32⟩
  | .hbm, ⟨37, _⟩ => ⟨S1x8x1024x8192, .f32⟩
  | .hbm, ⟨38, _⟩ => ⟨S_, .f32⟩
  | .hbm, ⟨39, _⟩ => ⟨S1x8x1024, .f32⟩
  | .hbm, ⟨40, _⟩ => ⟨S1x8x1024x1, .f32⟩
  | .hbm, ⟨41, _⟩ => ⟨S1x8x1024x8192, .f32⟩
  | .hbm, ⟨42, _⟩ => ⟨S1x8x1024x8192, .f32⟩
  | .hbm, ⟨43, _⟩ => ⟨S1x8x1024x8192, .f32⟩
  | .hbm, ⟨44, _⟩ => ⟨S_, .i1⟩
  | .hbm, ⟨45, _⟩ => ⟨S1024, .i1⟩
  | .hbm, ⟨46, _⟩ => ⟨S1x1x1024x1, .i1⟩
  | .hbm, ⟨47, _⟩ => ⟨S_, .f32⟩
  | .hbm, ⟨48, _⟩ => ⟨S1x8x1024, .f32⟩
  | .hbm, ⟨49, _⟩ => ⟨S1x8x1024x1, .f32⟩
  | .hbm, ⟨50, _⟩ => ⟨S_, .f32⟩
  | .hbm, ⟨51, _⟩ => ⟨S_, .f32⟩
  | .hbm, ⟨52, _⟩ => ⟨S1x8x1024x1, .i1⟩
  | .hbm, ⟨53, _⟩ => ⟨S1x8x1024x1, .f32⟩
  | .hbm, ⟨54, _⟩ => ⟨S1x8x1024x1, .f32⟩
  | .hbm, ⟨55, _⟩ => ⟨S1x8x1024x8192, .f32⟩
  | .hbm, ⟨56, _⟩ => ⟨S1x8x1024x8192, .f32⟩
  | .hbm, ⟨57, _⟩ => ⟨S1x1x1024x1, .i1⟩
  | .hbm, ⟨58, _⟩ => ⟨S_, .f32⟩
  | .hbm, ⟨59, _⟩ => ⟨S_, .f32⟩
  | .hbm, ⟨60, _⟩ => ⟨S1x8x1024x8192, .i1⟩
  | .hbm, ⟨61, _⟩ => ⟨S1x8x1024x8192, .f32⟩
  | .hbm, ⟨62, _⟩ => ⟨S1x8x1024x8192, .f32⟩
  | .hbm, ⟨63, _⟩ => ⟨S1x8x128x1024, .f32⟩
  | .hbm, ⟨64, _⟩ => ⟨S1x1024x8x128, .f32⟩
  | .hbm, ⟨65, _⟩ => ⟨S1x1024x1024, .f32⟩
  | .hbm, ⟨66, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== Proof.Cells.lean ====
/-
  The cells of the kernel's protocol, the buffers they hand over, and the schedule of who pays what to which cell.

  Every device signals every other device once on its barrier semaphore, and again on a second semaphore at the end;
  device 0 sends each other device a partial attention result; each other device sends device 0 its contribution to the
  32 global query rows; device 1 sends device 7 its contribution to the last query block; at the end each device sends its
  128 finished rows to every other one. One round of duties on each cell; a duty is named by the device that pays it.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic
public import Idealize.ShloMosaic.Lib.Rounds
public import Idealize.ShloMosaic.Lib.Ring
public import Idealize.ShloMosaic.Lib.VecWindow
public import Idealize.ShloMosaic.Lib.Transfers
public import Idealize.ShloMosaic.Lib.Pipeline.RegionTalk

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- A duty is named by the device that pays it. -/
abbrev Duty : Type := Dev nD
abbrev UU : Type := UR sig nD τ × URounds (GSem nD τ sig) Duty

local notation "𝕄" => MT nD τ sig Unit (Elt F) ℕ UU ℕ

abbrev EP : Emb (UR sig nD τ) (MT nD τ sig Unit (Elt F) ℕ UU ℕ) := embL
abbrev ER : Emb (URounds (GSem nD τ sig) Duty) (MT nD τ sig Unit (Elt F) ℕ UU ℕ) := embR

/-! ## Buffers -/

/-- The partial results device 0 stages, the global rows' contribution, the last block's, what arrives of each, the sum,
    and the finished rows sent and received. -/
abbrev psM : Memref sig .tc .vmem S7x128x1152 .bf16 := Memref.whole cc0_scratch0
abbrev p32M : Memref sig .tc .vmem S32x1152 .bf16 := Memref.whole cc0_scratch1
abbrev pxM : Memref sig .tc .vmem S128x1152 .bf16 := Memref.whole cc0_scratch2
abbrev c0M : Memref sig .tc .vmem S7x32x1152 .bf16 := Memref.whole cc0_scratch3
abbrev cxM : Memref sig .tc .vmem S2x128x1152 .bf16 := Memref.whole cc0_scratch4
abbrev bsM : Memref sig .tc .vmem S128x1152 .f32 := Memref.whole cc0_scratch5
abbrev agM : Memref sig .tc .vmem S128x1024 .bf16 := Memref.whole cc0_scratch6
abbrev adM : Memref sig .tc .vmem S8x128x1024 .bf16 := Memref.whole cc0_scratch7

theorem inbPs (k : ℕ) (hk : k < 7) : ∀ a, (![k, 0, 0] : Fin 3 → ℕ) a + S1x128x1152.size a ≤ S7x128x1152.size a := by
  intro a; fin_cases a <;> simp [Shape.size] <;> omega
theorem inbC0 (k : ℕ) (hk : k < 7) : ∀ a, (![k, 0, 0] : Fin 3 → ℕ) a + S1x32x1152.size a ≤ S7x32x1152.size a := by
  intro a; fin_cases a <;> simp [Shape.size] <;> omega
theorem inbCx (k : ℕ) (hk : k < 2) : ∀ a, (![k, 0, 0] : Fin 3 → ℕ) a + S1x128x1152.size a ≤ S2x128x1152.size a := by
  intro a; fin_cases a <;> simp [Shape.size] <;> omega
theorem inbAd (k : ℕ) (hk : k < 8) : ∀ a, (![k, 0, 0] : Fin 3 → ℕ) a + S1x128x1024.size a ≤ S8x128x1024.size a := by
  intro a; fin_cases a <;> simp [Shape.size] <;> omega

/-- Slot `k` of each buffer that is held slot by slot. -/
abbrev psS (k : ℕ) (hk : k < 7) : Memref sig .tc .vmem S1x128x1152 .bf16 :=
  psM.slice (Rect.unit (s := S7x128x1152) ![k, 0, 0] S1x128x1152.size (inbPs k hk)) (fun _ => rfl)
abbrev c0S (k : ℕ) (hk : k < 7) : Memref sig .tc .vmem S1x32x1152 .bf16 :=
  c0M.slice (Rect.unit (s := S7x32x1152) ![k, 0, 0] S1x32x1152.size (inbC0 k hk)) (fun _ => rfl)
abbrev cxS (k : ℕ) (hk : k < 2) : Memref sig .tc .vmem S1x128x1152 .bf16 :=
  cxM.slice (Rect.unit (s := S2x128x1152) ![k, 0, 0] S1x128x1152.size (inbCx k hk)) (fun _ => rfl)
abbrev adS (k : ℕ) (hk : k < 8) : Memref sig .tc .vmem S1x128x1024 .bf16 :=
  adM.slice (Rect.unit (s := S8x128x1024) ![k, 0, 0] S1x128x1024.size (inbAd k hk)) (fun _ => rfl)

/-- Device `c` holds the memref's elements with the values `X`. -/
def has {s : Shape} {e : EltTy} (M : Memref sig .tc .vmem s e) (c : Dev nD) (q : PosShare TreeShare) (X : s.Idx → Elt F e) : sProp 𝕄 :=
  M.view.loc (c : Thread nD τ) ↦[M.view.set]{q} M.view.rep X
/-- Device `c` holds the memref's elements, whatever they are. -/
def hasAny {s : Shape} {e : EltTy} (M : Memref sig .tc .vmem s e) (c : Dev nD) : sProp 𝕄 :=
  iprop(∃ f, M.view.loc (c : Thread nD τ) ↦[M.view.set]{fullShare} f)

theorem pred_lt (d : Dev nD) : d.val - 1 < 7 := by
  have h : d.val < 8 := d.isLt
  omega

/-! ## What travels -/

/-- The values the devices send: device 0's seven partial results, each device's contribution to the global rows, device 1's
    contribution to the last block, each device's finished rows. -/
structure Vals (F : FTy → Type) where
  ps : ℕ → S1x128x1152.Idx → Elt F .bf16
  p32 : Dev nD → S32x1152.Idx → Elt F .bf16
  px : S128x1152.Idx → Elt F .bf16
  ag : Dev nD → S128x1024.Idx → Elt F .bf16

/-- The same values with a leading axis of one. -/
def lead {s s' : Shape} {e : EltTy} (h : s.Squeezes s') (X : s'.Idx → Elt F e) : s.Idx → Elt F e :=
  fun y => X ((Shape.reshapeEquiv h.numel_eq).symm y)

/-! ## The schedule -/

/-- Units a copy of 32, of 128 rows of a partial result, of 128 finished rows completes with. -/
@[irreducible] def N32 : ℕ := p32M.view.dmaCredit
@[irreducible] def N128 : ℕ := pxM.view.dmaCredit
@[irreducible] def NO : ℕ := agM.view.dmaCredit

theorem N32_pos : 0 < N32 := by
  unfold N32; exact View.dmaCredit_pos _ (by decide)
theorem N128_pos : 0 < N128 := by
  unfold N128; exact View.dmaCredit_pos _ (by decide)
theorem NO_pos : 0 < NO := by
  unfold NO; exact View.dmaCredit_pos _ (by decide)

/-- Who pays DMA semaphore `k` of device `d`. -/
def dmaPayer (d p : Dev nD) (k : ℕ) : Prop :=
  (6 ≤ k ∧ k < 13 ∧ d = 0 ∧ p.val = k - 5) ∨ (k = 13 ∧ d ≠ 0 ∧ p = 0) ∨ (k = 14 ∧ d = 7 ∧ p = 1)
  ∨ (15 ≤ k ∧ k < 22 ∧ d = 0 ∧ p = 0) ∨ (k = 22 ∧ d ≠ 0 ∧ p = d) ∨ (k = 23 ∧ d = 1 ∧ p = 1)
  ∨ (24 ≤ k ∧ k < 32 ∧ d.val ≠ k - 24 ∧ p = d) ∨ (32 ≤ k ∧ k < 40 ∧ p.val = k - 32 ∧ p ≠ d)
instance (d p : Dev nD) (k : ℕ) : Decidable (dmaPayer d p k) := by unfold dmaPayer; infer_instance

def payers (d : Dev nD) : SemLoc sig → Finset (Dev nD)
  | .reg _ => Finset.univ.erase d
  | .dma s => Finset.univ.filter fun p => dmaPayer d p s.val

def amt : SemLoc sig → ℕ
  | .reg _ => 1
  | .dma s => if s.val < 13 ∨ s.val = 22 then N32 else if s.val < 24 then N128 else NO

theorem amt_pos (s : SemLoc sig) : 0 < amt s := by
  cases s with
  | reg _ => exact Nat.one_pos
  | dma s =>
    show 0 < if s.val < 13 ∨ s.val = 22 then N32 else if s.val < 24 then N128 else NO
    by_cases h : s.val < 13 ∨ s.val = 22
    · rw [if_pos h]; exact N32_pos
    · rw [if_neg h]
      by_cases h : s.val < 24
      · rw [if_pos h]; exact N128_pos
      · rw [if_neg h]; exact NO_pos

abbrev barCell (c : Dev nD) : GSem nD τ sig := ((c : Thread nD τ), .reg ⟨0, by decide⟩)
abbrev endCell (c : Dev nD) : GSem nD τ sig := ((c : Thread nD τ), .reg ⟨1, by decide⟩)
abbrev dmaCell (c : Dev nD) (k : ℕ) (hk : k < 40) : GSem nD τ sig := ((c : Thread nD τ), .dma ⟨k, hk⟩)

/-- The kernel's own scoped semaphores: the second regular one and the DMA ones past the staging. -/
def osem : Fin 35 → SemLoc sig := fun k => if h : k.val < 34 then .dma ⟨k.val + 6, by show _ < 40; omega⟩ else .reg ⟨1, by decide⟩

/-- Round 0 of each of a device's scoped cells is reached. -/
def reachedAll (p : Dev nD) : sProp 𝕄 := bigSep Finset.univ fun k : Fin 35 => reached ER (((p : Thread nD τ), osem k) : GSem nD τ sig) 0

/-- What `p`'s barrier signal to `d` hands over: the buffers on `p` that `d` is going to fill, and that `p`'s cells are open. -/
def barPay (d p : Dev nD) : sProp 𝕄 :=
  iprop(reachedAll p ∗ hasAny (adS d.val d.isLt) p ∗ (if d = 0 then hasAny (cxS 0 (by decide)) p else iprop(emp))
    ∗ (if p = 0 ∧ d ≠ 0 then hasAny (c0S (d.val - 1) (pred_lt d)) p else iprop(emp))
    ∗ (if d = 1 ∧ p = 7 then hasAny (cxS 1 (by decide)) p else iprop(emp)))

variable (vs : Vals F)

def dmaPay (d p : Dev nD) (k : ℕ) : sProp 𝕄 :=
  if h : k < 6 then iprop(emp)
  else if h : k < 13 then has (c0S (k - 6) (by omega)) d fullShare (lead squeezes_S1x32x1152_S32x1152 (vs.p32 p))
  else if k = 13 then has (cxS 0 (by decide)) d fullShare (vs.ps (d.val - 1))
  else if k = 14 then has (cxS 1 (by decide)) d fullShare (lead squeezes_S1x128x1152_S128x1152 vs.px)
  else if h : k < 22 then has (psS (k - 15) (by omega)) d fullShare (vs.ps (k - 15))
  else if k = 22 then has p32M d fullShare (vs.p32 d)
  else if k = 23 then has pxM d fullShare vs.px
  else if k < 32 then has agM d (Transfers.shareTokN fullShare (k - 24)) (vs.ag d)
  else if h : k < 40 then has (adS (k - 32) (by omega)) d fullShare (lead squeezes_S1x128x1024_S128x1024 (vs.ag p))
  else iprop(emp)

def pay (d p : Dev nD) : SemLoc sig → sProp 𝕄
  | .reg s => if s.val = 0 then barPay d p else iprop(emp)
  | .dma s => dmaPay vs d p s.val

def Rd : Rounds.Schedule (GSem nD τ sig) Duty 𝕄 where
  duties g r := if r = 0 ∧ g.1.2 = .tc then payers g.1.1 g.2 else ∅
  unitless _ := False
  amount g _ _ := amt g.2
  payload g _ p := pay vs g.1.1 p g.2
  amount_pos g _ _ _ := amt_pos g.2

instance has_storable {s : Shape} {e : EltTy} (M : Memref sig .tc .vmem s e) (c : Dev nD) (q : PosShare TreeShare) (X : s.Idx → Elt F e) :
    BI.Storable (upEmb : UEmb _ 𝕄) (has M c q X) := by unfold has; infer_instance
instance hasAny_storable {s : Shape} {e : EltTy} (M : Memref sig .tc .vmem s e) (c : Dev nD) :
    BI.Storable (upEmb : UEmb _ 𝕄) (hasAny (F := F) M c) := by unfold hasAny; infer_instance
instance reachedAll_storable (p : Dev nD) : BI.Storable (upEmb : UEmb _ 𝕄) (reachedAll (F := F) p) := by
  unfold reachedAll; infer_instance
theorem ite_storable {p : Prop} [Decidable p] {A B : sProp 𝕄} (hA : BI.Storable (upEmb : UEmb _ 𝕄) A) (hB : BI.Storable (upEmb : UEmb _ 𝕄) B) :
    BI.Storable (upEmb : UEmb _ 𝕄) (if p then A else B) := by
  by_cases h : p
  · rw [if_pos h]; exact hA
  · rw [if_neg h]; exact hB
theorem dite_storable {p : Prop} [Decidable p] {A : p → sProp 𝕄} {B : ¬p → sProp 𝕄} (hA : ∀ h, BI.Storable (upEmb : UEmb _ 𝕄) (A h))
    (hB : ∀ h, BI.Storable (upEmb : UEmb _ 𝕄) (B h)) : BI.Storable (upEmb : UEmb _ 𝕄) (if h : p then A h else B h) := by
  by_cases h : p
  · rw [dif_pos h]; exact hA h
  · rw [dif_neg h]; exact hB h

instance barPay_storable (d p : Dev nD) : BI.Storable (upEmb : UEmb _ 𝕄) (barPay (F := F) d p) := by
  have h1 := ite_storable (p := d = 0) (B := iprop(emp)) (hasAny_storable (F := F) (cxS 0 (by decide)) p) inferInstance
  have h2 := ite_storable (p := p = 0 ∧ d ≠ 0) (B := iprop(emp)) (hasAny_storable (F := F) (c0S (d.val - 1) (pred_lt d)) p) inferInstance
  have h3 := ite_storable (p := d = 1 ∧ p = 7) (B := iprop(emp)) (hasAny_storable (F := F) (cxS 1 (by decide)) p) inferInstance
  unfold barPay; infer_instance
instance dmaPay_storable (d p : Dev nD) (k : ℕ) : BI.Storable (upEmb : UEmb _ 𝕄) (dmaPay vs d p k) := by
  unfold dmaPay
  exact dite_storable (fun _ => inferInstance) fun _ => dite_storable (fun _ => has_storable ..) fun _ =>
    ite_storable (has_storable ..) <| ite_storable (has_storable ..) <| dite_storable (fun _ => has_storable ..) fun _ =>
    ite_storable (has_storable ..) <| ite_storable (has_storable ..) <| ite_storable (has_storable ..) <|
    dite_storable (fun _ => has_storable ..) fun _ => inferInstance
instance pay_storable (d p : Dev nD) (s : SemLoc sig) : BI.Storable (upEmb : UEmb _ 𝕄) (pay vs d p s) := by
  cases s with
  | reg s => unfold pay; dsimp only; split <;> infer_instance
  | dma s => unfold pay; infer_instance
instance Rd_storable (g : GSem nD τ sig) (r : ℕ) (p : Duty) : BI.Storable (upEmb : UEmb _ 𝕄) ((Rd vs).payload g r p) :=
  pay_storable vs g.1.1 p g.2

theorem duties_eq (c : Dev nD) (s : SemLoc sig) : (Rd vs).duties ((c : Thread nD τ), s) 0 = payers c s := by
  show (if (0 : ℕ) = 0 ∧ (c : Thread nD τ).2 = .tc then payers c s else ∅) = _
  exact if_pos ⟨rfl, rfl⟩
theorem duties_later (g : GSem nD τ sig) : ∀ r, 1 ≤ r → (Rd vs).duties g r = ∅ := fun r hr => if_neg fun h => by omega
theorem amount_eq (g : GSem nD τ sig) (r : ℕ) (p : Duty) : (Rd vs).amount g r p = amt g.2 := rfl
theorem payload_eq (c : Dev nD) (s : SemLoc sig) (r : ℕ) (p : Duty) : (Rd vs).payload ((c : Thread nD τ), s) r p = pay vs c p s := rfl
theorem expect_eq (c : Dev nD) (s : SemLoc sig) : (Rd vs).expect ((c : Thread nD τ), s) 0 = (payers c s).card * amt s := by
  unfold Schedule.expect Schedule.amountOf
  rw [duties_eq, Finset.sum_congr rfl (fun p _ => amount_eq vs _ 0 p), Finset.sum_const, smul_eq_mul]

/-! ## Levels -/

/-- barrier 1, the partial results' arrivals 2, the finished rows' arrivals 3, the last semaphore 4; sends and staging 0. -/
def lev : SemLoc sig → ℕ
  | .reg s => if s.val = 0 then 1 else 4
  | .dma s => if s.val < 6 then 0 else if s.val < 15 then 2 else if s.val < 32 then 0 else 3
def L (g : GSem nD τ sig) : Finset Unit := if g.1.2 = .tc then {()} else ∅
def lv (g : GSem nD τ sig) (_ : Unit) : ℕ := lev g.2
theorem L_of_ne (g : GSem nD τ sig) (h : g.1.2 ≠ .tc) : L g = ∅ := if_neg h
theorem L_tc (c : Dev nD) (sm : SemLoc sig) : L ((c : Thread nD τ), sm) = {()} := if_pos rfl

end Cert.KernelIdeal.Fused

end
-- ==== Proof.Steps.lean ====
/-
  One remote operation at a time: a signal, a copy to another device, a wait on one of the device's own cells — and the
  shape all the kernel's unrolled loops over the other devices have: step `i` does something when `i` is another device.
-/
module

public import proofs.«01_k».proof.Proof.Cells

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

/-- The body's program type, and its weakest precondition on device `c`. -/
abbrev PG (F : FTy → Type) (α : Type) : Type 1 := Prog (TpuEff nD τ sig (Elt F) Λ₀ .tc) α
abbrev WP {α : Type} (c : Dev nD) (p : PG F α) (Q : α → sProp 𝕄) : sProp 𝕄 :=
  wp frame (wpE (defs₀ (F := F)) 𝒱₀ (c : Thread nD τ) none) Set.univ p Q

/-! ## What every device may consult -/

theorem osem_inj : Function.Injective osem := by decide
def barEmb : Dev nD ↪ GSem nD τ sig := ⟨fun c => barCell c, fun _ _ h => congrArg (fun g : GSem nD τ sig => g.1.1) h⟩
def scEmb : Dev nD × Fin 35 ↪ GSem nD τ sig :=
  ⟨fun ck => ((ck.1 : Thread nD τ), osem ck.2), fun _ _ h =>
    Prod.ext (congrArg (fun g : GSem nD τ sig => g.1.1) h) (osem_inj (congrArg Prod.snd h))⟩
/-- The barrier cells, and the cells of the kernel's scoped semaphores. -/
abbrev barCells : Finset (GSem nD τ sig) := Finset.univ.map barEmb
abbrev scCells : Finset (GSem nD τ sig) := Finset.univ.map scEmb

variable (vs : Vals F) (K : GSem nD τ sig → ℕ)

/-- All the cells' invariants, that every barrier cell is open, and the cells' levels. -/
def World : sProp 𝕄 :=
  iprop((bigSep (barCells ∪ scCells) fun g => cellInv ER (Rd vs) (K g) g) ∗ (bigSep barCells fun g => reached ER g 0) ∗ levAts L lv)

instance World_persistent : BI.Persistent (World vs K) := by unfold World; infer_instance

theorem at_mem {ι : Type} [DecidableEq ι] {s : Finset ι} {g : ι} {Φ : ι → sProp 𝕄} (hg : g ∈ s) : bigSep s Φ ⊢ Φ g := BI.bigSep_elim hg
theorem take_mem {ι : Type} [DecidableEq ι] {s : Finset ι} {g : ι} {Φ : ι → sProp 𝕄} (hg : g ∈ s) :
    bigSep s Φ = iprop(Φ g ∗ bigSep (s.erase g) Φ) := BI.bigSep_erase hg

theorem world_inv {g : GSem nD τ sig} (hg : g ∈ (barCells ∪ scCells : Finset (GSem nD τ sig))) :
    World vs K ⊢ cellInv ER (Rd vs) (K g) g := by
  unfold World
  iintro ⟨#H, -⟩
  iapply (at_mem (Φ := fun g => (cellInv ER (Rd vs) (K g) g : sProp 𝕄)) hg); iexact H
theorem world_bar (c : Dev nD) : World vs K ⊢ reached ER (barCell c) 0 := by
  unfold World
  iintro ⟨-, #H, -⟩
  iapply (at_mem (g := barCell c) (Φ := fun g => (reached ER g 0 : sProp 𝕄)) (Finset.mem_map_of_mem barEmb (Finset.mem_univ c))); iexact H
theorem world_lev : World vs K ⊢ levAts L lv := by
  unfold World; iintro ⟨-, -, #H⟩; iexact H

theorem bar_mem (c : Dev nD) : barCell c ∈ (barCells ∪ scCells : Finset (GSem nD τ sig)) :=
  Finset.mem_union_left _ (Finset.mem_map_of_mem barEmb (Finset.mem_univ c))
theorem osem_mem (c : Dev nD) (k : Fin 35) : (((c : Thread nD τ), osem k) : GSem nD τ sig) ∈ (barCells ∪ scCells : Finset (GSem nD τ sig)) :=
  Finset.mem_union_right _ (Finset.mem_map_of_mem scEmb (Finset.mem_univ (c, k)))
theorem osem_end : osem 34 = .reg ⟨1, by decide⟩ := by decide
theorem osem_dma (k : ℕ) (h6 : 6 ≤ k) (hk : k < 40) : osem ⟨k - 6, by omega⟩ = .dma ⟨k, hk⟩ := by
  have : k - 6 < 34 := by omega
  unfold osem; dsimp only; rw [dif_pos this]
  exact congrArg SemLoc.dma (Fin.ext (by show k - 6 + 6 = k; omega))
theorem end_mem (c : Dev nD) : endCell c ∈ (barCells ∪ scCells : Finset (GSem nD τ sig)) := by
  have := osem_mem c 34; rwa [osem_end] at this
theorem dma_mem (c : Dev nD) (k : ℕ) (h6 : 6 ≤ k) (hk : k < 40) : dmaCell c k hk ∈ (barCells ∪ scCells : Finset (GSem nD τ sig)) := by
  have := osem_mem c ⟨k - 6, by omega⟩; rwa [osem_dma k h6 hk] at this

/-- What device `p` owes is owed, whatever it has waited on so far. -/
def owesE (c : Dev nD) (O : CellTallies nD τ sig Unit) : sProp 𝕄 := iprop(∃ W, owes (c : Thread nD τ) O W)

/-- Everything owed sits above the level of the cell waited on. -/
def Above (l : ℕ) (O : CellTallies nD τ sig Unit) : Prop := ∀ (g : GSem nD τ sig) (i : Unit), 0 < O g i → g.1.2 = .tc ∧ l < lev g.2

theorem Above.zero (l : ℕ) : Above l 0 := fun _ _ h => absurd h (Nat.lt_irrefl 0)
theorem Above.add {l : ℕ} {O O' : CellTallies nD τ sig Unit} (h : Above l O) (h' : Above l O') : Above l (O + O') := fun g i hg => by
  rw [Pi.add_apply, Finsupp.add_apply] at hg
  rcases Nat.add_pos_iff_pos_or_pos.mp hg with hg | hg
  · exact h g i hg
  · exact h' g i hg
theorem Above.tally {l : ℕ} (c : Dev nD) (s : SemLoc sig) (n : ℕ) (h : l < lev s) : Above l (tallyAt ((c : Thread nD τ), s) () n) := fun g i hg => by
  rw [tallyAt_apply] at hg
  by_cases h' : g = ((c : Thread nD τ), s) ∧ i = ()
  · rw [h'.1]; exact ⟨rfl, h⟩
  · rw [if_neg h'] at hg; exact absurd hg (Nat.lt_irrefl 0)
theorem Above.sum {l : ℕ} {ι : Type} (s : Finset ι) (f : ι → CellTallies nD τ sig Unit) (h : ∀ i ∈ s, Above l (f i)) : Above l (∑ i ∈ s, f i) := by
  classical
  induction s using Finset.induction_on with
  | empty => rw [Finset.sum_empty]; exact Above.zero l
  | insert a s ha ih =>
    rw [Finset.sum_insert ha]
    exact (h a (Finset.mem_insert_self a s)).add (ih fun i hi => h i (Finset.mem_insert_of_mem hi))

theorem Above.may {c : Dev nD} {s : SemLoc sig} {O : CellTallies nD τ sig Unit} (h : Above (lev s) O) :
    (levAts L lv : sProp 𝕄) ⊢ MayWait (c : Thread nD τ) s () O :=
  Pipeline.mayWait_of_levAts (by rw [L_tc]; exact Finset.mem_singleton_self _) fun g i hg => by
    obtain ⟨h1, h2⟩ := h g i hg
    exact ⟨by unfold L; rw [if_pos h1]; exact Finset.mem_singleton_self _, h2⟩

variable (c : Dev nD)

/-! ## One operation -/

/-- WAIT for all a cell expects: the payloads of its payers, and the cell's round is over. -/
theorem wait_cell {w : TpuEff nD τ sig (Elt F) Λ₀ .tc PUnit} {α : Type} {sm : SemLoc sig} {n : ℕ} {k : PUnit → PG F α} {Q : α → sProp 𝕄}
    (hw : ∀ K : PUnit → sProp 𝕄, wpE (defs₀ (F := F)) 𝒱₀ (c : Thread nD τ) none Set.univ w K = waitSpec (c : Thread nD τ) Set.univ sm n K)
    (O : CellTallies nD τ sig Unit) (hO : Above (lev sm) O) (hn : n = (payers c sm).card * amt sm)
    (hm : (((c : Thread nD τ), sm) : GSem nD τ sig) ∈ (barCells ∪ scCells : Finset (GSem nD τ sig))) :
    iprop(World vs K ∗ cred (tallyAt (((c : Thread nD τ), sm) : GSem nD τ sig) () n) ∗ owesE c O ∗ atPos ER (((c : Thread nD τ), sm) : GSem nD τ sig) 0 ∅ 0)
      ⊢ iprop(((owesE c O ∗ atPos ER (((c : Thread nD τ), sm) : GSem nD τ sig) 1 ∅ 0 ∗ bigSep (payers c sm) (fun p => pay vs c p sm)) -∗ WP c (k ⟨⟩) Q)
          -∗ WP c (.op w k) Q) := by
  unfold owesE
  iintro ⟨#HW, Hc, ⟨%W, HO⟩, Hat⟩ Hk
  iapply (Rounds.wp_wait_rest_token 𝒱₀ ER (Rd vs) (c : Thread nD τ) none (κ := K ((c : Thread nD τ), sm)) hw (Set.mem_univ _) () (O := O) (W := W)
    (R := 0) (m := 0) (T := ∅) ((Nat.zero_add n).trans (hn.trans (expect_eq vs c sm).symm))) $$ [Hc HO Hat]
  · isplitr; · iapply (world_inv vs K hm); iexact HW
    isplitl [Hc]; · iexact Hc
    isplitl [HO]; · iexact HO
    isplitr; · iapply (Above.may (c := c) hO); iapply (world_lev vs K); iexact HW
    iexact Hat
  iintro ⟨HO, Hat, -, Hp⟩
  iapply Hk
  isplitl [HO]; · iexists _; iexact HO
  isplitl [Hat]; · iexact Hat
  rw [Finset.sdiff_empty, duties_eq]
  iexact Hp

/-- SIGNAL another device's cell one unit. -/
theorem sig_cell {α : Type} {p : Dev nD} (s : Sem sig) {k : PUnit → PG F α} {Q : α → sProp 𝕄} (hne : c ≠ p) (O : CellTallies nD τ sig Unit)
    (hm : (((p : Thread nD τ), .reg s) : GSem nD τ sig) ∈ (barCells ∪ scCells : Finset (GSem nD τ sig))) :
    iprop(World vs K ∗ owesE c (O + tallyAt (((p : Thread nD τ), .reg s) : GSem nD τ sig) () 1) ∗ dutyTok ER (((p : Thread nD τ), .reg s) : GSem nD τ sig) 0 c
        ∗ pay vs p c (.reg s) ∗ reached ER (((p : Thread nD τ), .reg s) : GSem nD τ sig) 0)
      ⊢ iprop((owesE c O -∗ WP c (k ⟨⟩) Q) -∗ WP c (.op (.semSignal (p : Thread nD τ) s ((1 : ℕ) : ℤ)) k) Q) := by
  unfold owesE
  iintro ⟨#HW, ⟨%W, HO⟩, Ht, Hp, #Hr⟩ Hk
  iapply (Rounds.wp_signal 𝒱₀ ER (Rd vs) (c : Thread nD τ) none (dst := (p : Thread nD τ)) (sem := s) (r := 0) (d := c) (k' := 1) (κ := K ((p : Thread nD τ), .reg s))
      (by rw [duties_eq]; exact Finset.mem_erase.mpr ⟨hne, Finset.mem_univ _⟩) rfl () O rfl (W := W)) $$ [HO Ht Hp]
  · isplitr; · iapply (world_inv vs K hm); iexact HW
    isplitl [HO]; · iexact HO
    isplitl [Ht]; · iexact Ht
    isplitl [Hp]; · rw [payload_eq]; iexact Hp
    iexact Hr
  iintro HO
  iapply Hk
  iexists _; iexact HO

/-- COPY to another device: the source share pays the own send cell, the slot filled pays the other device's cell. -/
theorem send_cell {α : Type} {p : Dev nD} {s : Shape} {e : EltTy} {src dst : Memref sig .tc .vmem s e} (a b : ℕ) (ha : a < 40) (hb : b < 40)
    (ha6 : 6 ≤ a) (hb6 : 6 ≤ b)
    {hsc : dst.view.ref.isScScratch = false} {hsrc : src.view.WordExact} {hdst : dst.view.WordExact}
    {hsem : DmaTarget.Typed .vmem (.dma ⟨b, hb⟩) (.remote (p : Thread nD τ) dst (.dma ⟨a, ha⟩) hsc)}
    {k : PUnit → PG F α} {Q : α → sProp 𝕄} {q : PosShare TreeShare} {fs : Buf (Elt F) (src.view.loc (c : Thread nD τ))} {fd : Buf (Elt F) (dst.view.loc (p : Thread nD τ))}
    (hd₁ : c ∈ payers c (.dma ⟨a, ha⟩)) (hd₂ : c ∈ payers p (.dma ⟨b, hb⟩)) (n : ℕ) (hN : dst.view.dmaCredit = n)
    (hk₁ : amt (.dma ⟨a, ha⟩) = n) (hk₂ : amt (.dma ⟨b, hb⟩) = n) (O : CellTallies nD τ sig Unit)
    (hpay₁ : (src.view.loc (c : Thread nD τ) ↦[src.view.set]{q} fs) ⊢ pay vs c c (.dma ⟨a, ha⟩))
    (hpay₂ : (dst.view.loc (p : Thread nD τ) ↦[dst.view.set]{fullShare} (dst.view.write (Elt F) fd (src.view.read (Elt F) fs) Finset.univ))
      ⊢ pay vs p c (.dma ⟨b, hb⟩)) :
    iprop(World vs K ∗ (src.view.loc (c : Thread nD τ) ↦[src.view.set]{q} fs) ∗ (dst.view.loc (p : Thread nD τ) ↦[dst.view.set]{fullShare} fd)
        ∗ owesE c (O + tallyAt (dmaCell p b hb) () n) ∗ dutyTok ER (dmaCell c a ha) 0 c ∗ reached ER (dmaCell c a ha) 0
        ∗ dutyTok ER (dmaCell p b hb) 0 c ∗ reached ER (dmaCell p b hb) 0)
      ⊢ iprop(((cred (tallyAt (dmaCell c a ha) () n) ∗ owesE c O) -∗ WP c (k ⟨⟩) Q)
        -∗ WP c (.op (.enqueueDma src (.remote (p : Thread nD τ) dst (.dma ⟨a, ha⟩) hsc) (.dma ⟨b, hb⟩) hsrc hdst hsem) k) Q) := by
  unfold owesE
  iintro ⟨#HW, Hs, Hd, ⟨%W, HO⟩, Ht₁, #Hr₁, Ht₂, #Hr₂⟩ Hk
  iapply (Rounds.wp_send_pointsTo 𝒱₀ ER (Rd vs) (c : Thread nD τ) none (c' := (p : Thread nD τ)) (src := src) (dst := dst)
      (sS := .dma ⟨a, ha⟩) (sem := .dma ⟨b, hb⟩) (q := q) (fs := fs) (κ₁ := K (dmaCell c a ha)) (κ₂ := K (dmaCell p b hb))
      (r₁ := 0) (r₂ := 0) (d₁ := c) (d₂ := c) (fd := fd)
      (by rw [duties_eq]; exact hd₁) (by rw [duties_eq]; exact hd₂) () () n hN hk₁ hk₂ O rfl (W := W) hpay₁ hpay₂) $$ [Hs Hd HO Ht₁ Ht₂]
  · isplitr; · iapply (world_inv vs K (dma_mem c a ha6 ha)); iexact HW
    isplitr; · iapply (world_inv vs K (dma_mem p b hb6 hb)); iexact HW
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitl [Hc]; · iexact Hc
  iexists _; iexact HO

/-! ## Families: what is left to do beside what is done -/

/-- At step `i` the members below `i` are `A`, the others still `B`. -/
def fam {n : ℕ} (i : ℕ) (A B : Fin n → sProp 𝕄) : sProp 𝕄 := bigSep Finset.univ fun k : Fin n => if k.val < i then A k else B k

theorem fam_zero {n : ℕ} (A B : Fin n → sProp 𝕄) : fam 0 A B = bigSep Finset.univ B :=
  bigSep_congr fun k _ => if_neg (Nat.not_lt_zero _)
theorem fam_all {n : ℕ} (A B : Fin n → sProp 𝕄) : fam n A B = bigSep Finset.univ A :=
  bigSep_congr fun k _ => if_pos k.isLt

theorem fam_step {n : ℕ} (i : ℕ) (hi : i < n) (A B : Fin n → sProp 𝕄) :
    fam i A B ⊢ iprop(B ⟨i, hi⟩ ∗ (A ⟨i, hi⟩ -∗ fam (i + 1) A B)) := by
  unfold fam
  rw [take_mem (Finset.mem_univ (⟨i, hi⟩ : Fin n)), take_mem (s := Finset.univ) (Φ := fun k : Fin n => if k.val < i + 1 then A k else B k) (Finset.mem_univ (⟨i, hi⟩ : Fin n)),
    if_neg (Nat.lt_irrefl i), if_pos (Nat.lt_succ_self i),
    bigSep_congr (s := Finset.univ.erase (⟨i, hi⟩ : Fin n)) (Φ := fun k : Fin n => if k.val < i + 1 then A k else B k) (Ψ := fun k : Fin n => if k.val < i then A k else B k)
      (fun k hk => by
        have hne : k.val ≠ i := fun h => Finset.ne_of_mem_erase hk (Fin.ext h)
        by_cases h : k.val < i
        · rw [if_pos h, if_pos (by omega)]
        · rw [if_neg h, if_neg (by omega)])]
  iintro ⟨HB, H⟩
  isplitl [HB]; · iexact HB
  iintro HA
  isplitl [HA]; · iexact HA
  iexact H

/-- Nothing for the device itself. -/
def others (c : Dev nD) (X : Dev nD → sProp 𝕄) : Dev nD → sProp 𝕄 := fun p => if p = c then iprop(emp) else X p

theorem fam_others (c : Dev nD) (i : ℕ) (hi : i < 8) (hne : c ≠ ⟨i, hi⟩) (A B : Dev nD → sProp 𝕄) :
    fam i (others c A) (others c B) ⊢ iprop(B ⟨i, hi⟩ ∗ (A ⟨i, hi⟩ -∗ fam (i + 1) (others c A) (others c B))) := by
  have h := fam_step i hi (others c A) (others c B)
  rwa [show others c A ⟨i, hi⟩ = A ⟨i, hi⟩ from if_neg hne.symm, show others c B ⟨i, hi⟩ = B ⟨i, hi⟩ from if_neg hne.symm] at h
theorem fam_self (c : Dev nD) (i : ℕ) (hi : i < 8) (he : c = ⟨i, hi⟩) (A B : Dev nD → sProp 𝕄) :
    fam i (others c A) (others c B) ⊢ fam (i + 1) (others c A) (others c B) := by
  have h := fam_step i hi (others c A) (others c B)
  rw [show others c A ⟨i, hi⟩ = iprop(emp) from if_pos he.symm, show others c B ⟨i, hi⟩ = iprop(emp) from if_pos he.symm] at h
  refine h.trans ?_
  iintro ⟨HB, H⟩
  iapply H; iexact HB

/-- What is still owed from step `i` on. -/
def osum (c : Dev nD) (own : Dev nD → CellTallies nD τ sig Unit) (i : ℕ) : CellTallies nD τ sig Unit :=
  ∑ p : Dev nD, if i ≤ p.val ∧ p ≠ c then own p else 0

theorem osum_step (own : Dev nD → CellTallies nD τ sig Unit) (i : ℕ) (hi : i < 8) (hne : c.val ≠ i) :
    osum c own i = osum c own (i + 1) + own ⟨i, hi⟩ := by
  have hne' : (⟨i, hi⟩ : Dev nD) ≠ c := fun h => hne (by rw [← h])
  unfold osum
  rw [← Finset.sum_erase_add _ _ (Finset.mem_univ (⟨i, hi⟩ : Dev nD)), ← Finset.sum_erase_add (Finset.univ) (fun p : Dev nD => if i + 1 ≤ p.val ∧ p ≠ c then own p else 0) (Finset.mem_univ (⟨i, hi⟩ : Dev nD)),
    if_pos ⟨le_refl i, hne'⟩, if_neg (fun h => absurd h.1 (Nat.not_succ_le_self i)), add_zero]
  refine congrArg (· + own ⟨i, hi⟩) (Finset.sum_congr rfl fun p hp => ?_)
  have : p.val ≠ i := fun h => Finset.ne_of_mem_erase hp (Fin.ext h)
  by_cases h : i ≤ p.val ∧ p ≠ c
  · rw [if_pos h, if_pos ⟨by omega, h.2⟩]
  · rw [if_neg h, if_neg fun h' => h ⟨by omega, h'.2⟩]
theorem osum_skip (own : Dev nD → CellTallies nD τ sig Unit) (i : ℕ) (he : c.val = i) : osum c own i = osum c own (i + 1) := by
  unfold osum
  refine Finset.sum_congr rfl fun p _ => ?_
  by_cases h : i ≤ p.val ∧ p ≠ c
  · have : p.val ≠ i := fun h' => h.2 (Fin.ext (h'.trans he.symm))
    rw [if_pos h, if_pos ⟨by omega, h.2⟩]
  · rw [if_neg h, if_neg fun h' => h ⟨by omega, h'.2⟩]
theorem osum_end (own : Dev nD → CellTallies nD τ sig Unit) : osum c own 8 = 0 :=
  Finset.sum_eq_zero fun p _ => if_neg fun h => absurd p.isLt (by show ¬ p.val < 8; omega)

/-- Step `i` of a loop over the other devices. -/
def LoopSt (O : CellTallies nD τ sig Unit) (own : Dev nD → CellTallies nD τ sig Unit) (A B : Dev nD → sProp 𝕄) (R : sProp 𝕄) (i : ℕ) : sProp 𝕄 :=
  iprop(World vs K ∗ owesE c (O + osum c own i) ∗ fam i (others c A) (others c B) ∗ R)

/-- One printed conditional of such a loop: `if` the number is another device's, one operation. -/
theorem loop_if {α : Type} {C : Prop} {_ : Decidable C} {P : C → PG F PUnit} {J : PG F α} {Q : α → sProp 𝕄} (i : ℕ) (hi : i < 8) (hC : C ↔ c.val ≠ i)
    {O : CellTallies nD τ sig Unit} {own : Dev nD → CellTallies nD τ sig Unit} {A B : Dev nD → sProp 𝕄} {R : sProp 𝕄}
    (step : ∀ h : C, c ≠ ⟨i, hi⟩ → iprop(World vs K ∗ owesE c ((O + osum c own (i + 1)) + own ⟨i, hi⟩) ∗ B ⟨i, hi⟩)
      ⊢ iprop(((owesE c (O + osum c own (i + 1)) ∗ A ⟨i, hi⟩) -∗ WP c J Q) -∗ WP c (P h >>= fun _ => J) Q))
    (h : LoopSt vs K c O own A B R (i + 1) ⊢ WP c J Q) :
    LoopSt vs K c O own A B R i ⊢ WP c (if h : C then (P h >>= fun _ => J) else J) Q := by
  by_cases hc : C
  · rw [dif_pos hc]
    have hne : c.val ≠ i := hC.mp hc
    have hne' : c ≠ ⟨i, hi⟩ := fun h => hne (by rw [h])
    unfold LoopSt
    rw [osum_step c own i hi hne, ← add_assoc]
    iintro ⟨#HW, HO, Hf, HR⟩
    ihave Hf' := (fam_others c i hi hne' A B) $$ Hf
    icases Hf' with ⟨HB, Hf⟩
    iapply (step hc hne') $$ [HO HB]
    · isplitr; · iexact HW
      isplitl [HO]; · iexact HO
      iexact HB
    iintro ⟨HO, HA⟩
    iapply h
    unfold LoopSt
    isplitr; · iexact HW
    isplitl [HO]; · iexact HO
    isplitl [Hf HA]
    · iapply Hf; iexact HA
    iexact HR
  · rw [dif_neg hc]
    have he : c.val = i := by by_contra h'; exact hc (hC.mpr h')
    have he' : c = ⟨i, hi⟩ := Fin.ext he
    refine BIBase.Entails.trans ?_ h
    unfold LoopSt
    rw [osum_skip c own i he]
    iintro ⟨#HW, HO, Hf, HR⟩
    isplitr; · iexact HW
    isplitl [HO]; · iexact HO
    isplitl [Hf]
    · iapply (fam_self c i hi he' A B); iexact Hf
    iexact HR

end Cert.KernelIdeal.Fused

end
-- ==== Proof.PartA.lean ====
/-
  The kernel's first part: every device tells every other one that it has entered, and waits until all the others have.
-/
module

public import proofs.«01_k».proof.Proof.Steps

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (vs : Vals F) (K : GSem nD τ sig → ℕ) (c : Dev nD)

/-- The operands' staging buffers and the result's. -/
abbrev xM : Memref sig .tc .vmem S1x1024x1024 .f32 := Memref.whole cc0_stg0_0
abbrev wqM : Memref sig .tc .vmem S1024x1024 .f32 := Memref.whole cc0_stg1_0
abbrev kM : Memref sig .tc .vmem S1024x1024 .f32 := Memref.whole cc0_stg2_0
abbrev vM : Memref sig .tc .vmem S1024x1024 .f32 := Memref.whole cc0_stg3_0
abbrev woM : Memref sig .tc .vmem S1024x1024 .f32 := Memref.whole cc0_stg4_0
abbrev oM : Memref sig .tc .vmem S1x1024x1024 .f32 := Memref.whole cc0_stg5_0

/-- A piece of the kernel on the buffers and semaphores the call gives it. -/
abbrev atArgs {β : Type 1} (f : (a0 : Memref sig .tc .vmem S1x1024x1024 .f32) → a0.IsWhole →
      (a1 : Memref sig .tc .vmem S1024x1024 .f32) → a1.IsWhole →
      (a2 : Memref sig .tc .vmem S1024x1024 .f32) → a2.IsWhole →
      (a3 : Memref sig .tc .vmem S1024x1024 .f32) → a3.IsWhole →
      (a4 : Memref sig .tc .vmem S1024x1024 .f32) → a4.IsWhole →
      (a5 : Memref sig .tc .vmem S1x1024x1024 .f32) → a5.IsWhole →
      (a6 : Memref sig .tc .vmem S7x128x1152 .bf16) → a6.IsWhole →
      (a7 : Memref sig .tc .vmem S32x1152 .bf16) → a7.IsWhole →
      (a8 : Memref sig .tc .vmem S128x1152 .bf16) → a8.IsWhole →
      (a9 : Memref sig .tc .vmem S7x32x1152 .bf16) → a9.IsWhole →
      (a10 : Memref sig .tc .vmem S2x128x1152 .bf16) → a10.IsWhole →
      (a11 : Memref sig .tc .vmem S128x1152 .f32) → a11.IsWhole →
      (a12 : Memref sig .tc .vmem S128x1024 .bf16) → a12.IsWhole →
      (a13 : Memref sig .tc .vmem S8x128x1024 .bf16) → a13.IsWhole →
      DmaSems sig S7 → DmaSems sig S2 → DmaSems sig S7 → DmaSems sig S2 → DmaSems sig S8 → DmaSems sig S8 → Sems sig S_ → β) : β :=
  f xM (Memref.isWhole_whole _) wqM (Memref.isWhole_whole _) kM (Memref.isWhole_whole _) vM (Memref.isWhole_whole _) woM (Memref.isWhole_whole _) oM (Memref.isWhole_whole _) psM (Memref.isWhole_whole _) p32M (Memref.isWhole_whole _) pxM (Memref.isWhole_whole _) c0M (Memref.isWhole_whole _) cxM (Memref.isWhole_whole _) bsM (Memref.isWhole_whole _) agM (Memref.isWhole_whole _) adM (Memref.isWhole_whole _)
    cc0_scratch8 cc0_scratch9 cc0_scratch10 cc0_scratch11 cc0_scratch12 cc0_scratch13 cc0_scoped0

theorem dev_run {α : Type} {k : Dev nD → PG F α} {P : sProp 𝕄} {Q : α → sProp 𝕄} (h : P ⊢ WP c (k c) Q) : P ⊢ WP c (.op .deviceId k) Q :=
  exec_deviceId _ _ _ _ h
theorem ret_run {α : Type} {a : α} {Q : α → sProp 𝕄} : Q a ⊢ WP c (F := F) (.ret a) Q := by
  show Q a ⊢ iprop(|={Set.univ}=> Q a)
  iintro H; imodintro; iexact H

/-- Signal number `i` of a loop that signals one cell of every other device. -/
theorem sig_if {α : Type} {C : Prop} {_ : Decidable C} {dv : C → Dev nD} {s s' : Sem sig} {J : PG F α} {Q : α → sProp 𝕄} (i : ℕ) (hi : i < 8) (hC : C ↔ c.val ≠ i)
    (hdv : ∀ h, dv h = ⟨i, hi⟩) (hs : s' = s)
    {O : CellTallies nD τ sig Unit} {R : sProp 𝕄}
    (hm : ∀ p : Dev nD, (((p : Thread nD τ), .reg s) : GSem nD τ sig) ∈ (barCells ∪ scCells : Finset (GSem nD τ sig)))
    (h : LoopSt vs K c O (fun p => tallyAt ((p : Thread nD τ), .reg s) () 1) (fun _ => iprop(emp))
      (fun p => iprop(dutyTok ER (((p : Thread nD τ), .reg s) : GSem nD τ sig) 0 c ∗ pay vs p c (.reg s) ∗ reached ER (((p : Thread nD τ), .reg s) : GSem nD τ sig) 0)) R (i + 1) ⊢ WP c J Q) :
    LoopSt vs K c O (fun p => tallyAt ((p : Thread nD τ), .reg s) () 1) (fun _ => iprop(emp))
      (fun p => iprop(dutyTok ER (((p : Thread nD τ), .reg s) : GSem nD τ sig) 0 c ∗ pay vs p c (.reg s) ∗ reached ER (((p : Thread nD τ), .reg s) : GSem nD τ sig) 0)) R i
      ⊢ WP c (if h : C then ((semSignalWord (dv h) s' 1#32 : PG F PUnit) >>= fun _ => J) else J) Q := by
  refine loop_if vs K c i hi hC (fun hc hne => ?_) h
  rw [hdv hc, hs]
  iintro ⟨#HW, HO, Ht, Hp, Hr⟩ Hk
  iapply (sig_cell vs K c s (k := fun _ => J) (p := ⟨i, hi⟩) hne _ (hm ⟨i, hi⟩)) $$ [HO Ht Hp Hr]
  · isplitr; · iexact HW
    isplitl [HO]; · iexact HO
    isplitl [Ht]; · iexact Ht
    isplitl [Hp]; · iexact Hp
    iexact Hr
  iintro HO
  iapply Hk
  isplitl [HO]; · iexact HO
  itrivial

/-- The device's number as the kernel computes it. -/
abbrev myW : BitVec 32 := Scalar.remsi (Scalar.divsi (Dev.word c) 1#32) 8#32

theorem bar_run {α : Type} (O : CellTallies nD τ sig Unit) (hO : Above 1 O) (k : PUnit → PG F α) (Q : α → sProp 𝕄) :
    LoopSt vs K c O (fun p => tallyAt (barCell p) () 1) (fun _ => iprop(emp))
      (fun p => iprop(dutyTok ER (barCell p) 0 c ∗ pay vs p c (.reg ⟨0, by decide⟩) ∗ reached ER (barCell p) 0))
      iprop(cred (tallyAt (barCell c) () 7) ∗ atPos ER (barCell c) 0 ∅ 0
        ∗ ((owesE c O ∗ atPos ER (barCell c) 1 ∅ 0 ∗ bigSep (Finset.univ.erase c) (fun p => pay vs c p (.reg ⟨0, by decide⟩))) -∗ WP c (k ⟨⟩) Q)) 8
      ⊢ WP c (.op (.semWait ⟨0, by decide⟩ ((7 : ℕ) : ℤ)) k) Q := by
  unfold LoopSt
  rw [osum_end, add_zero]
  iintro ⟨#HW, HO, -, Hc, Hat, Hk⟩
  iapply (wait_cell vs K c (sm := (barCell c).2) (wpE_semWait_eq 𝒱₀ (c : Thread nD τ) none Set.univ) O hO (by
    show 7 = (Finset.univ.erase c).card * 1
    rw [Finset.card_erase_of_mem (Finset.mem_univ c), Finset.card_fin]; rfl) (bar_mem c)) $$ [Hc HO Hat]
  · isplitr; · iexact HW
    isplitl [Hc]; · iexact Hc
    isplitl [HO]; · iexact HO
    iexact Hat
  iexact Hk

theorem part60_run (O : CellTallies nD τ sig Unit) (hO : Above 1 O) (Q : (Σ' (_ : Dev nD) (_ : BitVec 32), BitVec 1) → sProp 𝕄) :
    LoopSt vs K c O (fun p => tallyAt (barCell p) () 1) (fun _ => iprop(emp))
      (fun p => iprop(dutyTok ER (barCell p) 0 c ∗ pay vs p c (.reg ⟨0, by decide⟩) ∗ reached ER (barCell p) 0))
      iprop(cred (tallyAt (barCell c) () 7) ∗ atPos ER (barCell c) 0 ∅ 0
        ∗ ((owesE c O ∗ atPos ER (barCell c) 1 ∅ 0 ∗ bigSep (Finset.univ.erase c) (fun p => pay vs c p (.reg ⟨0, by decide⟩)))
          -∗ Q ⟨c, myW c, Scalar.cmpi .eq (myW c) 0#32⟩)) 0
      ⊢ WP c (atArgs (k0_part60 (F := F))) Q := by
  rw [k0_part60_eq_skeleton]
  unfold atArgs k0_part60_skel
  refine dev_run c ?_
  refine sig_if vs K c 0 (by decide) ?_ ?_ ?_ bar_mem ?_
  · revert c; decide
  · exact fun _ => Fin.ext rfl
  · rfl
  with_reducible refine sig_if vs K c 1 (by decide) ?_ ?_ ?_ bar_mem ?_
  · revert c; decide
  · exact fun _ => Fin.ext rfl
  · rfl
  with_reducible refine sig_if vs K c 2 (by decide) ?_ ?_ ?_ bar_mem ?_
  · revert c; decide
  · exact fun _ => Fin.ext rfl
  · rfl
  with_reducible refine sig_if vs K c 3 (by decide) ?_ ?_ ?_ bar_mem ?_
  · revert c; decide
  · exact fun _ => Fin.ext rfl
  · rfl
  with_reducible refine sig_if vs K c 4 (by decide) ?_ ?_ ?_ bar_mem ?_
  · revert c; decide
  · exact fun _ => Fin.ext rfl
  · rfl
  with_reducible refine sig_if vs K c 5 (by decide) ?_ ?_ ?_ bar_mem ?_
  · revert c; decide
  · exact fun _ => Fin.ext rfl
  · rfl
  with_reducible refine sig_if vs K c 6 (by decide) ?_ ?_ ?_ bar_mem ?_
  · revert c; decide
  · exact fun _ => Fin.ext rfl
  · rfl
  with_reducible refine sig_if vs K c 7 (by decide) ?_ ?_ ?_ bar_mem ?_
  · revert c; decide
  · exact fun _ => Fin.ext rfl
  · rfl
  refine BIBase.Entails.trans ?_ (bar_run vs K c O hO _ Q)
  unfold LoopSt
  iintro ⟨HW, HO, Hf, Hc, Hat, Hk⟩
  isplitl [HW]; · iexact HW
  isplitl [HO]; · iexact HO
  isplitl [Hf]; · iexact Hf
  isplitl [Hc]; · iexact Hc
  isplitl [Hat]; · iexact Hat
  iintro H
  iapply (ret_run c)
  iapply Hk; iexact H

end Cert.KernelIdeal.Fused

end
-- ==== Proof.Sends.lean ====
/-
  A copy to another device's slot, the slot named with its leading axis.
-/
module

public import proofs.«01_k».proof.Proof.PartA

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## A slot under its squeezed name -/

section Squeeze
variable {s s' : Shape} {e : EltTy} (M : Memref sig .tc .vmem s e) (h : s.Squeezes s')

theorem sq_set : (M.squeeze s' h).view.set = M.view.set := View.set_reshape _ _
theorem sq_read (f : M.view.ty.Contents (Elt F)) :
    (M.squeeze s' h).view.read (Elt F) f = fun y => M.view.read (Elt F) f (Shape.reshapeEquiv h.numel_eq y) := by
  funext y; rfl
theorem lead_sq (X : s.Idx → Elt F e) : lead h (fun y => X (Shape.reshapeEquiv h.numel_eq y)) = X := by
  funext y; exact congrArg X (Equiv.apply_symm_apply _ y)
/-- What a copy leaves in the slot: the values written, with the leading axis. -/
theorem sq_land (p : Dev nD) (fd : Buf (Elt F) ((M.squeeze s' h).view.loc (p : Thread nD τ))) (Y : s'.Idx → Elt F e) :
    ((M.squeeze s' h).view.loc (p : Thread nD τ) ↦[(M.squeeze s' h).view.set]{fullShare} ((M.squeeze s' h).view.write (Elt F) fd Y Finset.univ) : sProp 𝕄)
      ⊢ has M p fullShare (lead h Y) := by
  rw [sq_set]
  refine pointsTo_rep_of_read (p : Thread nD τ) M _ fullShare _ ?_
  have h1 := sq_read M h ((M.squeeze s' h).view.write (Elt F) fd Y Finset.univ)
  rw [View.read_write_univ] at h1
  exact (lead_sq h _).symm.trans (congrArg (lead h) h1.symm)
theorem has_of_read (p : Dev nD) (q : PosShare TreeShare) (f : Buf (Elt F) (M.view.loc (p : Thread nD τ))) (X : s.Idx → Elt F e) (hf : M.view.read (Elt F) f = X) :
    (M.view.loc (p : Thread nD τ) ↦[M.view.set]{q} f : sProp 𝕄) ⊢ has M p q X :=
  pointsTo_rep_of_read (p : Thread nD τ) M _ q _ hf
end Squeeze

variable (vs : Vals F) (K : GSem nD τ sig → ℕ) (c : Dev nD)

/-- COPY from a memref that pays the sender's cell `a`, to slot `D` of device `p`, where it pays cell `b`. -/
theorem send_to {α : Type} {p : Dev nD} {s s' : Shape} {e : EltTy} {src : Memref sig .tc .vmem s' e} (D : Memref sig .tc .vmem s e) (hq : s.Squeezes s')
    (a b : ℕ) (ha : a < 40) (hb : b < 40) (ha6 : 6 ≤ a) (hb6 : 6 ≤ b)
    {hsc : (D.squeeze s' hq).view.ref.isScScratch = false} {hsrc : src.view.WordExact} {hdst : (D.squeeze s' hq).view.WordExact}
    {hsem : DmaTarget.Typed .vmem (.dma ⟨b, hb⟩) (.remote (p : Thread nD τ) (D.squeeze s' hq) (.dma ⟨a, ha⟩) hsc)}
    {k : PUnit → PG F α} {Q : α → sProp 𝕄} {q : PosShare TreeShare} {fs : Buf (Elt F) (src.view.loc (c : Thread nD τ))}
    (hd₁ : c ∈ payers c (.dma ⟨a, ha⟩)) (hd₂ : c ∈ payers p (.dma ⟨b, hb⟩)) (n : ℕ) (hN : (D.squeeze s' hq).view.dmaCredit = n)
    (hk₁ : amt (.dma ⟨a, ha⟩) = n) (hk₂ : amt (.dma ⟨b, hb⟩) = n) (O : CellTallies nD τ sig Unit)
    (hpay₁ : (src.view.loc (c : Thread nD τ) ↦[src.view.set]{q} fs) ⊢ pay vs c c (.dma ⟨a, ha⟩))
    (hpay₂ : has D p fullShare (lead hq (src.view.read (Elt F) fs)) ⊢ pay vs p c (.dma ⟨b, hb⟩)) :
    iprop(World vs K ∗ (src.view.loc (c : Thread nD τ) ↦[src.view.set]{q} fs) ∗ hasAny D p
        ∗ owesE c (O + tallyAt (dmaCell p b hb) () n) ∗ dutyTok ER (dmaCell c a ha) 0 c ∗ reached ER (dmaCell c a ha) 0
        ∗ dutyTok ER (dmaCell p b hb) 0 c ∗ reached ER (dmaCell p b hb) 0)
      ⊢ iprop(((cred (tallyAt (dmaCell c a ha) () n) ∗ owesE c O) -∗ WP c (k ⟨⟩) Q)
        -∗ WP c (.op (.enqueueDma src (.remote (p : Thread nD τ) (D.squeeze s' hq) (.dma ⟨a, ha⟩) hsc) (.dma ⟨b, hb⟩) hsrc hdst hsem) k) Q) := by
  unfold hasAny
  iintro ⟨#HW, Hs, ⟨%fd, Hd⟩, HO, Ht₁, Hr₁, Ht₂, Hr₂⟩ Hk
  iapply (send_cell vs K c (p := p) (src := src) (dst := D.squeeze s' hq) a b ha hb ha6 hb6 hd₁ hd₂ n hN hk₁ hk₂ O (q := q) (fs := fs) (fd := fd) hpay₁
      ((sq_land D hq p fd _).trans hpay₂)) $$ [Hs Hd HO Ht₁ Hr₁ Ht₂ Hr₂]
  · isplitr; · iexact HW
    isplitl [Hs]; · iexact Hs
    isplitl [Hd]
    · rw [sq_set]; iexact Hd
    isplitl [HO]; · iexact HO
    isplitl [Ht₁]; · iexact Ht₁
    isplitl [Hr₁]; · iexact Hr₁
    isplitl [Ht₂]; · iexact Ht₂
    iexact Hr₂
  iexact Hk

end Cert.KernelIdeal.Fused

end
-- ==== Proof.Tiles.lean ====
/-
  What the kernel computes on each device, written once for every block: the weights of a block of queries against a run of
  keys, their products with the values, their row sums, the packing of the eight heads in one array, and the last division and
  product. The arithmetic is the printed kernel's, operation by operation, so that each value the run stores is one of these.
-/
module

public import proofs.«01_k».proof.Proof.Cells

@[expose] public section

noncomputable section

namespace Cert.KernelIdeal.Fused

open Idealize.ShloMosaic Idealize.ShloMosaic.TcCoe
open Cert.KernelIdeal Cert.KernelIdeal.Gen

variable {F : FTy → Type} [FloatOps F]

/-- An `m × n` array's shape. -/
abbrev Sh (m n : ℕ) : Shape := ⟨2, ![m, n]⟩

/-- A matrix of floats of 32 bits. -/
abbrev Mat (F : FTy → Type) [FloatOps F] (m n : ℕ) : Type := (Sh m n).Idx → Elt F .f32

/-- One matrix of `m` rows and `n` columns in an array of three axes. -/
abbrev Sh1 (m n : ℕ) : Shape := ⟨3, ![1, m, n]⟩

/-! ## Shapes -/

theorem iota0 (m n : ℕ) : (Sh m n).Iotas .tc 32 [0] := ⟨by simp, fun _ => ⟨.inr rfl, le_refl _⟩, fun h => absurd rfl h⟩
theorem iota1 (m n : ℕ) : (Sh m n).Iotas .tc 32 [1] := ⟨by simp, fun _ => ⟨.inr rfl, le_refl _⟩, fun h => absurd rfl h⟩
theorem cast_self (m n : ℕ) : (Sh m n).ShapeCasts (Sh m n) := rfl
theorem cast_one (m n : ℕ) : (Sh1 m n).ShapeCasts (Sh m n) := by
  show (Sh m n).numel = (Sh1 m n).numel
  simp [Shape.numel, Fin.prod_univ_succ]
theorem cast_to_one (m n : ℕ) : (Sh m n).ShapeCasts (Sh1 m n) := (cast_one m n).symm
theorem cast_col (m : ℕ) : (⟨1, ![m]⟩ : Shape).ShapeCasts (Sh m 1) := by
  show (Sh m 1).numel = (⟨1, ![m]⟩ : Shape).numel
  simp [Shape.numel, Fin.prod_univ_succ]
theorem reduces_row (m n : ℕ) : (Sh m n).Reduces [1] ⟨1, ![m]⟩ := ⟨rfl, Nat.one_pos, fun b => by fin_cases b; rfl⟩
theorem slices_q {t h : ℕ} (ht : t < 8) (hh : h < 8) : (Sh 1024 1024).Slices ![t * 128, h * 128] (Sh 128 128) :=
  ⟨rfl, fun a => by fin_cases a <;> simp <;> omega⟩
theorem slices_r {m h : ℕ} (hh : h < 8) : (Sh m 1024).Slices ![0, h * 128] (Sh m 128) :=
  ⟨rfl, fun a => by fin_cases a <;> simp <;> omega⟩
theorem win_ok {a b m n : ℕ} (ha : a + m ≤ 1024) (hb : b + n ≤ 1024) (i : Fin 2) : (![a, b] : Fin 2 → ℕ) i + (Sh m n).size i ≤ (Sh 1024 1024).size i := by
  fin_cases i <;> simp <;> omega
theorem rows_ok {a m : ℕ} (ha : a + m ≤ 1024) (i : Fin 3) : (![0, a, 0] : Fin 3 → ℕ) i + (Sh1 m 1024).size i ≤ S1x1024x1024.size i := by
  fin_cases i <;> simp <;> omega
theorem concat_col (m : ℕ) : Shape.Concatenates [Sh m 1, Sh m 1, Sh m 1, Sh m 1, Sh m 1, Sh m 1, Sh m 1, Sh m 1] (Sh m 8) 1 :=
  ⟨by simp, fun s hs => by
    simp only [List.mem_cons, List.not_mem_nil, or_false, or_self] at hs
    subst hs; exact ⟨rfl, fun b hb => by fin_cases b <;> first | rfl | exact absurd rfl hb⟩, rfl⟩
theorem concat_pack (m : ℕ) : Shape.Concatenates
    [Sh m 128, Sh m 128, Sh m 128, Sh m 128, Sh m 128, Sh m 128, Sh m 128, Sh m 128, Sh m 8, Sh m 120] (Sh m 1152) 1 :=
  ⟨by simp, fun s hs => by
    simp only [List.mem_cons, List.not_mem_nil, or_false, or_self] at hs
    rcases hs with hs | hs | hs | hs | hs | hs | hs | hs | hs | hs <;> subst hs <;>
      exact ⟨rfl, fun b hb => by fin_cases b <;> first | rfl | exact absurd rfl hb⟩, rfl⟩
theorem concat_heads : Shape.Concatenates
    [Sh 128 128, Sh 128 128, Sh 128 128, Sh 128 128, Sh 128 128, Sh 128 128, Sh 128 128, Sh 128 128] (Sh 128 1024) 1 := by decide

/-! ## The arithmetic of a block -/

/-- The `m × n` window of a square matrix whose first corner is `(a, b)`. -/
def win (f : Mat F 1024 1024) (a b m n : ℕ) (ha : a + m ≤ 1024) (hb : b + n ≤ 1024) : Mat F m n :=
  VecWindow.window f ![a, b] (Sh m n).size (win_ok ha hb)

/-- `m` rows of an array of one matrix, from row `a` on. -/
def rows (f : S1x1024x1024.Idx → Elt F .f32) (a m : ℕ) (ha : a + m ≤ 1024) : (Sh1 m 1024).Idx → Elt F .f32 :=
  VecWindow.window f ![0, a, 0] (Sh1 m 1024).size (rows_ok ha)

/-- The positions of the queries' rows, from `o` on, and of the keys' columns. -/
def rowPos (m n : ℕ) (o : BitVec 32) : IVec (Sh m n) 32 := addi (broadcast (Sh m n) o) (iota .tc (Sh m n) 32 [0] (iota0 m n))
def colPos (m n : ℕ) (o : BitVec 32) : IVec (Sh m n) 32 := addi (broadcast (Sh m n) o) (iota .tc (Sh m n) 32 [1] (iota1 m n))

/-- Query and key at most 128 apart. -/
def near (m n : ℕ) (qo ko : BitVec 32) : IVec (Sh m n) 1 :=
  cmpi .sle (absi (subi (rowPos m n qo) (colPos m n ko))) (broadcast (Sh m n) 128#32)

/-- Query and key near, or one of them among the first 32. -/
def mask (m n : ℕ) (qo ko : BitVec 32) : IVec (Sh m n) 1 :=
  ori (ori (near m n qo ko) (cmpi .slt (colPos m n ko) (broadcast (Sh m n) 32#32))) (cmpi .slt (rowPos m n qo) (broadcast (Sh m n) 32#32))

/-- The weights of `m` queries against `n` keys: the exponential of the scaled products. -/
def expW {m n : ℕ} (q : Mat F m 128) (k : Mat F n 128) : Mat F m n :=
  exp (φ := .f32) (mulf (φ := .f32) (matmul (φ₁ := .f32) (φ₂ := .f32) (DotDims.transposedRhs m 128 n) none q (shapeCast (Sh n 128) k (cast_self n 128))
    (constant (Sh m n) .f32 0x00000000#32)) (broadcast (Sh m n) (Scalar.ofBits .f32 0x3DB504F3#32)))

/-- The weights where the mask holds, zero elsewhere. -/
def maskW {m n : ℕ} (k : IVec (Sh m n) 1) (w : Mat F m n) : Mat F m n := select k w (broadcast (Sh m n) (Scalar.ofBits .f32 0x00000000#32))

/-- The weighted sum of the values. -/
def numW {m n : ℕ} (w : Mat F m n) (v : Mat F n 128) : Mat F m 128 :=
  matmul (φ₁ := .f32) (φ₂ := .f32) (DotDims.plain m n 128) none w (shapeCast (Sh n 128) v (cast_self n 128)) (constant (Sh m 128) .f32 0x00000000#32)

/-- The sum of the weights of each query. -/
def denW {m n : ℕ} (w : Mat F m n) : Mat F m 1 :=
  shapeCast (Sh m 1) (multiReduction (φ := .f32) .add [1] ⟨1, ![m]⟩ w 0x00000000#32 (reduces_row m n) (.inl rfl) rfl) (cast_col m)

/-- Eight heads' weighted sums and eight columns of row sums side by side, zeros after them. -/
def pack {m : ℕ} (N : Fin 8 → Mat F m 128) (D : Fin 8 → Mat F m 1) : Mat F m 1152 :=
  concatenate (Sh m 1152) 1 [⟨Sh m 128, N 0⟩, ⟨Sh m 128, N 1⟩, ⟨Sh m 128, N 2⟩, ⟨Sh m 128, N 3⟩, ⟨Sh m 128, N 4⟩, ⟨Sh m 128, N 5⟩, ⟨Sh m 128, N 6⟩, ⟨Sh m 128, N 7⟩,
    ⟨Sh m 8, concatenate (Sh m 8) 1 [⟨Sh m 1, D 0⟩, ⟨Sh m 1, D 1⟩, ⟨Sh m 1, D 2⟩, ⟨Sh m 1, D 3⟩, ⟨Sh m 1, D 4⟩, ⟨Sh m 1, D 5⟩, ⟨Sh m 1, D 6⟩, ⟨Sh m 1, D 7⟩] (concat_col m)⟩,
    ⟨Sh m 120, broadcast (Sh m 120) (Scalar.ofBits .f32 0x00000000#32)⟩] (concat_pack m)

/-- The same rounded to 16 bits, as it is stored and sent. -/
def pack16 {m : ℕ} (N : Fin 8 → Mat F m 128) (D : Fin 8 → Mat F m 1) : (Sh m 1152).Idx → Elt F .bf16 :=
  truncf (φ := .f32) .bf16 (pack N D) bitsLt_bf16_f32

/-- The products of the rows `x` with the square matrix `w`. -/
def proj {m : ℕ} (x : (Sh1 m 1024).Idx → Elt F .f32) (w : Mat F 1024 1024) : Mat F m 1024 :=
  matmul (φ₁ := .f32) (φ₂ := .f32) (DotDims.plain m 1024 1024) none (shapeCast (Sh m 1024) x (cast_one m 1024)) (shapeCast (Sh 1024 1024) w (cast_self _ _))
    (constant (Sh m 1024) .f32 0x00000000#32)

/-- Head `h` of the rows of queries `q`. -/
def headOf {m : ℕ} (q : Mat F m 1024) (h : Fin 8) : Mat F m 128 := extractStridedSlice (Sh m 128) ![0, h.val * 128] q (slices_r h.isLt)

/-! ## Device 0: the blocks of 128 queries against its own keys -/

/-- What a device holds when the kernel starts: the input, the queries' weights, its keys and values, the last weights. -/
structure Ins (F : FTy → Type) [FloatOps F] where
  x : S1x1024x1024.Idx → Elt F .f32
  wq : Mat F 1024 1024
  k : Mat F 1024 1024
  v : Mat F 1024 1024
  wo : Mat F 1024 1024

variable (I : Ins F)

/-- The queries' weights, as they are read. -/
def wqW : Mat F 1024 1024 := win I.wq 0 0 1024 1024 (by omega) (by omega)

/-- The queries of block `t`, head `h`. -/
def qBlk (t : ℕ) (ht : t < 8) (h : Fin 8) : Mat F 128 128 :=
  extractStridedSlice (Sh 128 128) ![t * 128, h.val * 128] (proj (rows I.x 0 1024 (by omega)) (wqW I)) (slices_q ht h.isLt)

/-- Head `h` of `n` rows of the keys, or of the values, from row `lo` on. -/
def kvWin (f : Mat F 1024 1024) (lo n : ℕ) (hn : lo + n ≤ 1024) (h : Fin 8) : Mat F n 128 := win f lo (h.val * 128) n 128 hn (by omega)

/-- The masked weights of block `t` against the `n` keys from `lo` on. -/
def locW (t : ℕ) (ht : t < 8) (lo n : ℕ) (hn : lo + n ≤ 1024) (h : Fin 8) : Mat F 128 n :=
  maskW (mask 128 n (BitVec.ofNat 32 (t * 128)) (BitVec.ofNat 32 lo)) (expW (qBlk I t ht h) (kvWin I.k lo n hn h))

/-- The weights of block `t` against the first 32 keys. -/
def gloW (t : ℕ) (ht : t < 8) (h : Fin 8) : Mat F 128 32 := expW (qBlk I t ht h) (kvWin I.k 0 32 (by omega) h)

/-- Block `t` against the `n` keys from `lo` on. -/
def locTile (t : ℕ) (ht : t < 8) (lo n : ℕ) (hn : lo + n ≤ 1024) : S128x1152.Idx → Elt F .bf16 :=
  pack16 (fun h => numW (locW I t ht lo n hn h) (kvWin I.v lo n hn h)) (fun h => denW (locW I t ht lo n hn h))

/-- Block `t` against the `n` keys from `lo` on and the first 32. -/
def gloTile (t : ℕ) (ht : t < 8) (lo n : ℕ) (hn : lo + n ≤ 1024) : S128x1152.Idx → Elt F .bf16 :=
  pack16 (fun h => addf (φ := .f32) (numW (locW I t ht lo n hn h) (kvWin I.v lo n hn h)) (numW (gloW I t ht h) (kvWin I.v 0 32 (by omega) h)))
    (fun h => addf (φ := .f32) (denW (locW I t ht lo n hn h)) (denW (gloW I t ht h)))

/-- Block `t` of the queries against device 0's keys. -/
def tile : ℕ → S128x1152.Idx → Elt F .bf16
  | 0 => locTile I 0 (by omega) 0 1024 (by omega)
  | 1 => locTile I 1 (by omega) 0 384 (by omega)
  | 2 => gloTile I 2 (by omega) 128 384 (by omega)
  | 3 => gloTile I 3 (by omega) 256 384 (by omega)
  | 4 => gloTile I 4 (by omega) 384 384 (by omega)
  | 5 => gloTile I 5 (by omega) 512 384 (by omega)
  | 6 => gloTile I 6 (by omega) 640 384 (by omega)
  | _ => gloTile I 7 (by omega) 768 256 (by omega)

/-! ## The other devices -/

/-- The weights of the first 32 queries against all the device's keys. -/
def p32W (h : Fin 8) : Mat F 32 1024 := expW (headOf (proj (rows I.x 0 32 (by omega)) (wqW I)) h) (kvWin I.k 0 1024 (by omega) h)

/-- The first 32 queries against all the device's keys. -/
def p32T : S32x1152.Idx → Elt F .bf16 := pack16 (fun h => numW (p32W I h) (kvWin I.v 0 1024 (by omega) h)) (fun h => denW (p32W I h))

/-- The weights of the last block of queries against device 1's first 128 keys, the 1024th key of all and those after it. -/
def pxW (h : Fin 8) : Mat F 128 128 :=
  maskW (near 128 128 896#32 1024#32) (expW (headOf (proj (rows I.x 896 128 (by omega)) (wqW I)) h) (kvWin I.k 0 128 (by omega) h))

/-- The last block of queries against device 1's first 128 keys. -/
def pxT : S128x1152.Idx → Elt F .bf16 := pack16 (fun h => numW (pxW I h) (kvWin I.v 0 128 (by omega) h)) (fun h => denW (pxW I h))

end Cert.KernelIdeal.Fused
-- ==== Proof.Copies.lean ====
/-
  What each semaphore's payment hands over, written out, and device 0's copies of its partial results.
-/
module

public import proofs.«01_k».proof.Proof.Sends
public import proofs.«01_k».proof.Proof.Tiles

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- A memref holds `f`. -/
abbrev holds {s : Shape} {e : EltTy} (M : Memref sig .tc .vmem s e) (c : Dev nD) (f : Buf (Elt F) (M.view.loc (c : Thread nD τ))) : sProp 𝕄 :=
  M.view.loc (c : Thread nD τ) ↦[M.view.set]{fullShare} f

/-- The operands device `c` reads. -/
def insAt (c : Dev nD) (I : Ins F) : sProp 𝕄 :=
  iprop(holds xM c I.x ∗ holds wqM c I.wq ∗ holds kM c I.k ∗ holds vM c I.v ∗ holds woM c I.wo)

/-! ## What pays each cell -/

section Pays
variable (vs : Vals F) (d p : Dev nD)

theorem pay_c0 (k : ℕ) (hk : k < 7) : pay vs d p (.dma ⟨k + 6, by show k + 6 < 40; omega⟩) = has (c0S k hk) d fullShare (lead squeezes_S1x32x1152_S32x1152 (vs.p32 p)) := by
  show dmaPay vs d p (k + 6) = _
  unfold dmaPay
  rw [dif_neg (by omega), dif_pos (by omega)]
  rfl
theorem pay_cx0 : pay vs d p (.dma ⟨13, by decide⟩) = has (cxS 0 (by decide)) d fullShare (vs.ps (d.val - 1)) := by
  show dmaPay vs d p 13 = _
  unfold dmaPay
  rw [dif_neg (by omega), dif_neg (by omega), if_pos rfl]
theorem pay_cx1 : pay vs d p (.dma ⟨14, by decide⟩) = has (cxS 1 (by decide)) d fullShare (lead squeezes_S1x128x1152_S128x1152 vs.px) := by
  show dmaPay vs d p 14 = _
  unfold dmaPay
  rw [dif_neg (by omega), dif_neg (by omega), if_neg (by omega), if_pos rfl]
theorem pay_s0 (k : ℕ) (hk : k < 7) : pay vs d p (.dma ⟨k + 15, by show k + 15 < 40; omega⟩) = has (psS k hk) d fullShare (vs.ps k) := by
  show dmaPay vs d p (k + 15) = _
  unfold dmaPay
  rw [dif_neg (by omega), dif_neg (by omega), if_neg (by omega), if_neg (by omega), dif_pos (by omega)]
  rfl
theorem pay_s1 : pay vs d p (.dma ⟨22, by decide⟩) = has p32M d fullShare (vs.p32 d) := by
  show dmaPay vs d p 22 = _
  unfold dmaPay
  rw [dif_neg (by omega), dif_neg (by omega), if_neg (by omega), if_neg (by omega), dif_neg (by omega), if_pos rfl]
theorem pay_s1' : pay vs d p (.dma ⟨23, by decide⟩) = has pxM d fullShare vs.px := by
  show dmaPay vs d p 23 = _
  unfold dmaPay
  rw [dif_neg (by omega), dif_neg (by omega), if_neg (by omega), if_neg (by omega), dif_neg (by omega), if_neg (by omega), if_pos rfl]
theorem pay_ags (k : ℕ) (hk : k < 8) : pay vs d p (.dma ⟨k + 24, by show k + 24 < 40; omega⟩) = has agM d (Transfers.shareTokN fullShare k) (vs.ag d) := by
  show dmaPay vs d p (k + 24) = _
  unfold dmaPay
  rw [dif_neg (by omega), dif_neg (by omega), if_neg (by omega), if_neg (by omega), dif_neg (by omega), if_neg (by omega), if_neg (by omega), if_pos (by omega)]
  rfl
theorem pay_agr (k : ℕ) (hk : k < 8) : pay vs d p (.dma ⟨k + 32, by show k + 32 < 40; omega⟩)
    = has (adS k hk) d fullShare (lead squeezes_S1x128x1024_S128x1024 (vs.ag p)) := by
  show dmaPay vs d p (k + 32) = _
  unfold dmaPay
  rw [dif_neg (by omega), dif_neg (by omega), if_neg (by omega), if_neg (by omega), dif_neg (by omega), if_neg (by omega), if_neg (by omega), if_neg (by omega), dif_pos (by omega)]
  rfl
end Pays

theorem amt32 (k : ℕ) (hk : k < 40) (h : k < 13 ∨ k = 22) : amt (.dma ⟨k, hk⟩) = N32 := if_pos h
theorem amt128 (k : ℕ) (hk : k < 40) (h : ¬ (k < 13 ∨ k = 22)) (h' : k < 24) : amt (.dma ⟨k, hk⟩) = N128 := (if_neg h).trans (if_pos h')
theorem amtO (k : ℕ) (hk : k < 40) (h : 24 ≤ k) : amt (.dma ⟨k, hk⟩) = NO := (if_neg (show ¬ (k < 13 ∨ k = 22) by omega)).trans (if_neg (show ¬ k < 24 by omega))
theorem mem_payers (d p : Dev nD) (k : ℕ) (hk : k < 40) (h : dmaPayer d p k) : p ∈ payers d (.dma ⟨k, hk⟩) := Finset.mem_filter.mpr ⟨Finset.mem_univ p, h⟩

variable (vs : Vals F) (K : GSem nD τ sig → ℕ)

/-! ## The copies of device 0 -/

/-- What device 0 owes for the copy to `p`, holds before it, and has after it. -/
abbrev psOwn (p : Dev nD) : CellTallies nD τ sig Unit := tallyAt (dmaCell p 13 (by decide)) () N128
theorem s0_lt (p : Dev nD) : p.val - 1 + 15 < 40 := by have h : p.val < 8 := p.isLt; omega
abbrev psB (p : Dev nD) : sProp 𝕄 :=
  iprop(hasAny (cxS 0 (by decide)) p ∗ dutyTok ER (dmaCell 0 (p.val - 1 + 15) (s0_lt p)) 0 (0 : Dev nD)
    ∗ reached ER (dmaCell 0 (p.val - 1 + 15) (s0_lt p)) 0
    ∗ dutyTok ER (dmaCell p 13 (by decide)) 0 (0 : Dev nD) ∗ reached ER (dmaCell p 13 (by decide)) 0)
abbrev psA (p : Dev nD) : sProp 𝕄 := cred (tallyAt (dmaCell 0 (p.val - 1 + 15) (s0_lt p)) () N128)

theorem ps_copy {α : Type} (k : ℕ) (hk : k < 7) {dv : Dev nD} (hdv : dv = ⟨k + 1, by show k + 1 < 8; omega⟩) {a b : DmaSem sig}
    (ha : a = ⟨k + 15, by show k + 15 < 40; omega⟩) (hb : b = ⟨13, by decide⟩)
    {hsc : ((cxS 0 (by decide)).squeeze S128x1152 squeezes_S1x128x1152_S128x1152).view.ref.isScScratch = false}
    {hsrc : ((psS k hk).squeeze S128x1152 squeezes_S1x128x1152_S128x1152).view.WordExact}
    {hdst : ((cxS 0 (by decide)).squeeze S128x1152 squeezes_S1x128x1152_S128x1152).view.WordExact}
    {hsem : DmaTarget.Typed .vmem (.dma b) (.remote (dv : Thread nD τ) ((cxS 0 (by decide)).squeeze S128x1152 squeezes_S1x128x1152_S128x1152) (.dma a) hsc)}
    {kk : PUnit → PG F α} {Q : α → sProp 𝕄} {O : CellTallies nD τ sig Unit} (f : Buf (Elt F) ((psS k hk).view.loc ((0 : Dev nD) : Thread nD τ)))
    (hf : (psS k hk).view.read (Elt F) f = vs.ps k) :
    iprop(LoopSt vs K 0 O psOwn psA psB iprop(emp) (k + 1) ∗ holds (psS k hk) 0 f)
      ⊢ iprop((LoopSt vs K 0 O psOwn psA psB iprop(emp) (k + 2) -∗ WP 0 (kk ⟨⟩) Q)
        -∗ WP 0 (.op (.enqueueDma ((psS k hk).squeeze S128x1152 squeezes_S1x128x1152_S128x1152)
          (.remote (dv : Thread nD τ) ((cxS 0 (by decide)).squeeze S128x1152 squeezes_S1x128x1152_S128x1152) (.dma a) hsc) (.dma b) hsrc hdst hsem) kk) Q) := by
  subst hdv ha hb
  have h8 : k + 1 < 8 := by omega
  have hne : (0 : Dev nD) ≠ ⟨k + 1, h8⟩ := fun h => absurd (congrArg Fin.val h) (by show (0 : ℕ) ≠ k + 1; omega)
  unfold LoopSt
  rw [osum_step (0 : Dev nD) psOwn (k + 1) h8 (by show (0 : ℕ) ≠ k + 1; omega), ← add_assoc]
  iintro ⟨⟨#HW, HO, Hf, -⟩, Hs⟩ Hk
  ihave Hf' := (fam_others (0 : Dev nD) (k + 1) h8 hne psA psB) $$ Hf
  icases Hf' with ⟨⟨Hd, Ht₁, Hr₁, Ht₂, Hr₂⟩, Hf⟩
  have l₁ : k + 15 < 40 := by omega
  have l₂ : 13 < 40 := by decide
  have l₃ : 6 ≤ k + 15 := by omega
  have l₄ : 6 ≤ 13 := by decide
  have l₅ : 0 < 2 := by decide
  have a₁ : amt (.dma ⟨k + 15, by show k + 15 < 40; omega⟩) = N128 := amt128 _ _ (by omega) (by omega)
  have a₂ : amt (.dma ⟨13, by decide⟩) = N128 := amt128 _ _ (by omega) (by omega)
  have n₁ : ((cxS 0 (by decide)).squeeze S128x1152 squeezes_S1x128x1152_S128x1152).view.dmaCredit = N128 := by unfold N128; rfl
  have m₁ : (0 : Dev nD) ∈ payers 0 (.dma ⟨k + 15, by show k + 15 < 40; omega⟩) := mem_payers _ _ _ (by omega) (by unfold dmaPayer; simp; omega)
  have m₂ : (0 : Dev nD) ∈ payers ⟨k + 1, h8⟩ (.dma ⟨13, by decide⟩) := mem_payers _ _ _ (by decide) (by unfold dmaPayer; simp [Fin.ext_iff])
  have hs := sq_read (psS k hk) squeezes_S1x128x1152_S128x1152 f
  iapply (send_to vs K (0 : Dev nD) (p := ⟨k + 1, h8⟩) (src := (psS k hk).squeeze S128x1152 squeezes_S1x128x1152_S128x1152)
      (cxS 0 l₅) squeezes_S1x128x1152_S128x1152 (k + 15) 13 l₁ l₂ l₃ l₄ (q := fullShare) (fs := f)
      m₁ m₂
      N128 n₁ a₁ a₂ _
      (by
        rw [pay_s0 vs 0 0 k hk, sq_set]
        exact has_of_read (psS k hk) 0 fullShare f _ hf)
      (by
        rw [hs, lead_sq, pay_cx0, hf]
        exact BIBase.Entails.rfl)) $$ [Hs Hd HO Ht₁ Hr₁ Ht₂ Hr₂]
  · isplitr; · iexact HW
    isplitl [Hs]; · rw [sq_set]; iexact Hs
    isplitl [Hd]; · iexact Hd
    isplitl [HO]; · iexact HO
    isplitl [Ht₁]; · iexact Ht₁
    isplitl [Hr₁]; · iexact Hr₁
    isplitl [Ht₂]; · iexact Ht₂
    iexact Hr₂
  iintro ⟨Hc, HO⟩
  iapply Hk
  isplitr; · iexact HW
  isplitl [HO]; · iexact HO
  isplitl [Hf Hc]
  · iapply Hf; iexact Hc
  itrivial

end Cert.KernelIdeal.Fused

end
-- ==== Proof.Waits.lean ====
/-
  Waits for copies, and loops over the other devices.
-/
module

public import proofs.«01_k».proof.Proof.Copies

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (vs : Vals F) (K : GSem nD τ sig → ℕ) (c : Dev nD)

/-- WAIT for the copy that pays a DMA cell. -/
theorem wait_dma {α : Type} {s s' : Shape} {e e' : EltTy} {src : Memref sig .tc .vmem s' e'} {dst : Memref sig .tc .vmem s e}
    {hsrc : src.view.WordExact} {hdst : dst.view.WordExact} {a : DmaSem sig} (k : ℕ) (h6 : 6 ≤ k) (hk : k < 40) (ha : a = ⟨k, hk⟩)
    (n : ℕ) (hn : dst.view.dmaCredit = n) (hamt : amt (.dma ⟨k, hk⟩) = n) (p : Dev nD) (hp : payers c (.dma ⟨k, hk⟩) = {p})
    {kk : PUnit → PG F α} {Q : α → sProp 𝕄} (O : CellTallies nD τ sig Unit) (hO : Above (lev (.dma ⟨k, hk⟩)) O) :
    iprop(World vs K ∗ owesE c O ∗ cred (tallyAt (dmaCell c k hk) () n) ∗ atPos ER (dmaCell c k hk) 0 ∅ 0)
      ⊢ iprop(((owesE c O ∗ atPos ER (dmaCell c k hk) 1 ∅ 0 ∗ pay vs c p (.dma ⟨k, hk⟩)) -∗ WP c (kk ⟨⟩) Q)
          -∗ WP c (.op (.waitDma2 a src dst hsrc hdst) kk) Q) := by
  subst ha
  iintro ⟨#HW, HO, Hc, Hat⟩ Hk
  iapply (wait_cell vs K c (sm := .dma ⟨k, hk⟩) (n := n) (fun K' => (wpE_waitDma2_eq 𝒱₀ (c : Thread nD τ) none Set.univ K').trans (by rw [hn])) O hO
    (by rw [hp, Finset.card_singleton, one_mul, hamt]) (dma_mem c k h6 hk)) $$ [Hc HO Hat]
  · isplitr; · iexact HW
    isplitl [Hc]; · iexact Hc
    isplitl [HO]; · iexact HO
    iexact Hat
  rw [hp, bigSep_singleton]
  iexact Hk

/-- Step `i` of a row of waits. -/
def FamSt {n : ℕ} (O : CellTallies nD τ sig Unit) (A B : Fin n → sProp 𝕄) (i : ℕ) : sProp 𝕄 :=
  iprop(World vs K ∗ owesE c O ∗ fam i A B)

theorem wait_fam {α : Type} {s s' : Shape} {e e' : EltTy} {src : Memref sig .tc .vmem s' e'} {dst : Memref sig .tc .vmem s e}
    {hsrc : src.view.WordExact} {hdst : dst.view.WordExact} {a : DmaSem sig} (k : ℕ) (h6 : 6 ≤ k) (hk : k < 40) (ha : a = ⟨k, hk⟩)
    (N : ℕ) (hn : dst.view.dmaCredit = N) (hamt : amt (.dma ⟨k, hk⟩) = N) (p : Dev nD) (hp : payers c (.dma ⟨k, hk⟩) = {p})
    {kk : PUnit → PG F α} {Q : α → sProp 𝕄} {O : CellTallies nD τ sig Unit} (hO : Above (lev (.dma ⟨k, hk⟩)) O) {n : ℕ} (i : ℕ) (hi : i < n) {A B : Fin n → sProp 𝕄}
    (hB : B ⟨i, hi⟩ = iprop(cred (tallyAt (dmaCell c k hk) () N) ∗ atPos ER (dmaCell c k hk) 0 ∅ 0))
    (hA : iprop(atPos ER (dmaCell c k hk) 1 ∅ 0 ∗ pay vs c p (.dma ⟨k, hk⟩)) = A ⟨i, hi⟩) :
    FamSt vs K c O A B i ⊢ iprop((FamSt vs K c O A B (i + 1) -∗ WP c (kk ⟨⟩) Q)
          -∗ WP c (.op (.waitDma2 a src dst hsrc hdst) kk) Q) := by
  unfold FamSt
  iintro ⟨#HW, HO, Hf⟩ Hk
  ihave Hf' := (fam_step i hi A B) $$ Hf
  rw [hB]
  icases Hf' with ⟨⟨Hc, Hat⟩, Hf⟩
  iapply (wait_dma vs K c k h6 hk ha N hn hamt p hp O hO) $$ [HO Hc Hat]
  · isplitr; · iexact HW
    isplitl [HO]; · iexact HO
    isplitl [Hc]; · iexact Hc
    iexact Hat
  iintro ⟨HO, HA⟩
  iapply Hk
  isplitr; · iexact HW
  isplitl [HO]; · iexact HO
  iapply Hf
  rw [← hA]; iexact HA

/-- Step `i` of a loop over the other devices that pays nothing, with what else changes on the way. -/
def RunSt (O : ℕ → CellTallies nD τ sig Unit) (A B : Dev nD → sProp 𝕄) (R : ℕ → sProp 𝕄) (i : ℕ) : sProp 𝕄 :=
  iprop(World vs K ∗ owesE c (O i) ∗ fam i (others c A) (others c B) ∗ R i)

/-- One printed conditional of such a loop. -/
theorem run_if {α : Type} {C : Prop} {_ : Decidable C} {P : C → PG F α} {J : PG F α} {Q : α → sProp 𝕄} (i : ℕ) (hi : i < 8) (hC : C ↔ c.val ≠ i)
    {O : ℕ → CellTallies nD τ sig Unit} {A B : Dev nD → sProp 𝕄} {R : ℕ → sProp 𝕄}
    (hO : c.val = i → O i = O (i + 1)) (hR : c.val = i → R i ⊢ R (i + 1))
    (step : ∀ h : C, c ≠ ⟨i, hi⟩ → iprop(World vs K ∗ owesE c (O i) ∗ B ⟨i, hi⟩ ∗ R i)
      ⊢ iprop(((owesE c (O (i + 1)) ∗ A ⟨i, hi⟩ ∗ R (i + 1)) -∗ WP c J Q) -∗ WP c (P h) Q)) :
    RunSt vs K c O A B R i ⊢ iprop((RunSt vs K c O A B R (i + 1) -∗ WP c J Q) -∗ WP c (if h : C then P h else J) Q) := by
  unfold RunSt
  by_cases hc : C
  · rw [dif_pos hc]
    have hne : c.val ≠ i := hC.mp hc
    have hne' : c ≠ ⟨i, hi⟩ := fun h => hne (by rw [h])
    iintro ⟨#HW, HO, Hf, HR⟩ Hk
    ihave Hf' := (fam_others c i hi hne' A B) $$ Hf
    icases Hf' with ⟨HB, Hf⟩
    iapply (step hc hne') $$ [HO HB HR]
    · isplitr; · iexact HW
      isplitl [HO]; · iexact HO
      isplitl [HB]; · iexact HB
      iexact HR
    iintro ⟨HO, HA, HR⟩
    iapply Hk
    isplitr; · iexact HW
    isplitl [HO]; · iexact HO
    isplitl [Hf HA]
    · iapply Hf; iexact HA
    iexact HR
  · rw [dif_neg hc]
    have he : c.val = i := by by_contra h'; exact hc (hC.mpr h')
    rw [hO he]
    iintro ⟨#HW, HO, Hf, HR⟩ Hk
    iapply Hk
    isplitr; · iexact HW
    isplitl [HO]; · iexact HO
    isplitl [Hf]
    · iapply (fam_self c i hi (Fin.ext he) A B); iexact Hf
    iapply (hR he); iexact HR

theorem lev_mid (k : ℕ) (hk : k < 40) (h : 6 ≤ k) (h' : k < 15) : lev (.dma ⟨k, hk⟩) = 2 :=
  (if_neg (show ¬ k < 6 by omega)).trans (if_pos h')
theorem lev_low (k : ℕ) (hk : k < 40) (h : 15 ≤ k) (h' : k < 32) : lev (.dma ⟨k, hk⟩) = 0 :=
  (if_neg (show ¬ k < 6 by omega)).trans ((if_neg (show ¬ k < 15 by omega)).trans (if_pos h'))
theorem lev_high (k : ℕ) (hk : k < 40) (h : 32 ≤ k) : lev (.dma ⟨k, hk⟩) = 3 :=
  (if_neg (show ¬ k < 6 by omega)).trans ((if_neg (show ¬ k < 15 by omega)).trans (if_neg (show ¬ k < 32 by omega)))

end Cert.KernelIdeal.Fused

end
-- ==== Proof.Combine.lean ====
/-
  The sums combined: quotients, the output projection, and the sums themselves.
-/
module

public import proofs.«01_k».proof.Proof.Waits

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

theorem num_ok (h : Fin 8) : ∀ a, (![0, h.val * 128] : Fin 2 → ℕ) a + S128x128.size a ≤ S128x1152.size a := by
  intro a; fin_cases a <;> simp [Shape.size] <;> omega
theorem den_ok (h : Fin 8) : ∀ a, (![0, 1024 + h.val] : Fin 2 → ℕ) a + S128x1.size a ≤ S128x1152.size a := by
  intro a; fin_cases a <;> simp [Shape.size] <;> omega

/-- A head's numerators over its denominators. -/
def quot (b : S128x1152.Idx → Elt F .f32) (h : Fin 8) : S128x128.Idx → Elt F .f32 :=
  divf (φ := .f32) (VecWindow.window b ![0, h.val * 128] S128x128.size (num_ok h))
    (broadcastTo S128x128 (VecWindow.window b ![0, 1024 + h.val] S128x1.size (den_ok h)) broadcasts_S128x1_S128x128)

/-- The heads side by side. -/
def heads (b : S128x1152.Idx → Elt F .f32) : S128x1024.Idx → Elt F .f32 :=
  concatenate S128x1024 1 [⟨S128x128, quot b 0⟩, ⟨S128x128, quot b 1⟩, ⟨S128x128, quot b 2⟩, ⟨S128x128, quot b 3⟩, ⟨S128x128, quot b 4⟩,
    ⟨S128x128, quot b 5⟩, ⟨S128x128, quot b 6⟩, ⟨S128x128, quot b 7⟩] concatenates_S128x128_S128x128_S128x128_S128x128_S128x128_S128x128_S128x128_S128x128_S128x1024_d1

/-- A device's block of finished rows. -/
def oblk (b : S128x1152.Idx → Elt F .f32) (wo : S1024x1024.Idx → Elt F .f32) : S128x1024.Idx → Elt F .f32 :=
  matmul dot_S128x1024_S1024x1024_S128x1024_1_0_0_1_n_n none (heads b) (shapeCast S1024x1024 (win wo 0 0 1024 1024 (by omega) (by omega)) (cast_self 1024 1024))
    (constant S128x1024 .f32 0x00000000#32)

/-- The finished rows as they travel, and as another device stores them. -/
def obf (o : S128x1024.Idx → Elt F .f32) : S128x1024.Idx → Elt F .bf16 :=
  shapeCast S128x1024 (truncf (φ := .f32) .bf16 o bitsLt_bf16_f32) (cast_self 128 1024)

/-- The block as the sum buffer first holds it. -/
def bs0 (t : S128x1152.Idx → Elt F .bf16) : S128x1152.Idx → Elt F .f32 :=
  shapeCast S128x1152 (extf (φ := .bf16) .f32 t bitsLt_bf16_f32) (cast_self 128 1152)

/-- Device 0's sum: its first block, and what the devices add to the global rows. -/
def bsG (t : S128x1152.Idx → Elt F .bf16) (C : ℕ → S1x32x1152.Idx → Elt F .bf16) : S128x1152.Idx → Elt F .f32 :=
  VecWindow.put (s := S128x1152) (bs0 t) ![0, 0] S32x1152.size
    (k0_pay402 (k0_pay396 (C 0) (C 1)) (C 2) (C 3) (C 4) (C 5) (C 6)
      (VecWindow.window (bs0 t) ![0, 0] S32x1152.size inb_S128x1152_S32x1152_0_0))

/-- Another device's: what device 0 sent it; device 7's also what device 1 sent. -/
def bsO (t : S1x128x1152.Idx → Elt F .bf16) : S128x1152.Idx → Elt F .f32 := k0_pay403 t
def bs7 (t u : S1x128x1152.Idx → Elt F .bf16) : S128x1152.Idx → Elt F .f32 := k0_pay404 (bsO t) u

theorem num_read (b : S128x1152.Idx → Elt F .f32) (o : ℕ) (inb : ∀ a : Fin S128x1152.rank, (![0, o] : Fin 2 → ℕ) a + S128x128.size a ≤ S128x1152.size a) :
    View.readAt (Elt F) bsM.view (Rect.unit (s := S128x1152) ![0, o] S128x128.size inb).toLoadRect (bsM.view.rep b) = VecWindow.window b ![0, o] S128x128.size inb :=
  View.readAt_rep_unit bsM.view b inb rfl inb
theorem den_read (b : S128x1152.Idx → Elt F .f32) (o : ℕ) (inb : ∀ a : Fin S128x1152.rank, (![0, o] : Fin 2 → ℕ) a + S128x1.size a ≤ S128x1152.size a) :
    View.readAt (Elt F) bsM.view (Rect.unit (s := S128x1152) ![0, o] S128x1.size inb).toLoadRect (bsM.view.rep b) = VecWindow.window b ![0, o] S128x1.size inb :=
  View.readAt_rep_unit bsM.view b inb rfl inb

/-- A head's quotient as the kernel computes it from the buffer. -/
theorem quot_read (b : S128x1152.Idx → Elt F .f32) (h : Fin 8) (o p : ℕ) (ho : o = h.val * 128) (hp : p = 1024 + h.val)
    (inb : ∀ a : Fin S128x1152.rank, (![0, o] : Fin 2 → ℕ) a + S128x128.size a ≤ S128x1152.size a)
    (inb' : ∀ a : Fin S128x1152.rank, (![0, p] : Fin 2 → ℕ) a + S128x1.size a ≤ S128x1152.size a) :
    divf (φ := .f32) (View.readAt (Elt F) bsM.view (Rect.unit (s := S128x1152) ![0, o] S128x128.size inb).toLoadRect (bsM.view.rep b))
      (broadcastTo S128x128 (View.readAt (Elt F) bsM.view (Rect.unit (s := S128x1152) ![0, p] S128x1.size inb').toLoadRect (bsM.view.rep b) : FVec F S128x1 .f32) broadcasts_S128x1_S128x128) = quot b h := by
  subst ho hp
  rw [num_read, den_read]; rfl

/-- The first three quotients as the kernel returns them. -/
theorem ret_three (c : Dev nD) (b : S128x1152.Idx → Elt F .f32) (Q : (Σ' (_ : FVec F S128x128 .f32) (_ : FVec F S128x128 .f32), FVec F S128x128 .f32) → sProp 𝕄) :
    Q ⟨quot b 0, quot b 1, quot b 2⟩ ⊢ WP c (F := F) (.ret
      ⟨k0_pay405 (View.readAt (Elt F) bsM.view (Rect.unit (s := S128x1152) ![0, 0] S128x128.size inb_S128x1152_S128x128_0_0).toLoadRect (bsM.view.rep b))
          (View.readAt (Elt F) bsM.view (Rect.unit (s := S128x1152) ![0, 1024] S128x1.size inb_S128x1152_S128x1_0_1024).toLoadRect (bsM.view.rep b)),
        k0_pay406 (View.readAt (Elt F) bsM.view (Rect.unit (s := S128x1152) ![0, 128] S128x128.size inb_S128x1152_S128x128_0_128).toLoadRect (bsM.view.rep b))
          (View.readAt (Elt F) bsM.view (Rect.unit (s := S128x1152) ![0, 1025] S128x1.size inb_S128x1152_S128x1_0_1025).toLoadRect (bsM.view.rep b)),
        k0_pay407 (View.readAt (Elt F) bsM.view (Rect.unit (s := S128x1152) ![0, 256] S128x128.size inb_S128x1152_S128x128_0_256).toLoadRect (bsM.view.rep b))
          (View.readAt (Elt F) bsM.view (Rect.unit (s := S128x1152) ![0, 1026] S128x1.size inb_S128x1152_S128x1_0_1026).toLoadRect (bsM.view.rep b))⟩) Q := by
  have h0 := quot_read b 0 0 1024 rfl rfl inb_S128x1152_S128x128_0_0 inb_S128x1152_S128x1_0_1024
  have h1 := quot_read b 1 128 1025 rfl rfl inb_S128x1152_S128x128_0_128 inb_S128x1152_S128x1_0_1025
  have h2 := quot_read b 2 256 1026 rfl rfl inb_S128x1152_S128x128_0_256 inb_S128x1152_S128x1_0_1026
  rw [← h0, ← h1, ← h2]
  exact ret_run c

/-! A load of a whole slot reads what the slot holds. -/

theorem c0_read (k : ℕ) (hk : k < 7) (inb : ∀ a : Fin S7x32x1152.rank, (![k, 0, 0] : Fin 3 → ℕ) a + S1x32x1152.size a ≤ S7x32x1152.size a) (x : S1x32x1152.Idx → Elt F .bf16) :
    View.readAt (Elt F) c0M.view (Rect.unit (s := S7x32x1152) ![k, 0, 0] S1x32x1152.size inb).toLoadRect ((c0S k hk).view.rep x) = x :=
  Memref.readAt_slice_rep c0M inb rfl _ x
theorem cx_read (k : ℕ) (hk : k < 2) (inb : ∀ a : Fin S2x128x1152.rank, (![k, 0, 0] : Fin 3 → ℕ) a + S1x128x1152.size a ≤ S2x128x1152.size a) (x : S1x128x1152.Idx → Elt F .bf16) :
    View.readAt (Elt F) cxM.view (Rect.unit (s := S2x128x1152) ![k, 0, 0] S1x128x1152.size inb).toLoadRect ((cxS k hk).view.rep x) = x :=
  Memref.readAt_slice_rep cxM inb rfl _ x
theorem ad_read (k : ℕ) (hk : k < 8) (inb : ∀ a : Fin S8x128x1024.rank, (![k, 0, 0] : Fin 3 → ℕ) a + S1x128x1024.size a ≤ S8x128x1024.size a) (x : S1x128x1024.Idx → Elt F .bf16) :
    View.readAt (Elt F) adM.view (Rect.unit (s := S8x128x1024) ![k, 0, 0] S1x128x1024.size inb).toLoadRect ((adS k hk).view.rep x) = x :=
  Memref.readAt_slice_rep adM inb rfl _ x

theorem pay402_congr {a₀ a₁ a₂ a₃ a₄ a₅ a₆ b₀ b₁ b₂ b₃ b₄ b₅ b₆ : S1x32x1152.Idx → Elt F .bf16} {w : S32x1152.Idx → Elt F .f32}
    (h₀ : a₀ = b₀) (h₁ : a₁ = b₁) (h₂ : a₂ = b₂) (h₃ : a₃ = b₃) (h₄ : a₄ = b₄) (h₅ : a₅ = b₅) (h₆ : a₆ = b₆) :
    k0_pay402 (k0_pay396 a₀ a₁) a₂ a₃ a₄ a₅ a₆ w = k0_pay402 (k0_pay396 b₀ b₁) b₂ b₃ b₄ b₅ b₆ w := by
  rw [h₀, h₁, h₂, h₃, h₄, h₅, h₆]

end Cert.KernelIdeal.Fused

end
-- ==== Proof.Part63.lean ====
/-
  A device's own finished rows.
-/
module

public import proofs.«01_k».proof.Proof.Combine

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (vs : Vals F) (K : GSem nD τ sig → ℕ) (c : Dev nD)

/-- The finished block as the kernel computes it from the buffers. -/
theorem oblk_read (b : S128x1152.Idx → Elt F .f32) (wo : S1024x1024.Idx → Elt F .f32) :
    k0_pay408 (quot b 0) (quot b 1) (quot b 2)
      (View.readAt (Elt F) bsM.view (Rect.unit (s := S128x1152) ![0, 384] S128x128.size inb_S128x1152_S128x128_0_384).toLoadRect (bsM.view.rep b))
      (View.readAt (Elt F) bsM.view (Rect.unit (s := S128x1152) ![0, 1027] S128x1.size inb_S128x1152_S128x1_0_1027).toLoadRect (bsM.view.rep b))
      (View.readAt (Elt F) bsM.view (Rect.unit (s := S128x1152) ![0, 512] S128x128.size inb_S128x1152_S128x128_0_512).toLoadRect (bsM.view.rep b))
      (View.readAt (Elt F) bsM.view (Rect.unit (s := S128x1152) ![0, 1028] S128x1.size inb_S128x1152_S128x1_0_1028).toLoadRect (bsM.view.rep b))
      (View.readAt (Elt F) bsM.view (Rect.unit (s := S128x1152) ![0, 640] S128x128.size inb_S128x1152_S128x128_0_640).toLoadRect (bsM.view.rep b))
      (View.readAt (Elt F) bsM.view (Rect.unit (s := S128x1152) ![0, 1029] S128x1.size inb_S128x1152_S128x1_0_1029).toLoadRect (bsM.view.rep b))
      (View.readAt (Elt F) bsM.view (Rect.unit (s := S128x1152) ![0, 768] S128x128.size inb_S128x1152_S128x128_0_768).toLoadRect (bsM.view.rep b))
      (View.readAt (Elt F) bsM.view (Rect.unit (s := S128x1152) ![0, 1030] S128x1.size inb_S128x1152_S128x1_0_1030).toLoadRect (bsM.view.rep b))
      (View.readAt (Elt F) bsM.view (Rect.unit (s := S128x1152) ![0, 896] S128x128.size inb_S128x1152_S128x128_0_896).toLoadRect (bsM.view.rep b))
      (View.readAt (Elt F) bsM.view (Rect.unit (s := S128x1152) ![0, 1031] S128x1.size inb_S128x1152_S128x1_0_1031).toLoadRect (bsM.view.rep b))
      (View.readAt (Elt F) woM.view (Rect.unit (s := S1024x1024) ![0, 0] S1024x1024.size inb_S1024x1024_S1024x1024_0_0).toLoadRect wo)
      = oblk b wo := by
  have hw : View.readAt (Elt F) woM.view (Rect.unit (s := S1024x1024) ![0, 0] S1024x1024.size inb_S1024x1024_S1024x1024_0_0).toLoadRect wo
      = win wo 0 0 1024 1024 (by omega) (by omega) := rfl
  unfold oblk heads
  rw [hw, ← quot_read b 3 384 1027 rfl rfl inb_S128x1152_S128x128_0_384 inb_S128x1152_S128x1_0_1027,
    ← quot_read b 4 512 1028 rfl rfl inb_S128x1152_S128x128_0_512 inb_S128x1152_S128x1_0_1028,
    ← quot_read b 5 640 1029 rfl rfl inb_S128x1152_S128x128_0_640 inb_S128x1152_S128x1_0_1029,
    ← quot_read b 6 768 1030 rfl rfl inb_S128x1152_S128x128_0_768 inb_S128x1152_S128x1_0_1030,
    ← quot_read b 7 896 1031 rfl rfl inb_S128x1152_S128x128_0_896 inb_S128x1152_S128x1_0_1031]
  unfold k0_pay408
  rfl

/-- The result after the device's own block is in, and after the first `i` devices' blocks are. -/
def oOwn (base : S1x1024x1024.Idx → Elt F .f32) (o : S128x1024.Idx → Elt F .f32) : S1x1024x1024.Idx → Elt F .f32 :=
  VecWindow.put (s := S1x1024x1024) base ![0, 128 * c.val, 0] S1x128x1024.size (shapeCast S1x128x1024 o (cast_to_one 128 1024))
def oExt (a : S1x128x1024.Idx → Elt F .bf16) : S1x128x1024.Idx → Elt F .f32 := k0_pay411 a
def oRow (base : S1x1024x1024.Idx → Elt F .f32) (o : S128x1024.Idx → Elt F .f32) : ℕ → S1x1024x1024.Idx → Elt F .f32
  | 0 => oOwn c base o
  | i + 1 => if c.val = i then oRow base o i
    else VecWindow.put (s := S1x1024x1024) (oRow base o i) ![0, 128 * i, 0] S1x128x1024.size (oExt (lead squeezes_S1x128x1024_S128x1024 (vs.ag (Fin.ofNat 8 i))))

theorem part63_run (I : Ins F) (b : S128x1152.Idx → Elt F .f32) (base : S1x1024x1024.Idx → Elt F .f32) (Q : FVec F S128x1024 .bf16 → sProp 𝕄) :
   iprop(insAt c I ∗ has bsM c fullShare b ∗ has oM c fullShare base ∗ hasAny (F := F) agM c
     ∗ ((insAt c I ∗ has bsM c fullShare b ∗ has oM c fullShare (oOwn c base (oblk b I.wo)) ∗ hasAny (F := F) agM c) -∗ Q (obf (oblk b I.wo))))
     ⊢ WP c (atArgs (k0_part63 (F := F)) c (myW c) (quot b 0) (quot b 1) (quot b 2)) Q := by
  rw [k0_part63_eq_skeleton]
  unfold WP atArgs k0_part63_skel insAt holds has hasAny
  iintro ⟨⟨Hx, Hwq, Hk, Hv, Hwo⟩, Hb, Ho, ⟨%f, Hg⟩, Hpost⟩
  sl_exec
  ihave Ho : has oM c fullShare (oOwn c base (oblk b I.wo)) $$ [Ho]
  · iapply (has_of_read oM c fullShare _ _ ?_) $$ Ho
    refine (View.read_writes_rep_unit oM.view base (k0_off1_inb c) _ (k0_off1_eq c)).trans ?_
    exact congrArg (fun w => VecWindow.put (s := S1x1024x1024) base ![0, 128 * c.val, 0] S1x128x1024.size (shapeCast S1x128x1024 w (cast_to_one 128 1024))) (oblk_read b I.wo)
  unfold has
  iapply (ret_run (a := obf (k0_pay408 (quot b 0) (quot b 1) (quot b 2)
      (View.readAt (Elt F) bsM.view (Rect.unit (s := S128x1152) ![0, 384] S128x128.size inb_S128x1152_S128x128_0_384).toLoadRect (bsM.view.rep b))
      (View.readAt (Elt F) bsM.view (Rect.unit (s := S128x1152) ![0, 1027] S128x1.size inb_S128x1152_S128x1_0_1027).toLoadRect (bsM.view.rep b))
      (View.readAt (Elt F) bsM.view (Rect.unit (s := S128x1152) ![0, 512] S128x128.size inb_S128x1152_S128x128_0_512).toLoadRect (bsM.view.rep b))
      (View.readAt (Elt F) bsM.view (Rect.unit (s := S128x1152) ![0, 1028] S128x1.size inb_S128x1152_S128x1_0_1028).toLoadRect (bsM.view.rep b))
      (View.readAt (Elt F) bsM.view (Rect.unit (s := S128x1152) ![0, 640] S128x128.size inb_S128x1152_S128x128_0_640).toLoadRect (bsM.view.rep b))
      (View.readAt (Elt F) bsM.view (Rect.unit (s := S128x1152) ![0, 1029] S128x1.size inb_S128x1152_S128x1_0_1029).toLoadRect (bsM.view.rep b))
      (View.readAt (Elt F) bsM.view (Rect.unit (s := S128x1152) ![0, 768] S128x128.size inb_S128x1152_S128x128_0_768).toLoadRect (bsM.view.rep b))
      (View.readAt (Elt F) bsM.view (Rect.unit (s := S128x1152) ![0, 1030] S128x1.size inb_S128x1152_S128x1_0_1030).toLoadRect (bsM.view.rep b))
      (View.readAt (Elt F) bsM.view (Rect.unit (s := S128x1152) ![0, 896] S128x128.size inb_S128x1152_S128x128_0_896).toLoadRect (bsM.view.rep b))
      (View.readAt (Elt F) bsM.view (Rect.unit (s := S128x1152) ![0, 1031] S128x1.size inb_S128x1152_S128x1_0_1031).toLoadRect (bsM.view.rep b))
      (View.readAt (Elt F) woM.view (Rect.unit (s := S1024x1024) ![0, 0] S1024x1024.size inb_S1024x1024_S1024x1024_0_0).toLoadRect I.wo))) c)
  rw [oblk_read]
  iapply Hpost
  isplitl [Hx Hwq Hk Hv Hwo]
  · isplitl [Hx]; · iexact Hx
    isplitl [Hwq]; · iexact Hwq
    isplitl [Hk]; · iexact Hk
    isplitl [Hv]; · iexact Hv
    iexact Hwo
  isplitl [Hb]; · iexact Hb
  isplitl [Ho]; · iexact Ho
  iexists f; iexact Hg

end Cert.KernelIdeal.Fused

end
-- ==== Proof.Gather.lean ====
/-
  The finished rows' copies, their arrivals, and the last semaphore: one conditional of each loop.
-/
module

public import proofs.«01_k».proof.Proof.Part63

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (vs : Vals F) (K : GSem nD τ sig → ℕ) (c : Dev nD)

/-- A step of a loop that pays, with what follows as a premise held. -/
theorem loop_ifw {α : Type} {C : Prop} {_ : Decidable C} {P : C → PG F PUnit} {J : PG F α} {Q : α → sProp 𝕄} (i : ℕ) (hi : i < 8) (hC : C ↔ c.val ≠ i)
    {O : CellTallies nD τ sig Unit} {own : Dev nD → CellTallies nD τ sig Unit} {A B : Dev nD → sProp 𝕄}
    (step : ∀ h : C, c ≠ ⟨i, hi⟩ → iprop(World vs K ∗ owesE c ((O + osum c own (i + 1)) + own ⟨i, hi⟩) ∗ B ⟨i, hi⟩)
      ⊢ iprop(((owesE c (O + osum c own (i + 1)) ∗ A ⟨i, hi⟩) -∗ WP c J Q) -∗ WP c (P h >>= fun _ => J) Q))
    {P' : C → PG F α} (hP : ∀ h, P' h = P h >>= fun _ => J) :
    LoopSt vs K c O own A B iprop(emp) i ⊢ iprop((LoopSt vs K c O own A B iprop(emp) (i + 1) -∗ WP c J Q) -∗ WP c (if h : C then P' h else J) Q) := by
  rw [show P' = fun h => P h >>= fun _ => J from funext hP]
  have h := loop_if vs K c (Q := Q) (J := J) i hi hC (O := O) (R := iprop(LoopSt vs K c O own A B iprop(emp) (i + 1) -∗ WP c J Q)) step (by
    unfold LoopSt
    iintro ⟨#HW, HO, Hf, Hk⟩
    iapply Hk
    isplitr; · iexact HW
    isplitl [HO]; · iexact HO
    isplitl [Hf]; · iexact Hf
    itrivial)
  iintro H Hk
  iapply h
  unfold LoopSt
  icases H with ⟨#HW, HO, Hf, -⟩
  isplitr; · iexact HW
  isplitl [HO]; · iexact HO
  isplitl [Hf]; · iexact Hf
  iexact Hk

/-! ## The finished rows' copies -/

theorem ag_lt (p : Dev nD) : p.val + 24 < 40 := by have h : p.val < 8 := p.isLt; omega
theorem ar_lt (p : Dev nD) : p.val + 32 < 40 := by have h : p.val < 8 := p.isLt; omega

/-- What the device owes for the copy to `p`; what is held of it before; and after, until it has left. -/
abbrev agOwn (p : Dev nD) : CellTallies nD τ sig Unit := tallyAt (dmaCell p (c.val + 32) (ar_lt c)) () NO
abbrev awB (p : Dev nD) : sProp 𝕄 := iprop(cred (tallyAt (dmaCell c (p.val + 24) (ag_lt p)) () NO) ∗ atPos ER (dmaCell c (p.val + 24) (ag_lt p)) 0 ∅ 0)
abbrev awA (p : Dev nD) : sProp 𝕄 := iprop(atPos ER (dmaCell c (p.val + 24) (ag_lt p)) 1 ∅ 0 ∗ has agM c (Transfers.shareTokN fullShare p.val) (vs.ag c))
abbrev agB0 (p : Dev nD) : sProp 𝕄 :=
  iprop(hasAny (F := F) (adS c.val c.isLt) p ∗ dutyTok ER (dmaCell c (p.val + 24) (ag_lt p)) 0 c ∗ reached ER (dmaCell c (p.val + 24) (ag_lt p)) 0
    ∗ dutyTok ER (dmaCell p (c.val + 32) (ar_lt c)) 0 c ∗ reached ER (dmaCell p (c.val + 32) (ar_lt c)) 0
    ∗ atPos ER (dmaCell c (p.val + 24) (ag_lt p)) 0 ∅ 0)
abbrev agB (p : Dev nD) : sProp 𝕄 := iprop(agB0 c p ∗ has agM c (Transfers.shareTokN fullShare p.val) (vs.ag c))

/-- What waits for the rows of `p`, and what comes of it. -/
abbrev arB (p : Dev nD) : sProp 𝕄 := iprop(cred (tallyAt (dmaCell c (p.val + 32) (ar_lt p)) () NO) ∗ atPos ER (dmaCell c (p.val + 32) (ar_lt p)) 0 ∅ 0)
abbrev arA (p : Dev nD) : sProp 𝕄 := iprop(atPos ER (dmaCell c (p.val + 32) (ar_lt p)) 1 ∅ 0
  ∗ has (adS p.val p.isLt) c fullShare (lead squeezes_S1x128x1024_S128x1024 (vs.ag p)))

theorem sem_inb : ∀ a, (![c.val] : Fin 1 → ℕ) a + S1.size a ≤ S8.size a := by revert c; decide
/-- The arrival semaphore the device's rows use. -/
def arSem : DmaSem sig := ((cc0_scratch13.slice (Rect.unit (s := S8) ![c.val] S1.size (sem_inb c))).squeeze S_ squeezes_S1_S_).sem
theorem arSem_eq : arSem c = ⟨c.val + 32, ar_lt c⟩ := by revert c; decide

theorem payers_ar (i : ℕ) (hi : i < 8) (hne : c ≠ ⟨i, hi⟩) : payers c (.dma ⟨i + 32, by show i + 32 < 40; omega⟩) = {⟨i, hi⟩} := by
  have h : ∀ p c : Dev nD, c ≠ p → payers c (.dma ⟨p.val + 32, ar_lt p⟩) = {p} := by decide
  exact h ⟨i, hi⟩ c hne
theorem payers_ag (i : ℕ) (hi : i < 8) (hne : c ≠ ⟨i, hi⟩) : payers c (.dma ⟨i + 24, by show i + 24 < 40; omega⟩) = {c} := by
  have h : ∀ p c : Dev nD, c ≠ p → payers c (.dma ⟨p.val + 24, ag_lt p⟩) = {c} := by decide
  exact h ⟨i, hi⟩ c hne

theorem ag_if {α : Type} {C : Prop} {_ : Decidable C} (i : ℕ) (hi : i < 8) (hC : C ↔ c.val ≠ i)
    (hsc : ((adS c.val c.isLt).squeeze S128x1024 squeezes_S1x128x1024_S128x1024).view.ref.isScScratch = false)
    (hsrc : agM.view.WordExact)
    (hdst : ((adS c.val c.isLt).squeeze S128x1024 squeezes_S1x128x1024_S128x1024).view.WordExact)
    (hsem : DmaTarget.Typed .vmem (.dma (arSem c)) (.remote ((⟨i, hi⟩ : Dev nD) : Thread nD τ) ((adS c.val c.isLt).squeeze S128x1024 squeezes_S1x128x1024_S128x1024) (.dma ⟨i + 24, by show i + 24 < 40; omega⟩) hsc))
    {J : PG F α} {P : C → PG F α} {Q : α → sProp 𝕄} {O : CellTallies nD τ sig Unit}
    (hP : ∀ h, P h = (Prog.lift (.enqueueDma agM (.remote ((⟨i, hi⟩ : Dev nD) : Thread nD τ) ((adS c.val c.isLt).squeeze S128x1024 squeezes_S1x128x1024_S128x1024) (.dma ⟨i + 24, by show i + 24 < 40; omega⟩) hsc)
          (.dma (arSem c)) hsrc hdst hsem) >>= fun _ => J)) :
    LoopSt vs K c O (agOwn c) (awB c) (agB vs c) iprop(emp) i ⊢ iprop((LoopSt vs K c O (agOwn c) (awB c) (agB vs c) iprop(emp) (i + 1) -∗ WP c J Q)
      -∗ WP c (if h : C then P h else J) Q) := by
  refine loop_ifw vs K c i hi hC (fun hc hne => ?_) hP
  revert hsem
  rw [arSem_eq]
  intro hsem hP
  have hv : c.val ≠ i := fun h => hne (Fin.ext h)
  have h8 : c.val < 8 := c.isLt
  iintro ⟨#HW, HO, ⟨⟨Hd, Ht₁, Hr₁, Ht₂, Hr₂, Hat⟩, Hs⟩⟩ Hk
  have l₁ : i + 24 < 40 := by omega
  have l₂ : c.val + 32 < 40 := by omega
  have l₃ : 6 ≤ i + 24 := by omega
  have l₄ : 6 ≤ c.val + 32 := by omega
  have a₁ : amt (.dma ⟨i + 24, l₁⟩) = NO := amtO _ _ (by omega)
  have a₂ : amt (.dma ⟨c.val + 32, l₂⟩) = NO := amtO _ _ (by omega)
  have n₁ : ((adS c.val c.isLt).squeeze S128x1024 squeezes_S1x128x1024_S128x1024).view.dmaCredit = NO := by unfold NO; rfl
  have m₁ : c ∈ payers c (.dma ⟨i + 24, l₁⟩) := by rw [payers_ag c i hi hne]; exact Finset.mem_singleton_self c
  have m₂ : c ∈ payers ⟨i, hi⟩ (.dma ⟨c.val + 32, l₂⟩) := by rw [payers_ar ⟨i, hi⟩ c.val c.isLt hne.symm]; exact Finset.mem_singleton_self _
  unfold has
  iapply (send_to vs K c (p := ⟨i, hi⟩) (src := agM)
      (adS c.val c.isLt) squeezes_S1x128x1024_S128x1024 (i + 24) (c.val + 32) l₁ l₂ l₃ l₄ (q := Transfers.shareTokN fullShare i) (k := fun _ => J)
      m₁ m₂ NO n₁ a₁ a₂ _
      (by rw [pay_ags vs c c i hi]; exact BIBase.Entails.rfl)
      (by rw [View.read_rep, pay_agr vs _ c c.val c.isLt])) $$ [Hs Hd HO Ht₁ Hr₁ Ht₂ Hr₂]
  · isplitr; · iexact HW
    isplitl [Hs]; · iexact Hs
    isplitl [Hd]; · iexact Hd
    isplitl [HO]; · iexact HO
    isplitl [Ht₁]; · iexact Ht₁
    isplitl [Hr₁]; · iexact Hr₁
    isplitl [Ht₂]; · iexact Ht₂
    iexact Hr₂
  iintro ⟨Hc, HO⟩
  iapply Hk
  isplitl [HO]; · iexact HO
  isplitl [Hc]; · iexact Hc
  iexact Hat

/-! ## The finished rows' arrivals -/

/-- The arrivals' state before step `i`. -/
abbrev ArSt (O : CellTallies nD τ sig Unit) (base : S1x1024x1024.Idx → Elt F .f32) (o : S128x1024.Idx → Elt F .f32) : ℕ → sProp 𝕄 :=
  RunSt vs K c (fun _ => O) (arA vs c) (arB c) (fun i => has oM c fullShare (oRow vs c base o i))

theorem ar_if {α : Type} {C : Prop} {_ : Decidable C} (i : ℕ) (hi : i < 8) (hC : C ↔ c.val ≠ i) {O : CellTallies nD τ sig Unit} (hO : Above 3 O)
    (inb : ∀ a : Fin S8x128x1024.rank, (![i, 0, 0] : Fin 3 → ℕ) a + S1x128x1024.size a ≤ S8x128x1024.size a)
    (inbO : ∀ a : Fin S1x1024x1024.rank, (![0, 128 * i, 0] : Fin 3 → ℕ) a + S1x128x1024.size a ≤ S1x1024x1024.size a)
    (hsrc : agM.view.WordExact)
    (hdst : ((adS i hi).squeeze S128x1024 squeezes_S1x128x1024_S128x1024).view.WordExact)
    {base : S1x1024x1024.Idx → Elt F .f32} {o : S128x1024.Idx → Elt F .f32}
    {J : PG F α} {P : C → PG F α} {Q : α → sProp 𝕄}
    (hP : ∀ h, P h = (Prog.lift (.waitDma2 ⟨i + 32, by show i + 32 < 40; omega⟩ agM ((adS i hi).squeeze S128x1024 squeezes_S1x128x1024_S128x1024) hsrc hdst) >>= fun _ =>
      Prog.lift (.load adM (Rect.unit (s := S8x128x1024) ![i, 0, 0] S1x128x1024.size inb).toLoadRect (View.loadsAt_vmem h_S1x128x1024)) >>= fun v =>
      Prog.lift (.load oM (Rect.unit (s := S1x1024x1024) ![0, 128 * i, 0] S1x128x1024.size inbO).toLoadRect (View.loadsAt_vmem h_S1x128x1024)) >>= fun _ =>
      Prog.lift (.store oM (Rect.unit (s := S1x1024x1024) ![0, 128 * i, 0] S1x128x1024.size inbO) (oExt v) Finset.univ (View.stores_vmem_bits_univ h_S1x128x1024 rfl) (.inl rfl)) >>= fun _ => J)) :
    ArSt vs K c O base o i ⊢ iprop((ArSt vs K c O base o (i + 1) -∗ WP c J Q) -∗ WP c (if h : C then P h else J) Q) := by
  refine run_if vs K c i hi hC (fun _ => rfl) (fun he => ?_) (fun hc hne => ?_)
  · rw [show oRow vs c base o (i + 1) = oRow vs c base o i from if_pos he]
  rw [hP hc]
  have hv : c.val ≠ i := fun h => hne (Fin.ext h)
  have l₂ : i + 32 < 40 := by omega
  have l₄ : 6 ≤ i + 32 := by omega
  have a₂ : amt (.dma ⟨i + 32, l₂⟩) = NO := amtO _ _ (by omega)
  have n₁ : ((adS i hi).squeeze S128x1024 squeezes_S1x128x1024_S128x1024).view.dmaCredit = NO := by unfold NO; rfl
  have ab : Above (lev (.dma ⟨i + 32, l₂⟩)) O := by rw [lev_high (i + 32) l₂ (by omega)]; exact hO
  iintro ⟨#HW, HO, ⟨Hc, Ha⟩, HR⟩ Hk
  iapply (wait_dma vs K c (i + 32) l₄ l₂ (by exact rfl) NO n₁ a₂ ⟨i, hi⟩ (payers_ar c i hi hne) O ab (kk := fun _ =>
      Prog.lift (.load adM (Rect.unit (s := S8x128x1024) ![i, 0, 0] S1x128x1024.size inb).toLoadRect (View.loadsAt_vmem h_S1x128x1024)) >>= fun v =>
      Prog.lift (.load oM (Rect.unit (s := S1x1024x1024) ![0, 128 * i, 0] S1x128x1024.size inbO).toLoadRect (View.loadsAt_vmem h_S1x128x1024)) >>= fun _ =>
      Prog.lift (.store oM (Rect.unit (s := S1x1024x1024) ![0, 128 * i, 0] S1x128x1024.size inbO) (oExt v) Finset.univ (View.stores_vmem_bits_univ h_S1x128x1024 rfl) (.inl rfl)) >>= fun _ => J)) $$ [HO Hc Ha]
  · isplitr; · iexact HW
    isplitl [HO]; · iexact HO
    isplitl [Hc]; · iexact Hc
    iexact Ha
  iintro ⟨HO, Ha, Hd⟩
  ihave Hd := (Entails.of_eq (pay_agr vs c ⟨i, hi⟩ i hi)) $$ Hd
  unfold WP has
  sl_exec
  ihave HR : has oM c fullShare (oRow vs c base o (i + 1)) $$ [HR]
  · iapply (has_of_read oM c fullShare _ _ ?_) $$ HR
    refine (View.read_writes_rep_unit oM.view (oRow vs c base o i) inbO _ rfl).trans ?_
    rw [show oRow vs c base o (i + 1) = VecWindow.put (s := S1x1024x1024) (oRow vs c base o i) ![0, 128 * i, 0] S1x128x1024.size
      (oExt (lead squeezes_S1x128x1024_S128x1024 (vs.ag (Fin.ofNat 8 i)))) from if_neg hv, ad_read i hi inb,
      show (Fin.ofNat 8 i : Dev nD) = ⟨i, hi⟩ from Fin.ext (Nat.mod_eq_of_lt hi)]
  unfold has
  iapply Hk
  isplitl [HO]; · iexact HO
  isplitl [Ha Hd]
  · unfold arA has
    isplitl [Ha]; · iexact Ha
    iexact Hd
  iexact HR

/-! ## The finished rows' copies leave -/

abbrev AwSt (O : CellTallies nD τ sig Unit) : ℕ → sProp 𝕄 := RunSt vs K c (fun _ => O) (awA vs c) (awB c) (fun _ => iprop(emp))

theorem aw_if {α : Type} {C : Prop} {_ : Decidable C} (i : ℕ) (hi : i < 8) (hC : C ↔ c.val ≠ i) {O : CellTallies nD τ sig Unit} (hO : Above 0 O)
    (hsrc : ((adS 0 (by decide)).squeeze S128x1024 squeezes_S1x128x1024_S128x1024).view.WordExact)
    (hdst : agM.view.WordExact)
    {J : PG F α} {P : C → PG F α} {Q : α → sProp 𝕄}
    (hP : ∀ h, P h = (Prog.lift (.waitDma2 ⟨i + 24, by show i + 24 < 40; omega⟩ ((adS 0 (by decide)).squeeze S128x1024 squeezes_S1x128x1024_S128x1024) agM hsrc hdst) >>= fun _ => J)) :
    AwSt vs K c O i ⊢ iprop((AwSt vs K c O (i + 1) -∗ WP c J Q) -∗ WP c (if h : C then P h else J) Q) := by
  refine run_if vs K c i hi hC (fun _ => rfl) (fun _ => BIBase.Entails.rfl) (fun hc hne => ?_)
  rw [hP hc]
  have l₂ : i + 24 < 40 := by omega
  have l₄ : 6 ≤ i + 24 := by omega
  have a₂ : amt (.dma ⟨i + 24, l₂⟩) = NO := amtO _ _ (by omega)
  have n₁ : agM.view.dmaCredit = NO := by unfold NO; rfl
  have ab : Above (lev (.dma ⟨i + 24, l₂⟩)) O := by rw [lev_low (i + 24) l₂ (by omega) (by omega)]; exact hO
  iintro ⟨#HW, HO, ⟨Hc, Ha⟩, -⟩ Hk
  iapply (wait_dma vs K c (i + 24) l₄ l₂ (by exact rfl) NO n₁ a₂ c (payers_ag c i hi hne) O ab (kk := fun _ => J)) $$ [HO Hc Ha]
  · isplitr; · iexact HW
    isplitl [HO]; · iexact HO
    isplitl [Hc]; · iexact Hc
    iexact Ha
  iintro ⟨HO, Ha, Hd⟩
  ihave Hd := (Entails.of_eq (pay_ags vs c c i hi)) $$ Hd
  iapply Hk
  isplitl [HO]; · iexact HO
  isplitl [Ha Hd]
  · isplitl [Ha]; · iexact Ha
    iexact Hd
  itrivial

/-! ## The last semaphore -/

abbrev endB (p : Dev nD) : sProp 𝕄 := iprop(dutyTok ER (endCell p) 0 c ∗ pay vs p c (.reg ⟨1, by decide⟩) ∗ reached ER (endCell p) 0)
abbrev EndSt : ℕ → sProp 𝕄 := LoopSt vs K c 0 (fun p => tallyAt (endCell p) () 1) (fun _ => iprop(emp)) (endB vs c) iprop(emp)

theorem end_if {α : Type} {C : Prop} {_ : Decidable C} {J : PG F α} {P : C → PG F α} {Q : α → sProp 𝕄} (i : ℕ) (hi : i < 8) (hC : C ↔ c.val ≠ i)
    (hP : ∀ h, P h = ((semSignalWord (⟨i, hi⟩ : Dev nD) (⟨1, by decide⟩ : Sem sig) 1#32 : PG F PUnit) >>= fun _ => J)) :
    EndSt vs K c i ⊢ iprop((EndSt vs K c (i + 1) -∗ WP c J Q) -∗ WP c (if h : C then P h else J) Q) := by
  refine loop_ifw vs K c i hi hC (P := fun _ => semSignalWord (⟨i, hi⟩ : Dev nD) (⟨1, by decide⟩ : Sem sig) 1#32) (fun hc hne => ?_) hP
  iintro ⟨#HW, HO, Ht, Hp, Hr⟩ Hk
  iapply (sig_cell vs K c ⟨1, by decide⟩ (k := fun _ => J) (p := ⟨i, hi⟩) hne _ (end_mem ⟨i, hi⟩)) $$ [HO Ht Hp Hr]
  · isplitr; · iexact HW
    isplitl [HO]; · iexact HO
    isplitl [Ht]; · iexact Ht
    isplitl [Hp]; · iexact Hp
    iexact Hr
  iintro HO
  iapply Hk
  isplitl [HO]; · iexact HO
  itrivial

end Cert.KernelIdeal.Fused

end
-- ==== Proof.Part64.lean ====
/-
  The finished rows go out, and device 0's come in.
-/
module

public import proofs.«01_k».proof.Proof.Gather

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (vs : Vals F) (K : GSem nD τ sig → ℕ) (c : Dev nD)

/-- What a device keeps of its finished rows while the copies read them. -/
abbrev agRest : sProp 𝕄 := iprop(has agM c (Transfers.shareDrop fullShare 8) (vs.ag c) ∗ has agM c (Transfers.shareTokN fullShare c.val) (vs.ag c))

/-- Every device's piece, the own one set aside. -/
theorem others_sep (X Y : Dev nD → sProp 𝕄) :
    iprop(bigSep Finset.univ (others c X) ∗ bigSep Finset.univ Y) ⊢ iprop(bigSep Finset.univ (others c fun p => iprop(X p ∗ Y p)) ∗ Y c) := by
  rw [take_mem (s := Finset.univ) (Φ := Y) (Finset.mem_univ c), take_mem (s := Finset.univ) (Φ := others c X) (Finset.mem_univ c),
    take_mem (s := Finset.univ) (Φ := others c fun p => iprop(X p ∗ Y p)) (Finset.mem_univ c)]
  have e : ∀ Z : Dev nD → sProp 𝕄, others c Z c = iprop(emp) := fun Z => if_pos rfl
  have n : ∀ Z : Dev nD → sProp 𝕄, bigSep (Finset.univ.erase c) (others c Z) = bigSep (Finset.univ.erase c) Z := fun Z =>
    bigSep_congr fun p hp => if_neg (Finset.ne_of_mem_erase hp)
  rw [e, e, n, n, bigSep_sep' (s := Finset.univ.erase c) X Y]
  iintro ⟨⟨-, HX⟩, HY, HYs⟩
  isplitl [HX HYs]
  · isplitr; · itrivial
    isplitl [HX]; · iexact HX
    iexact HYs
  iexact HY

theorem ag_split : has agM c fullShare (vs.ag c) ⊢ iprop(has agM c (Transfers.shareDrop fullShare 8) (vs.ag c)
    ∗ bigSep Finset.univ fun p : Dev nD => has agM c (Transfers.shareTokN fullShare p.val) (vs.ag c)) :=
  Transfers.pointsTo_toks_split fullShare 8

theorem ag_words : (Rect.unit (s := S8x128x1024) ![c.val, 0, 0] S1x128x1024.size (inbAd c.val c.isLt)).WholeWords (EltTy.packing .bf16) := by
  revert c; decide +kernel

/-- The same conditional with the slot and the semaphore at offsets computed. -/
theorem ag_if' {α : Type} {C : Prop} {_ : Decidable C} (i : ℕ) (hi : i < 8) (hC : C ↔ c.val ≠ i)
    {o₂ : Fin S8.rank → ℕ} {o₃ : Fin S8x128x1024.rank → ℕ} (h₂ : o₂ = ![c.val]) (h₃ : o₃ = ![c.val, 0, 0])
    (i₂ : ∀ _ : C, ∀ a, o₂ a + S1.size a ≤ S8.size a) (i₃ : ∀ _ : C, ∀ a, o₃ a + S1x128x1024.size a ≤ S8x128x1024.size a)
    (hsc : ∀ h : C, ((adM.slice (Rect.unit (s := S8x128x1024) o₃ S1x128x1024.size (i₃ h)) (fun _ => rfl)).squeeze S128x1024 squeezes_S1x128x1024_S128x1024).view.ref.isScScratch = false)
    (hsrc : agM.view.WordExact)
    (hdst : ∀ h : C, ((adM.slice (Rect.unit (s := S8x128x1024) o₃ S1x128x1024.size (i₃ h)) (fun _ => rfl)).squeeze S128x1024 squeezes_S1x128x1024_S128x1024).view.WordExact)
    (hsem : ∀ h : C, DmaTarget.Typed .vmem (.dma ((cc0_scratch13.slice (Rect.unit (s := S8) o₂ S1.size (i₂ h))).squeeze S_ squeezes_S1_S_).sem)
      (.remote ((⟨i, hi⟩ : Dev nD) : Thread nD τ) ((adM.slice (Rect.unit (s := S8x128x1024) o₃ S1x128x1024.size (i₃ h)) (fun _ => rfl)).squeeze S128x1024 squeezes_S1x128x1024_S128x1024) (.dma ⟨i + 24, by show i + 24 < 40; omega⟩) (hsc h)))
    {J : PG F α} {P : C → PG F α} {Q : α → sProp 𝕄} {O : CellTallies nD τ sig Unit}
    (hP : ∀ h, P h = (Prog.lift (.enqueueDma agM (.remote ((⟨i, hi⟩ : Dev nD) : Thread nD τ) ((adM.slice (Rect.unit (s := S8x128x1024) o₃ S1x128x1024.size (i₃ h)) (fun _ => rfl)).squeeze S128x1024 squeezes_S1x128x1024_S128x1024) (.dma ⟨i + 24, by show i + 24 < 40; omega⟩) (hsc h))
          (.dma ((cc0_scratch13.slice (Rect.unit (s := S8) o₂ S1.size (i₂ h))).squeeze S_ squeezes_S1_S_).sem) hsrc (hdst h) (hsem h)) >>= fun _ => J)) :
    LoopSt vs K c O (agOwn c) (awB c) (agB vs c) iprop(emp) i ⊢ iprop((LoopSt vs K c O (agOwn c) (awB c) (agB vs c) iprop(emp) (i + 1) -∗ WP c J Q)
      -∗ WP c (if h : C then P h else J) Q) := by
  subst h₂ h₃
  exact ag_if vs K c i hi hC rfl hsrc (((Memref.isWhole_whole _).wordExact_slice rfl _ (ag_words c)).reshape _ _) ⟨⟨rfl, Or.inl rfl⟩, trivial⟩ hP

/-! ## Part 64 -/

set_option maxHeartbeats 1600000 in
theorem part64_run (v : S128x1024.Idx → Elt F .bf16) (hag : vs.ag c = v) (O : CellTallies nD τ sig Unit) (hO : Above 3 O)
    (base : S1x1024x1024.Idx → Elt F .f32) (o : S128x1024.Idx → Elt F .f32) (Q : BitVec 1 → sProp 𝕄) :
   iprop(World vs K ∗ owesE c (O + osum c (agOwn c) 0) ∗ bigSep Finset.univ (others c (agB0 c)) ∗ hasAny (F := F) agM c
      ∗ bigSep Finset.univ (others c (arB c)) ∗ has oM c fullShare (oOwn c base o)
     ∗ ((ArSt vs K c O base o 1 ∗ bigSep Finset.univ (others c (awB c)) ∗ agRest vs c) -∗ Q (Scalar.cmpi .ne (Scalar.extui (Scalar.cmpi .ne (myW c) 1#32)) 0#32)))
     ⊢ WP c (atArgs (k0_part64 (F := F)) c (myW c) v) Q := by
  rw [k0_part64_eq_skeleton]
  unfold WP atArgs k0_part64_skel
  unfold hasAny
  iintro ⟨#HW, HO, HB, ⟨%f, Hg⟩, HR, Ho, Hpost⟩
  sl_exec
  ihave Hg : has agM c fullShare (vs.ag c) $$ [Hg]
  · iapply (has_of_read agM c fullShare _ _ ?_) $$ Hg
    exact (View.read_writes_full agM.view f inb_S128x1024_S128x1024_0_0 _ []).trans hag.symm
  ihave Hg := (ag_split vs c) $$ Hg
  icases Hg with ⟨Hg, Hgs⟩
  ihave HB := (others_sep c (agB0 c) fun p => has agM c (Transfers.shareTokN fullShare p.val) (vs.ag c)) $$ [HB Hgs]
  · isplitl [HB]; · iexact HB
    iexact Hgs
  icases HB with ⟨HB, Hgc⟩
  ihave Hst : LoopSt vs K c O (agOwn c) (awB c) (agB vs c) iprop(emp) 0 $$ [HO HB]
  · unfold LoopSt
    isplitr; · iexact HW
    isplitl [HO]; · iexact HO
    isplitl [HB]
    · iapply (Entails.of_eq (fam_zero (n := 8) (others c (awB c)) (others c (agB vs c))).symm); iexact HB
    itrivial
  iapply (ag_if' vs K c 0 (of_decide_eq_true rfl) (by clear * -; revert c; decide) (k0_off2_eq c) (k0_off3_eq c) (k0_off2_inb c) (k0_off3_inb c)
    (fun _ => rfl) (Memref.isWhole_whole _).wordExact (fun h => ((Memref.isWhole_whole _).wordExact_slice rfl _ (k0_off3_wordsbf16 c h)).reshape _ _)
    (fun _ => ⟨⟨rfl, Or.inl rfl⟩, trivial⟩) (fun h => by exact rfl)) $$ Hst
  iintro Hst
  iapply (ag_if' vs K c 1 (of_decide_eq_true rfl) (by clear * -; revert c; decide) (k0_off4_eq c) (k0_off5_eq c) (k0_off4_inb c) (k0_off5_inb c)
    (fun _ => rfl) (Memref.isWhole_whole _).wordExact (fun h => ((Memref.isWhole_whole _).wordExact_slice rfl _ (k0_off5_wordsbf16 c h)).reshape _ _)
    (fun _ => ⟨⟨rfl, Or.inl rfl⟩, trivial⟩) (fun h => by exact rfl)) $$ Hst
  iintro Hst
  iapply (ag_if' vs K c 2 (of_decide_eq_true rfl) (by clear * -; revert c; decide) (k0_off6_eq c) (k0_off7_eq c) (k0_off6_inb c) (k0_off7_inb c)
    (fun _ => rfl) (Memref.isWhole_whole _).wordExact (fun h => ((Memref.isWhole_whole _).wordExact_slice rfl _ (k0_off7_wordsbf16 c h)).reshape _ _)
    (fun _ => ⟨⟨rfl, Or.inl rfl⟩, trivial⟩) (fun h => by exact rfl)) $$ Hst
  iintro Hst
  iapply (ag_if' vs K c 3 (of_decide_eq_true rfl) (by clear * -; revert c; decide) (k0_off8_eq c) (k0_off9_eq c) (k0_off8_inb c) (k0_off9_inb c)
    (fun _ => rfl) (Memref.isWhole_whole _).wordExact (fun h => ((Memref.isWhole_whole _).wordExact_slice rfl _ (k0_off9_wordsbf16 c h)).reshape _ _)
    (fun _ => ⟨⟨rfl, Or.inl rfl⟩, trivial⟩) (fun h => by exact rfl)) $$ Hst
  iintro Hst
  iapply (ag_if' vs K c 4 (of_decide_eq_true rfl) (by clear * -; revert c; decide) (k0_off10_eq c) (k0_off11_eq c) (k0_off10_inb c) (k0_off11_inb c)
    (fun _ => rfl) (Memref.isWhole_whole _).wordExact (fun h => ((Memref.isWhole_whole _).wordExact_slice rfl _ (k0_off11_wordsbf16 c h)).reshape _ _)
    (fun _ => ⟨⟨rfl, Or.inl rfl⟩, trivial⟩) (fun h => by exact rfl)) $$ Hst
  iintro Hst
  iapply (ag_if' vs K c 5 (of_decide_eq_true rfl) (by clear * -; revert c; decide) (k0_off12_eq c) (k0_off13_eq c) (k0_off12_inb c) (k0_off13_inb c)
    (fun _ => rfl) (Memref.isWhole_whole _).wordExact (fun h => ((Memref.isWhole_whole _).wordExact_slice rfl _ (k0_off13_wordsbf16 c h)).reshape _ _)
    (fun _ => ⟨⟨rfl, Or.inl rfl⟩, trivial⟩) (fun h => by exact rfl)) $$ Hst
  iintro Hst
  iapply (ag_if' vs K c 6 (of_decide_eq_true rfl) (by clear * -; revert c; decide) (k0_off14_eq c) (k0_off15_eq c) (k0_off14_inb c) (k0_off15_inb c)
    (fun _ => rfl) (Memref.isWhole_whole _).wordExact (fun h => ((Memref.isWhole_whole _).wordExact_slice rfl _ (k0_off15_wordsbf16 c h)).reshape _ _)
    (fun _ => ⟨⟨rfl, Or.inl rfl⟩, trivial⟩) (fun h => by exact rfl)) $$ Hst
  iintro Hst
  iapply (ag_if' vs K c 7 (of_decide_eq_true rfl) (by clear * -; revert c; decide) (k0_off16_eq c) (k0_off17_eq c) (k0_off16_inb c) (k0_off17_inb c)
    (fun _ => rfl) (Memref.isWhole_whole _).wordExact (fun h => ((Memref.isWhole_whole _).wordExact_slice rfl _ (k0_off17_wordsbf16 c h)).reshape _ _)
    (fun _ => ⟨⟨rfl, Or.inl rfl⟩, trivial⟩) (fun h => by exact rfl)) $$ Hst
  iintro Hst
  unfold LoopSt
  icases Hst with ⟨-, HO, HB, -⟩
  ihave HO : owesE c O $$ [HO]
  · iapply (show owesE c (O + osum c (agOwn c) 8) ⊢ (owesE c O : sProp 𝕄) by rw [osum_end, add_zero]) $$ HO
  ihave Hst : ArSt vs K c O base o 0 $$ [HO HR Ho]
  · unfold ArSt RunSt
    isplitr; · iexact HW
    isplitl [HO]; · iexact HO
    isplitl [HR]
    · iapply (Entails.of_eq (fam_zero (n := 8) (others c (arA vs c)) (others c (arB c))).symm); iexact HR
    iexact Ho
  iapply (ar_if vs K c 0 (of_decide_eq_true rfl) (by clear * -; revert c; decide) hO inb_S8x128x1024_S1x128x1024_0_0_0 inb_S1x1024x1024_S1x128x1024_0_0_0
    (Memref.isWhole_whole _).wordExact (((Memref.isWhole_whole _).wordExact_slice rfl _ wordsbf16_S8x128x1024_S1x128x1024_0_0_0).reshape _ _) (fun h => by exact rfl)) $$ Hst
  iintro Hst
  iapply (ret_run (a := Scalar.cmpi .ne (Scalar.extui (Scalar.cmpi .ne (myW c) 1#32)) 0#32) c)
  iapply Hpost
  isplitl [Hst]; · iexact Hst
  isplitl [HB]
  · iapply (Entails.of_eq (fam_all (n := 8) (others c (awB c)) (others c (agB vs c)))); iexact HB
  isplitl [Hg]; · iexact Hg
  iexact Hgc

end Cert.KernelIdeal.Fused

end
-- ==== Proof.Part65.lean ====
/-
  The other devices' finished rows come in, the own have left, and the last semaphore is signalled.
-/
module

public import proofs.«01_k».proof.Proof.Part64

@[expose] public section

set_option pp.maxSteps 300
set_option profiler true
set_option profiler.threshold 300

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (vs : Vals F) (K : GSem nD τ sig → ℕ) (c : Dev nD)

/-- The bit a printed conditional asks for: the device is not number `n`. -/
abbrev notDev (n : BitVec 32) : BitVec 1 := Scalar.cmpi .ne (Scalar.extui (Scalar.cmpi .ne (myW c) n)) 0#32

set_option maxHeartbeats 1600000 in
theorem part65_run (O : CellTallies nD τ sig Unit) (hO : Above 3 O) (hO' : Above 0 O)
    (base : S1x1024x1024.Idx → Elt F .f32) (o : S128x1024.Idx → Elt F .f32) (Q : BitVec 1 → sProp 𝕄) :
   iprop(ArSt vs K c O base o 1 ∗ bigSep Finset.univ (others c (awB c))
     ∗ ((AwSt vs K c O 3 ∗ bigSep Finset.univ (others c (arA vs c)) ∗ has oM c fullShare (oRow vs c base o 8)) -∗ Q (notDev c 3#32)))
     ⊢ WP c (atArgs (k0_part65 (F := F)) (myW c) (notDev c 1#32)) Q := by
  rw [k0_part65_eq_skeleton]
  unfold atArgs k0_part65_skel
  iintro ⟨Hst, HB, Hpost⟩
  iapply (ar_if vs K c 1 (of_decide_eq_true rfl) (by clear * -; revert c; decide) hO inb_S8x128x1024_S1x128x1024_1_0_0 inb_S1x1024x1024_S1x128x1024_0_128_0
    (Memref.isWhole_whole _).wordExact (((Memref.isWhole_whole _).wordExact_slice rfl _ wordsbf16_S8x128x1024_S1x128x1024_1_0_0).reshape _ _) (fun h => by exact rfl)) $$ Hst
  iintro Hst
  iapply (ar_if vs K c 2 (of_decide_eq_true rfl) (by clear * -; revert c; decide) hO inb_S8x128x1024_S1x128x1024_2_0_0 inb_S1x1024x1024_S1x128x1024_0_256_0
    (Memref.isWhole_whole _).wordExact (((Memref.isWhole_whole _).wordExact_slice rfl _ wordsbf16_S8x128x1024_S1x128x1024_2_0_0).reshape _ _) (fun h => by exact rfl)) $$ Hst
  iintro Hst
  iapply (ar_if vs K c 3 (of_decide_eq_true rfl) (by clear * -; revert c; decide) hO inb_S8x128x1024_S1x128x1024_3_0_0 inb_S1x1024x1024_S1x128x1024_0_384_0
    (Memref.isWhole_whole _).wordExact (((Memref.isWhole_whole _).wordExact_slice rfl _ wordsbf16_S8x128x1024_S1x128x1024_3_0_0).reshape _ _) (fun h => by exact rfl)) $$ Hst
  iintro Hst
  iapply (ar_if vs K c 4 (of_decide_eq_true rfl) (by clear * -; revert c; decide) hO inb_S8x128x1024_S1x128x1024_4_0_0 inb_S1x1024x1024_S1x128x1024_0_512_0
    (Memref.isWhole_whole _).wordExact (((Memref.isWhole_whole _).wordExact_slice rfl _ wordsbf16_S8x128x1024_S1x128x1024_4_0_0).reshape _ _) (fun h => by exact rfl)) $$ Hst
  iintro Hst
  iapply (ar_if vs K c 5 (of_decide_eq_true rfl) (by clear * -; revert c; decide) hO inb_S8x128x1024_S1x128x1024_5_0_0 inb_S1x1024x1024_S1x128x1024_0_640_0
    (Memref.isWhole_whole _).wordExact (((Memref.isWhole_whole _).wordExact_slice rfl _ wordsbf16_S8x128x1024_S1x128x1024_5_0_0).reshape _ _) (fun h => by exact rfl)) $$ Hst
  iintro Hst
  iapply (ar_if vs K c 6 (of_decide_eq_true rfl) (by clear * -; revert c; decide) hO inb_S8x128x1024_S1x128x1024_6_0_0 inb_S1x1024x1024_S1x128x1024_0_768_0
    (Memref.isWhole_whole _).wordExact (((Memref.isWhole_whole _).wordExact_slice rfl _ wordsbf16_S8x128x1024_S1x128x1024_6_0_0).reshape _ _) (fun h => by exact rfl)) $$ Hst
  iintro Hst
  iapply (ar_if vs K c 7 (of_decide_eq_true rfl) (by clear * -; revert c; decide) hO inb_S8x128x1024_S1x128x1024_7_0_0 inb_S1x1024x1024_S1x128x1024_0_896_0
    (Memref.isWhole_whole _).wordExact (((Memref.isWhole_whole _).wordExact_slice rfl _ wordsbf16_S8x128x1024_S1x128x1024_7_0_0).reshape _ _) (fun h => by exact rfl)) $$ Hst
  iintro Hst
  unfold ArSt RunSt
  icases Hst with ⟨#HW, HO, HR, Ho⟩
  ihave Hst : AwSt vs K c O 0 $$ [HO HB]
  · unfold AwSt RunSt
    isplitr; · iexact HW
    isplitl [HO]; · iexact HO
    isplitl [HB]
    · iapply (Entails.of_eq (fam_zero (n := 8) (others c (awA vs c)) (others c (awB c))).symm); iexact HB
    itrivial
  iapply (aw_if vs K c 0 (of_decide_eq_true rfl) (by clear * -; revert c; decide) hO'
    (((Memref.isWhole_whole _).wordExact_slice rfl _ wordsbf16_S8x128x1024_S1x128x1024_0_0_0).reshape _ _) (Memref.isWhole_whole _).wordExact (fun h => by exact rfl)) $$ Hst
  iintro Hst
  iapply (aw_if vs K c 1 (of_decide_eq_true rfl) (by clear * -; revert c; decide) hO'
    (((Memref.isWhole_whole _).wordExact_slice rfl _ wordsbf16_S8x128x1024_S1x128x1024_0_0_0).reshape _ _) (Memref.isWhole_whole _).wordExact (fun h => by exact rfl)) $$ Hst
  iintro Hst
  iapply (aw_if vs K c 2 (of_decide_eq_true rfl) (by clear * -; revert c; decide) hO'
    (((Memref.isWhole_whole _).wordExact_slice rfl _ wordsbf16_S8x128x1024_S1x128x1024_0_0_0).reshape _ _) (Memref.isWhole_whole _).wordExact (fun h => by exact rfl)) $$ Hst
  iintro Hst
  iapply (ret_run (a := notDev c 3#32) c)
  iapply Hpost
  isplitl [Hst]; · iexact Hst
  isplitl [HR]
  · iapply (Entails.of_eq (fam_all (n := 8) (others c (arA vs c)) (others c (arB c)))); iexact HR
  iexact Ho

set_option maxHeartbeats 1600000 in
theorem part66_run (hO' : Above 0 (0 + osum c (fun p => tallyAt (endCell p) () 1) 0)) (Q : PUnit → sProp 𝕄) :
   iprop(AwSt vs K c (0 + osum c (fun p => tallyAt (endCell p) () 1) 0) 3 ∗ bigSep Finset.univ (others c (endB vs c))
     ∗ ((EndSt vs K c 5 ∗ bigSep Finset.univ (others c (awA vs c))) -∗ Q ⟨⟩))
     ⊢ WP c (atArgs (k0_part66 (F := F)) c (myW c) (notDev c 3#32)) Q := by
  rw [k0_part66_eq_skeleton]
  unfold atArgs k0_part66_skel
  iintro ⟨Hst, HB, Hpost⟩
  iapply (aw_if vs K c 3 (of_decide_eq_true rfl) (by clear * -; revert c; decide) hO'
    (((Memref.isWhole_whole _).wordExact_slice rfl _ wordsbf16_S8x128x1024_S1x128x1024_0_0_0).reshape _ _) (Memref.isWhole_whole _).wordExact (fun h => by exact rfl)) $$ Hst
  iintro Hst
  iapply (aw_if vs K c 4 (of_decide_eq_true rfl) (by clear * -; revert c; decide) hO'
    (((Memref.isWhole_whole _).wordExact_slice rfl _ wordsbf16_S8x128x1024_S1x128x1024_0_0_0).reshape _ _) (Memref.isWhole_whole _).wordExact (fun h => by exact rfl)) $$ Hst
  iintro Hst
  iapply (aw_if vs K c 5 (of_decide_eq_true rfl) (by clear * -; revert c; decide) hO'
    (((Memref.isWhole_whole _).wordExact_slice rfl _ wordsbf16_S8x128x1024_S1x128x1024_0_0_0).reshape _ _) (Memref.isWhole_whole _).wordExact (fun h => by exact rfl)) $$ Hst
  iintro Hst
  iapply (aw_if vs K c 6 (of_decide_eq_true rfl) (by clear * -; revert c; decide) hO'
    (((Memref.isWhole_whole _).wordExact_slice rfl _ wordsbf16_S8x128x1024_S1x128x1024_0_0_0).reshape _ _) (Memref.isWhole_whole _).wordExact (fun h => by exact rfl)) $$ Hst
  iintro Hst
  iapply (aw_if vs K c 7 (of_decide_eq_true rfl) (by clear * -; revert c; decide) hO'
    (((Memref.isWhole_whole _).wordExact_slice rfl _ wordsbf16_S8x128x1024_S1x128x1024_0_0_0).reshape _ _) (Memref.isWhole_whole _).wordExact (fun h => by exact rfl)) $$ Hst
  iintro Hst
  unfold AwSt RunSt
  icases Hst with ⟨#HW, HO, HA, -⟩
  ihave Hst : EndSt vs K c 0 $$ [HO HB]
  · unfold EndSt LoopSt
    isplitr; · iexact HW
    isplitl [HO]; · iexact HO
    isplitl [HB]
    · iapply (Entails.of_eq (fam_zero (n := 8) (others c (fun _ => iprop(emp))) (others c (endB vs c))).symm); iexact HB
    itrivial
  iapply (end_if vs K c 0 (of_decide_eq_true rfl) (by clear * -; revert c; decide) (fun h => by exact rfl)) $$ Hst
  iintro Hst
  iapply (end_if vs K c 1 (of_decide_eq_true rfl) (by clear * -; revert c; decide) (fun h => by exact rfl)) $$ Hst
  iintro Hst
  iapply (end_if vs K c 2 (of_decide_eq_true rfl) (by clear * -; revert c; decide) (fun h => by exact rfl)) $$ Hst
  iintro Hst
  iapply (end_if vs K c 3 (of_decide_eq_true rfl) (by clear * -; revert c; decide) (fun h => by exact rfl)) $$ Hst
  iintro Hst
  iapply (end_if vs K c 4 (of_decide_eq_true rfl) (by clear * -; revert c; decide) (fun h => by exact rfl)) $$ Hst
  iintro Hst
  iapply (ret_run (a := PUnit.unit) c)
  iapply Hpost
  isplitl [Hst]; · iexact Hst
  iapply (Entails.of_eq (fam_all (n := 8) (others c (awA vs c)) (others c (awB c)))); iexact HA

end Cert.KernelIdeal.Fused

end
-- ==== Proof.Rear.lean ====
/-
  From the division to the return.
-/
module

public import proofs.«01_k».proof.Proof.Part65

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (vs : Vals F) (K : GSem nD τ sig → ℕ) (c : Dev nD)

theorem bind_run {α β : Type} {p : PG F α} {k : α → PG F β} {Q : β → sProp 𝕄} :
    WP c p (fun a => WP c (k a) Q) ⊢ WP c (p >>= k) Q := by
  unfold WP
  rw [wp_bind]

/-- What is owed on the last semaphore, and that together with what the finished rows' copies owe. -/
def endO : CellTallies nD τ sig Unit := 0 + osum c (fun p => tallyAt (endCell p) () 1) 0
def agO : CellTallies nD τ sig Unit := endO c + osum c (agOwn c) 0

theorem above_osum (l : ℕ) (own : Dev nD → CellTallies nD τ sig Unit) (i : ℕ) (h : ∀ p, Above l (own p)) : Above l (osum c own i) := by
  unfold osum
  refine Above.sum _ _ fun p _ => ?_
  split
  · exact h p
  · exact Above.zero l
theorem above_endO (l : ℕ) (h : l < 4) : Above l (endO c) :=
  (Above.zero l).add (above_osum c l _ 0 fun p => Above.tally p _ 1 h)
theorem above_agO (l : ℕ) (h : l < 3) : Above l (agO c) :=
  (above_endO c l (by omega)).add (above_osum c l _ 0 fun p => Above.tally p _ NO (by
    have h8 : c.val < 8 := c.isLt
    show l < if c.val + 32 < 6 then 0 else if c.val + 32 < 15 then 2 else if c.val + 32 < 32 then 0 else 3
    rw [if_neg (by omega), if_neg (by omega), if_neg (by omega)]; exact h))

/-- The kernel from the division on: the finished rows are computed, exchanged, and the devices leave together. -/
def rear (b : S128x1152.Idx → Elt F .f32) : PG F PUnit := do
  let v120 ← atArgs (k0_part63 (F := F)) c (myW c) (quot b 0) (quot b 1) (quot b 2)
  let v150 ← atArgs (k0_part64 (F := F)) c (myW c) v120
  let v180 ← atArgs (k0_part65 (F := F)) (myW c) v150
  atArgs (k0_part66 (F := F)) c (myW c) v180
  if k0_h54 : k0_cond54 c = 1#1 then do
    semSignalWord (⟨k0_dev37, k0_dev37_lt c k0_h54⟩ : Dev nD) cc0_scoped0.sem 1#32
    pure ⟨⟩
  else do
    pure ⟨⟩
  if k0_h55 : k0_cond55 c = 1#1 then do
    semSignalWord (⟨k0_dev38, k0_dev38_lt c k0_h55⟩ : Dev nD) cc0_scoped0.sem 1#32
    pure ⟨⟩
  else do
    pure ⟨⟩
  if k0_h56 : k0_cond56 c = 1#1 then do
    semSignalWord (⟨k0_dev39, k0_dev39_lt c k0_h56⟩ : Dev nD) cc0_scoped0.sem 1#32
    pure ⟨⟩
  else do
    pure ⟨⟩
  semWaitWord cc0_scoped0.sem 7#32
  pure ⟨⟩

set_option maxHeartbeats 1600000 in
theorem rear_run (I : Ins F) (b : S128x1152.Idx → Elt F .f32) (base : S1x1024x1024.Idx → Elt F .f32)
    (hag : vs.ag c = obf (oblk b I.wo)) (Q : PUnit → sProp 𝕄) :
   iprop(World vs K ∗ owesE c (agO c) ∗ insAt c I ∗ has bsM c fullShare b ∗ has oM c fullShare base ∗ hasAny (F := F) agM c
     ∗ bigSep Finset.univ (others c (agB0 c)) ∗ bigSep Finset.univ (others c (arB c)) ∗ bigSep Finset.univ (others c (endB vs c))
     ∗ cred (tallyAt (endCell c) () 7) ∗ atPos ER (endCell c) 0 ∅ 0
     ∗ ((owesE c 0 ∗ insAt c I ∗ has bsM c fullShare b ∗ has oM c fullShare (oRow vs c base (oblk b I.wo) 8) ∗ agRest vs c
         ∗ bigSep Finset.univ (others c (awA vs c)) ∗ bigSep Finset.univ (others c (arA vs c)) ∗ atPos ER (endCell c) 1 ∅ 0) -∗ Q ⟨⟩))
     ⊢ WP c (rear c b) Q := by
  unfold rear
  iintro ⟨#HW, HO, Hin, Hbs, Ho, Hag, HagB, HarB, HeB, Hcr, Hat, Hpost⟩
  iapply (bind_run c)
  iapply (part63_run c I b base) $$ [-]
  isplitl [Hin]; · iexact Hin
  isplitl [Hbs]; · iexact Hbs
  isplitl [Ho]; · iexact Ho
  isplitl [Hag]; · iexact Hag
  iintro ⟨Hin, Hbs, Ho, Hag⟩
  iapply (bind_run c)
  have a3 : Above 3 (endO c) := above_endO c 3 (by decide)
  have a0 : Above 0 (endO c) := above_endO c 0 (by decide)
  iapply (part64_run vs K c _ hag (endO c) a3 base (oblk b I.wo)) $$ [-]
  isplitr; · iexact HW
  isplitl [HO]; · iexact HO
  isplitl [HagB]; · iexact HagB
  isplitl [Hag]; · iexact Hag
  isplitl [HarB]; · iexact HarB
  isplitl [Ho]; · iexact Ho
  iintro ⟨Hst, HawB, HR⟩
  iapply (bind_run c)
  iapply (part65_run vs K c (endO c) a3 a0 base (oblk b I.wo)) $$ [-]
  isplitl [Hst]; · iexact Hst
  isplitl [HawB]; · iexact HawB
  iintro ⟨Hst, HarA, Ho⟩
  iapply (bind_run c)
  iapply (part66_run vs K c a0) $$ [-]
  isplitl [Hst]; · iexact Hst
  isplitl [HeB]; · iexact HeB
  iintro ⟨Hst, HawA⟩
  iapply (end_if vs K c 5 (of_decide_eq_true rfl) (by clear * -; revert c; decide) (fun h => by exact rfl)) $$ Hst
  iintro Hst
  iapply (end_if vs K c 6 (of_decide_eq_true rfl) (by clear * -; revert c; decide) (fun h => by exact rfl)) $$ Hst
  iintro Hst
  iapply (end_if vs K c 7 (of_decide_eq_true rfl) (by clear * -; revert c; decide) (fun h => by exact rfl)) $$ Hst
  iintro Hst
  unfold EndSt LoopSt
  rw [osum_end, add_zero]
  icases Hst with ⟨-, HO, -⟩
  iapply (wait_cell vs K c (sm := (endCell c).2) (wpE_semWait_eq 𝒱₀ (c : Thread nD τ) none Set.univ) 0 (Above.zero _) (by
    show 7 = (Finset.univ.erase c).card * 1
    rw [Finset.card_erase_of_mem (Finset.mem_univ c), Finset.card_fin]; rfl) (end_mem c)) $$ [Hcr HO Hat]
  · isplitr; · iexact HW
    isplitl [Hcr]; · iexact Hcr
    isplitl [HO]; · iexact HO
    iexact Hat
  iintro ⟨HO, Hat, -⟩
  iapply (ret_run (a := PUnit.unit) c)
  iapply Hpost
  isplitl [HO]; · iexact HO
  isplitl [Hin]; · iexact Hin
  isplitl [Hbs]; · iexact Hbs
  isplitl [Ho]; · iexact Ho
  isplitl [HR]; · iexact HR
  isplitl [HawA]; · iexact HawA
  isplitl [HarA]; · iexact HarA
  iexact Hat

end Cert.KernelIdeal.Fused

end
-- ==== Proof.Slots.lean ====
/-
  The scoped semaphores family by family, and the buffers slot by slot.
-/
module

public import proofs.«01_k».proof.Proof.Rear

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The scoped cells, family by family -/

/-- Families of numbered semaphores: `n` of them from `b` on. -/
abbrev rng (Φ : SemLoc sig → sProp 𝕄) (b n : ℕ) (h : b + n ≤ 40) : sProp 𝕄 :=
  bigSep Finset.univ fun k : Fin n => Φ (.dma ⟨k.val + b, by show k.val + b < 40; omega⟩)

theorem sep_right_assoc (P Q R : sProp 𝕄) : BI.sep (BI.sep P Q) R = BI.sep P (BI.sep Q R) :=
  BI.Entails.antisymm BI.sep_assoc BI.sep_assoc'
theorem sep_plain (P Q : sProp 𝕄) : iprop(P ∗ Q) = BI.sep P Q := rfl

theorem cells_split (Φ : SemLoc sig → sProp 𝕄) :
    bigSep Finset.univ (fun k : Fin 35 => Φ (osem k))
      = iprop(rng Φ 6 7 (by decide) ∗ Φ (.dma ⟨13, by decide⟩) ∗ Φ (.dma ⟨14, by decide⟩) ∗ rng Φ 15 7 (by decide)
        ∗ Φ (.dma ⟨22, by decide⟩) ∗ Φ (.dma ⟨23, by decide⟩) ∗ rng Φ 24 8 (by decide) ∗ rng Φ 32 8 (by decide) ∗ Φ (.reg ⟨1, by decide⟩)) := by
  unfold rng
  rw [bigSep_univ_eq_bigSepL [0, 1, 2, 3, 4, 5, 6, 7, 8, 9, 10, 11, 12, 13, 14, 15, 16, 17, 18, 19, 20, 21, 22, 23, 24, 25, 26, 27, 28, 29, 30, 31, 32, 33, 34] (by decide) (by decide)
      (fun k : Fin 35 => Φ (osem k)),
    bigSep_univ_eq_bigSepL [0, 1, 2, 3, 4, 5, 6] (by decide) (by decide) (fun k : Fin 7 => Φ (.dma ⟨k.val + 6, _⟩)),
    bigSep_univ_eq_bigSepL [0, 1, 2, 3, 4, 5, 6] (by decide) (by decide) (fun k : Fin 7 => Φ (.dma ⟨k.val + 15, _⟩)),
    bigSep_univ_eq_bigSepL [0, 1, 2, 3, 4, 5, 6, 7] (by decide) (by decide) (fun k : Fin 8 => Φ (.dma ⟨k.val + 24, _⟩)),
    bigSep_univ_eq_bigSepL [0, 1, 2, 3, 4, 5, 6, 7] (by decide) (by decide) (fun k : Fin 8 => Φ (.dma ⟨k.val + 32, _⟩))]
  simp only [bigSepL, sep_plain, sep_right_assoc]
  rfl

theorem others_eq (c : Dev nD) (X : Dev nD → sProp 𝕄) : bigSep Finset.univ (others c X) = bigSep (Finset.univ.erase c) X := by
  rw [take_mem (Finset.mem_univ c), show others c X c = iprop(emp) from if_pos rfl,
    bigSep_congr (s := Finset.univ.erase c) (Φ := others c X) (Ψ := X) fun p hp => if_neg (Finset.ne_of_mem_erase hp)]
  exact BI.equiv_iff.mp emp_sep

/-! ## The slots of a buffer -/

/-- Disjoint rectangles of a whole buffer's shape that cover it are disjoint slots that are all of it. -/
theorem slot_facts {κ : Kind} {sp : Space} {s : Shape} {e : EltTy} {n : ℕ} (v : View sig κ sp s e) (hv : v.set = Finset.univ) (r : Fin n → Rect s)
    (I : Fin n → Finset v.ty.Idx) (hI : ∀ b, I b = (r b).set.map v.emb)
    (h : (∀ b b', b ≠ b' → Disjoint (r b).set (r b').set) ∧ Finset.univ.biUnion (fun b => (r b).set) = Finset.univ) :
    (∀ b b', b ≠ b' → Disjoint (I b) (I b')) ∧ Finset.univ.biUnion I = Finset.univ := by
  refine ⟨fun b b' hb => ?_, ?_⟩
  · rw [hI, hI]
    exact (Finset.disjoint_map _).mpr (h.1 b b' hb)
  · refine Finset.eq_univ_of_forall fun i => ?_
    have hi : i ∈ v.set := by rw [hv]; exact Finset.mem_univ i
    obtain ⟨j, -, rfl⟩ := Finset.mem_map.mp hi
    have hj : j ∈ Finset.univ.biUnion (fun b => (r b).set) := by rw [h.2]; exact Finset.mem_univ j
    obtain ⟨b, hb, hj⟩ := Finset.mem_biUnion.mp hj
    refine Finset.mem_biUnion.mpr ⟨b, hb, ?_⟩
    rw [hI]
    exact Finset.mem_map_of_mem _ hj

theorem unit_facts (s : Shape) (R n : ℕ) (off : Fin n → Fin s.rank → ℕ) (size : Fin s.rank → ℕ) (inb : ∀ b a, off b a + size a ≤ s.size a) (a₀ : Fin s.rank)
    (h₁ : ∀ b, off b a₀ = R * b.val) (h₂ : ∀ b a, a ≠ a₀ → off b a = 0) (h₃ : size a₀ = R) (h₄ : ∀ a, a ≠ a₀ → size a = s.size a) (h₅ : n * R = s.size a₀) :
    (∀ b b', b ≠ b' → Disjoint (Rect.unit (off b) size (inb b)).set (Rect.unit (off b') size (inb b')).set)
      ∧ Finset.univ.biUnion (fun b => (Rect.unit (off b) size (inb b)).set) = Finset.univ :=
  ⟨fun b b' h => Ring.lead_disjoint a₀ R off size inb h₁ h₃ b b' h, Ring.lead_cover a₀ R off size inb h₁ h₂ h₃ h₄ h₅⟩

theorem slots_split {ℓ : Loc nD τ sig} {n : ℕ} (I : Fin n → Finset (Idx ℓ)) (h : (∀ b b', b ≠ b' → Disjoint (I b) (I b')) ∧ Finset.univ.biUnion I = Finset.univ) :
    (iprop(∃ f : Buf (Elt F) ℓ, ℓ ↦{fullShare} f) : sProp 𝕄) ⊢ bigSep Finset.univ fun b => iprop(∃ f : Buf (Elt F) ℓ, ℓ ↦[I b]{fullShare} f) := by
  have hx : ∀ (f : Buf (Elt F) ℓ) (b : Fin n), (ℓ ↦[I b]{fullShare} f : sProp 𝕄) ⊢ iprop(∃ f : Buf (Elt F) ℓ, ℓ ↦[I b]{fullShare} f) := by
    intro f b
    iintro H; iexists f; iexact H
  have hb : ∀ f : Buf (Elt F) ℓ, (bigSep Finset.univ fun b => (ℓ ↦[I b]{fullShare} f : sProp 𝕄)) ⊢ bigSep Finset.univ fun b => iprop(∃ f : Buf (Elt F) ℓ, ℓ ↦[I b]{fullShare} f) :=
    fun f => bigSep_mono fun b _ => hx f b
  iintro ⟨%f, H⟩
  iapply (hb f)
  iapply (Entails.of_eq (Ring.pointsTo_blocks I h.1 h.2 f)); iexact H
theorem slots_join {ℓ : Loc nD τ sig} {n : ℕ} (I : Fin n → Finset (Idx ℓ)) (h : (∀ b b', b ≠ b' → Disjoint (I b) (I b')) ∧ Finset.univ.biUnion I = Finset.univ) (f₀ : Buf (Elt F) ℓ) :
    (bigSep Finset.univ fun b => iprop(∃ f : Buf (Elt F) ℓ, ℓ ↦[I b]{fullShare} f)) ⊢ (iprop(∃ f : Buf (Elt F) ℓ, ℓ ↦{fullShare} f) : sProp 𝕄) :=
  Ring.pointsTo_blocks_join_exists I h.1 h.2 f₀

variable (c : Dev nD)

/-- The elements of slot `b`. -/
def psI (b : Fin 7) : Finset psM.view.ty.Idx := (psS b.val b.isLt).view.set
theorem psI_facts : (∀ b b', b ≠ b' → Disjoint (psI b) (psI b')) ∧ Finset.univ.biUnion psI = Finset.univ :=
  slot_facts psM.view (View.setOn_whole_univ _) (fun b : Fin 7 => Rect.unit (s := S7x128x1152) ![b.val, 0, 0] S1x128x1152.size (inbPs b.val b.isLt)) psI
    (fun b => View.set_slice _ _)
    (unit_facts S7x128x1152 1 7 (fun b => ![b.val, 0, 0]) S1x128x1152.size (fun b => inbPs b.val b.isLt) 0 (fun b => (Nat.one_mul _).symm) (by decide) rfl (by decide) rfl)
theorem ps_slots : hasAny (F := F) psM c ⊢ bigSep Finset.univ fun k : Fin 7 => hasAny (F := F) (psS k.val k.isLt) c := by
  have h := slots_split (F := F) (ℓ := psM.view.loc (c : Thread nD τ)) psI psI_facts
  unfold hasAny
  rw [show psM.view.set = Finset.univ from View.setOn_whole_univ _]
  exact h
theorem ps_join [∀ e, Nonempty (Elt F e)] : (bigSep Finset.univ fun k : Fin 7 => hasAny (F := F) (psS k.val k.isLt) c) ⊢ hasAny (F := F) psM c := by
  have h := slots_join (F := F) (ℓ := psM.view.loc (c : Thread nD τ)) psI psI_facts (fun _ => Classical.arbitrary _)
  unfold hasAny
  rw [show psM.view.set = Finset.univ from View.setOn_whole_univ _]
  exact h

/-- The elements of slot `b`. -/
def c0I (b : Fin 7) : Finset c0M.view.ty.Idx := (c0S b.val b.isLt).view.set
theorem c0I_facts : (∀ b b', b ≠ b' → Disjoint (c0I b) (c0I b')) ∧ Finset.univ.biUnion c0I = Finset.univ :=
  slot_facts c0M.view (View.setOn_whole_univ _) (fun b : Fin 7 => Rect.unit (s := S7x32x1152) ![b.val, 0, 0] S1x32x1152.size (inbC0 b.val b.isLt)) c0I
    (fun b => View.set_slice _ _)
    (unit_facts S7x32x1152 1 7 (fun b => ![b.val, 0, 0]) S1x32x1152.size (fun b => inbC0 b.val b.isLt) 0 (fun b => (Nat.one_mul _).symm) (by decide) rfl (by decide) rfl)
theorem c0_slots : hasAny (F := F) c0M c ⊢ bigSep Finset.univ fun k : Fin 7 => hasAny (F := F) (c0S k.val k.isLt) c := by
  have h := slots_split (F := F) (ℓ := c0M.view.loc (c : Thread nD τ)) c0I c0I_facts
  unfold hasAny
  rw [show c0M.view.set = Finset.univ from View.setOn_whole_univ _]
  exact h
theorem c0_join [∀ e, Nonempty (Elt F e)] : (bigSep Finset.univ fun k : Fin 7 => hasAny (F := F) (c0S k.val k.isLt) c) ⊢ hasAny (F := F) c0M c := by
  have h := slots_join (F := F) (ℓ := c0M.view.loc (c : Thread nD τ)) c0I c0I_facts (fun _ => Classical.arbitrary _)
  unfold hasAny
  rw [show c0M.view.set = Finset.univ from View.setOn_whole_univ _]
  exact h

/-- The elements of slot `b`. -/
def cxI (b : Fin 2) : Finset cxM.view.ty.Idx := (cxS b.val b.isLt).view.set
theorem cxI_facts : (∀ b b', b ≠ b' → Disjoint (cxI b) (cxI b')) ∧ Finset.univ.biUnion cxI = Finset.univ :=
  slot_facts cxM.view (View.setOn_whole_univ _) (fun b : Fin 2 => Rect.unit (s := S2x128x1152) ![b.val, 0, 0] S1x128x1152.size (inbCx b.val b.isLt)) cxI
    (fun b => View.set_slice _ _)
    (unit_facts S2x128x1152 1 2 (fun b => ![b.val, 0, 0]) S1x128x1152.size (fun b => inbCx b.val b.isLt) 0 (fun b => (Nat.one_mul _).symm) (by decide) rfl (by decide) rfl)
theorem cx_slots : hasAny (F := F) cxM c ⊢ bigSep Finset.univ fun k : Fin 2 => hasAny (F := F) (cxS k.val k.isLt) c := by
  have h := slots_split (F := F) (ℓ := cxM.view.loc (c : Thread nD τ)) cxI cxI_facts
  unfold hasAny
  rw [show cxM.view.set = Finset.univ from View.setOn_whole_univ _]
  exact h
theorem cx_join [∀ e, Nonempty (Elt F e)] : (bigSep Finset.univ fun k : Fin 2 => hasAny (F := F) (cxS k.val k.isLt) c) ⊢ hasAny (F := F) cxM c := by
  have h := slots_join (F := F) (ℓ := cxM.view.loc (c : Thread nD τ)) cxI cxI_facts (fun _ => Classical.arbitrary _)
  unfold hasAny
  rw [show cxM.view.set = Finset.univ from View.setOn_whole_univ _]
  exact h

/-- The elements of slot `b`. -/
def adI (b : Fin 8) : Finset adM.view.ty.Idx := (adS b.val b.isLt).view.set
theorem adI_facts : (∀ b b', b ≠ b' → Disjoint (adI b) (adI b')) ∧ Finset.univ.biUnion adI = Finset.univ :=
  slot_facts adM.view (View.setOn_whole_univ _) (fun b : Fin 8 => Rect.unit (s := S8x128x1024) ![b.val, 0, 0] S1x128x1024.size (inbAd b.val b.isLt)) adI
    (fun b => View.set_slice _ _)
    (unit_facts S8x128x1024 1 8 (fun b => ![b.val, 0, 0]) S1x128x1024.size (fun b => inbAd b.val b.isLt) 0 (fun b => (Nat.one_mul _).symm) (by decide) rfl (by decide) rfl)
theorem ad_slots : hasAny (F := F) adM c ⊢ bigSep Finset.univ fun k : Fin 8 => hasAny (F := F) (adS k.val k.isLt) c := by
  have h := slots_split (F := F) (ℓ := adM.view.loc (c : Thread nD τ)) adI adI_facts
  unfold hasAny
  rw [show adM.view.set = Finset.univ from View.setOn_whole_univ _]
  exact h
theorem ad_join [∀ e, Nonempty (Elt F e)] : (bigSep Finset.univ fun k : Fin 8 => hasAny (F := F) (adS k.val k.isLt) c) ⊢ hasAny (F := F) adM c := by
  have h := slots_join (F := F) (ℓ := adM.view.loc (c : Thread nD τ)) adI adI_facts (fun _ => Classical.arbitrary _)
  unfold hasAny
  rw [show adM.view.set = Finset.univ from View.setOn_whole_univ _]
  exact h

end Cert.KernelIdeal.Fused

end
-- ==== Proof.Other61.lean ====
/-
  The other devices up to their first wait: their contribution to the global rows, and device 1's to the last block.
-/
module

public import proofs.«01_k».proof.Proof.Copies
public import proofs.«01_k».proof.Proof.Tiles

@[expose] public section

set_option pp.maxSteps 100
set_option profiler true
set_option profiler.threshold 300

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (vs : Vals F) (K : GSem nD τ sig → ℕ) (c : Dev nD)

/-! ## The copy of the global rows' contribution to device 0 -/

theorem c0_lt (p : Dev nD) : p.val - 1 + 6 < 40 := by have h : p.val < 8 := p.isLt; omega
/-- What a device owes for this copy, and holds before it. -/
abbrev c0Own (p : Dev nD) : CellTallies nD τ sig Unit := tallyAt (dmaCell 0 (p.val - 1 + 6) (c0_lt p)) () N32
abbrev c0B (p : Dev nD) : sProp 𝕄 :=
  iprop(hasAny (c0S (p.val - 1) (pred_lt p)) 0 ∗ dutyTok ER (dmaCell p 22 (by decide)) 0 p ∗ reached ER (dmaCell p 22 (by decide)) 0
    ∗ dutyTok ER (dmaCell 0 (p.val - 1 + 6) (c0_lt p)) 0 p ∗ reached ER (dmaCell 0 (p.val - 1 + 6) (c0_lt p)) 0)
abbrev c0A (p : Dev nD) : sProp 𝕄 := cred (tallyAt (dmaCell p 22 (by decide)) () N32)

/-- Before the `k`-th of the seven conditionals. -/
def C0St (O : CellTallies nD τ sig Unit) (k : ℕ) : sProp 𝕄 :=
  iprop(World vs K ∗ if k < c.val then iprop(owesE c (O + c0Own c) ∗ has p32M c fullShare (vs.p32 c) ∗ c0B c) else iprop(owesE c O ∗ c0A c))

theorem c0_if {α : Type} {C : Prop} {_ : Decidable C} (k : ℕ) (hk : k < 7) (hC : C ↔ c.val = k + 1)
    (hsc : ((c0S k hk).squeeze S32x1152 squeezes_S1x32x1152_S32x1152).view.ref.isScScratch = false)
    (hsrc : p32M.view.WordExact)
    (hdst : ((c0S k hk).squeeze S32x1152 squeezes_S1x32x1152_S32x1152).view.WordExact)
    (hsem : DmaTarget.Typed .vmem (.dma ⟨k + 6, by show k + 6 < 40; omega⟩) (.remote ((0 : Dev nD) : Thread nD τ) ((c0S k hk).squeeze S32x1152 squeezes_S1x32x1152_S32x1152) (.dma ⟨22, by decide⟩) hsc))
    {J : PG F α} {P : C → PG F α} {Q : α → sProp 𝕄} {O : CellTallies nD τ sig Unit}
    (hP : ∀ h, P h = (Prog.lift (.enqueueDma p32M (.remote ((0 : Dev nD) : Thread nD τ) ((c0S k hk).squeeze S32x1152 squeezes_S1x32x1152_S32x1152) (.dma ⟨22, by decide⟩) hsc)
          (.dma ⟨k + 6, by show k + 6 < 40; omega⟩) hsrc hdst hsem) >>= fun _ => J)) :
    C0St vs K c O k ⊢ iprop((C0St vs K c O (k + 1) -∗ WP c J Q)
      -∗ WP c (if h : C then P h else J) Q) := by
  by_cases hc : C
  · have hv : c.val = k + 1 := hC.mp hc
    have h8 : k + 1 < 8 := by omega
    obtain rfl : c = ⟨k + 1, h8⟩ := Fin.ext hv
    rw [dif_pos hc, hP]
    unfold C0St
    rw [if_pos (show k < k + 1 by omega), if_neg (show ¬ k + 1 < k + 1 by omega)]
    iintro ⟨#HW, HO, Hs, ⟨Hd, Ht₁, Hr₁, Ht₂, Hr₂⟩⟩ Hk
    have l₁ : 22 < 40 := by decide
    have l₂ : k + 6 < 40 := by omega
    have l₃ : 6 ≤ 22 := by decide
    have l₄ : 6 ≤ k + 6 := by omega
    have a₁ : amt (.dma ⟨22, by decide⟩) = N32 := amt32 _ _ (by omega)
    have a₂ : amt (.dma ⟨k + 6, by show k + 6 < 40; omega⟩) = N32 := amt32 _ _ (by omega)
    have n₁ : ((c0S k hk).squeeze S32x1152 squeezes_S1x32x1152_S32x1152).view.dmaCredit = N32 := by unfold N32; rfl
    have m₁ : (⟨k + 1, h8⟩ : Dev nD) ∈ payers ⟨k + 1, h8⟩ (.dma ⟨22, by decide⟩) := mem_payers _ _ _ (by decide) (by unfold dmaPayer; simp [Fin.ext_iff])
    have m₂ : (⟨k + 1, h8⟩ : Dev nD) ∈ payers 0 (.dma ⟨k + 6, by show k + 6 < 40; omega⟩) := mem_payers _ _ _ (by omega) (by unfold dmaPayer; simp; omega)
    unfold has
    iapply (send_to vs K (⟨k + 1, h8⟩ : Dev nD) (p := 0) (src := p32M)
        (c0S k hk) squeezes_S1x32x1152_S32x1152 22 (k + 6) l₁ l₂ l₃ l₄ (q := fullShare) (k := fun _ => J)
        m₁ m₂ N32 n₁ a₁ a₂ O
        (by rw [pay_s1]; exact BIBase.Entails.rfl)
        (by rw [View.read_rep, pay_c0 vs 0 _ k hk])) $$ [Hs Hd HO Ht₁ Hr₁ Ht₂ Hr₂]
    · isplitr; · iexact HW
      isplitl [Hs]; · iexact Hs
      isplitl [Hd]; · iexact Hd
      isplitl [HO]; · iexact HO
      isplitl [Ht₁]; · iexact Ht₁
      isplitl [Hr₁]; · iexact Hr₁
      isplitl [Ht₂]; · iexact Ht₂
      iexact Hr₂
    iintro ⟨Hc, HO⟩
    iapply Hk
    isplitr; · iexact HW
    isplitl [HO]; · iexact HO
    iexact Hc
  · rw [dif_neg hc]
    have hne : c.val ≠ k + 1 := fun h => hc (hC.mpr h)
    unfold C0St
    rw [if_congr (show k < c.val ↔ k + 1 < c.val by omega) rfl rfl]
    iintro H Hk
    iapply Hk; iexact H

/-! ## The copy of the last block's contribution from device 1 to device 7 -/

abbrev pxOwn : CellTallies nD τ sig Unit := tallyAt (dmaCell 7 14 (by decide)) () N128
abbrev pxB : sProp 𝕄 :=
  iprop(hasAny (cxS 1 (by decide)) 7 ∗ dutyTok ER (dmaCell 1 23 (by decide)) 0 (1 : Dev nD) ∗ reached ER (dmaCell 1 23 (by decide)) 0
    ∗ dutyTok ER (dmaCell 7 14 (by decide)) 0 (1 : Dev nD) ∗ reached ER (dmaCell 7 14 (by decide)) 0)

theorem px_copy {α : Type} {dv : Dev nD} (hdv : dv = 7) {a b : DmaSem sig} (ha : a = ⟨23, by decide⟩) (hb : b = ⟨14, by decide⟩)
    {hsc : ((cxS 1 (by decide)).squeeze S128x1152 squeezes_S1x128x1152_S128x1152).view.ref.isScScratch = false}
    {hsrc : pxM.view.WordExact}
    {hdst : ((cxS 1 (by decide)).squeeze S128x1152 squeezes_S1x128x1152_S128x1152).view.WordExact}
    {hsem : DmaTarget.Typed .vmem (.dma b) (.remote (dv : Thread nD τ) ((cxS 1 (by decide)).squeeze S128x1152 squeezes_S1x128x1152_S128x1152) (.dma a) hsc)}
    {kk : PUnit → PG F α} {Q : α → sProp 𝕄} (O : CellTallies nD τ sig Unit) :
    iprop(World vs K ∗ owesE 1 (O + pxOwn) ∗ pxB ∗ has pxM 1 fullShare vs.px)
      ⊢ iprop(((owesE 1 O ∗ cred (tallyAt (dmaCell 1 23 (by decide)) () N128)) -∗ WP 1 (kk ⟨⟩) Q)
        -∗ WP 1 (.op (.enqueueDma pxM (.remote (dv : Thread nD τ) ((cxS 1 (by decide)).squeeze S128x1152 squeezes_S1x128x1152_S128x1152) (.dma a) hsc)
          (.dma b) hsrc hdst hsem) kk) Q) := by
  subst hdv ha hb
  iintro ⟨#HW, HO, ⟨Hd, Ht₁, Hr₁, Ht₂, Hr₂⟩, Hs⟩ Hk
  have l₁ : 23 < 40 := by decide
  have l₂ : 14 < 40 := by decide
  have l₃ : 6 ≤ 23 := by decide
  have l₄ : 6 ≤ 14 := by decide
  have l₅ : 1 < 2 := by decide
  have a₁ : amt (.dma ⟨23, by decide⟩) = N128 := amt128 _ _ (by omega) (by omega)
  have a₂ : amt (.dma ⟨14, by decide⟩) = N128 := amt128 _ _ (by omega) (by omega)
  have n₁ : ((cxS 1 (by decide)).squeeze S128x1152 squeezes_S1x128x1152_S128x1152).view.dmaCredit = N128 := by unfold N128; rfl
  have m₁ : (1 : Dev nD) ∈ payers 1 (.dma ⟨23, by decide⟩) := mem_payers _ _ _ (by decide) (by decide)
  have m₂ : (1 : Dev nD) ∈ payers 7 (.dma ⟨14, by decide⟩) := mem_payers _ _ _ (by decide) (by decide)
  unfold has
  iapply (send_to vs K (1 : Dev nD) (p := 7) (src := pxM)
      (cxS 1 l₅) squeezes_S1x128x1152_S128x1152 23 14 l₁ l₂ l₃ l₄ (q := fullShare)
      m₁ m₂ N128 n₁ a₁ a₂ O
      (by rw [pay_s1']; exact BIBase.Entails.rfl)
      (by rw [View.read_rep, pay_cx1])) $$ [Hs Hd HO Ht₁ Hr₁ Ht₂ Hr₂]
  · isplitr; · iexact HW
    isplitl [Hs]; · iexact Hs
    isplitl [Hd]; · iexact Hd
    isplitl [HO]; · iexact HO
    isplitl [Ht₁]; · iexact Ht₁
    isplitl [Hr₁]; · iexact Hr₁
    isplitl [Ht₂]; · iexact Ht₂
    iexact Hr₂
  iintro ⟨Hc, HO⟩
  iapply Hk
  isplitl [HO]; · iexact HO
  iexact Hc

/-! ## Part 61 away from device 0 -/

theorem part61_other (I : Ins F) (hp32 : vs.p32 c = shapeCast S32x1152 (p32T I) (cast_self 32 1152)) (hpx : c = 1 → vs.px = shapeCast S128x1152 (pxT I) (cast_self 128 1152))
    (h9 : ¬ k0_cond9 c = 1#1) (h33 : Scalar.cmpi .ne (Scalar.extui (Scalar.cmpi .ne (myW c) 0#32)) 0#32 = 1#1) (h0 : 0 < c.val)
    (O : CellTallies nD τ sig Unit) (Q : BitVec 1 → sProp 𝕄) :
   iprop(World vs K ∗ owesE c ((O + if c = 1 then pxOwn else 0) + c0Own c) ∗ c0B c ∗ (if c = 1 then pxB else iprop(emp)) ∗ insAt c I ∗ hasAny (F := F) p32M c ∗ hasAny (F := F) pxM c
     ∗ ((owesE c O ∗ c0A c ∗ (if c = 1 then cred (tallyAt (dmaCell 1 23 (by decide)) () N128) else hasAny (F := F) pxM c) ∗ insAt c I)
       -∗ Q (Scalar.cmpi .eq (myW c) 0#32)))
     ⊢ WP c (atArgs (k0_part61 (F := F)) c (myW c) (Scalar.cmpi .eq (myW c) 0#32)) Q := by
  rw [k0_part61_eq_skeleton]
  unfold WP atArgs k0_part61_skel hasAny insAt
  iintro ⟨#HW, HO, HB, HX, ⟨Hx, Hwq, Hk, Hv, Hwo⟩, ⟨%f0, Hp⟩, ⟨%f1, Hp1⟩, Hpost⟩
  sl_exec (disch := first | sl_exact h9 | sl_exact h33)
  ihave Hst : C0St vs K c (O + if c = 1 then pxOwn else 0) 0 $$ [HO HB Hp]
  · unfold C0St
    rw [if_pos h0]
    isplitr; · iexact HW
    isplitl [HO]; · iexact HO
    isplitl [Hp]
    · rw [hp32]
      iapply (has_of_read p32M c fullShare _ _ ?_) $$ Hp
      exact (View.read_writes_full p32M.view f0 inb_S32x1152_S32x1152_0_0 _ []).trans rfl
    iexact HB

  iapply (c0_if vs K c 0 (of_decide_eq_true rfl) (by clear * -; revert c; decide) rfl (Memref.isWhole_whole _).wordExact
    (((Memref.isWhole_whole _).wordExact_slice rfl _ wordsbf16_S7x32x1152_S1x32x1152_0_0_0).reshape _ _) ⟨⟨rfl, Or.inl rfl⟩, trivial⟩ (fun h => by exact rfl)) $$ Hst
  iintro Hst

  iapply (c0_if vs K c 1 (of_decide_eq_true rfl) (by clear * -; revert c; decide) rfl (Memref.isWhole_whole _).wordExact
    (((Memref.isWhole_whole _).wordExact_slice rfl _ wordsbf16_S7x32x1152_S1x32x1152_1_0_0).reshape _ _) ⟨⟨rfl, Or.inl rfl⟩, trivial⟩ (fun h => by exact rfl)) $$ Hst
  iintro Hst

  iapply (c0_if vs K c 2 (of_decide_eq_true rfl) (by clear * -; revert c; decide) rfl (Memref.isWhole_whole _).wordExact
    (((Memref.isWhole_whole _).wordExact_slice rfl _ wordsbf16_S7x32x1152_S1x32x1152_2_0_0).reshape _ _) ⟨⟨rfl, Or.inl rfl⟩, trivial⟩ (fun h => by exact rfl)) $$ Hst
  iintro Hst

  iapply (c0_if vs K c 3 (of_decide_eq_true rfl) (by clear * -; revert c; decide) rfl (Memref.isWhole_whole _).wordExact
    (((Memref.isWhole_whole _).wordExact_slice rfl _ wordsbf16_S7x32x1152_S1x32x1152_3_0_0).reshape _ _) ⟨⟨rfl, Or.inl rfl⟩, trivial⟩ (fun h => by exact rfl)) $$ Hst
  iintro Hst

  iapply (c0_if vs K c 4 (of_decide_eq_true rfl) (by clear * -; revert c; decide) rfl (Memref.isWhole_whole _).wordExact
    (((Memref.isWhole_whole _).wordExact_slice rfl _ wordsbf16_S7x32x1152_S1x32x1152_4_0_0).reshape _ _) ⟨⟨rfl, Or.inl rfl⟩, trivial⟩ (fun h => by exact rfl)) $$ Hst
  iintro Hst

  iapply (c0_if vs K c 5 (of_decide_eq_true rfl) (by clear * -; revert c; decide) rfl (Memref.isWhole_whole _).wordExact
    (((Memref.isWhole_whole _).wordExact_slice rfl _ wordsbf16_S7x32x1152_S1x32x1152_5_0_0).reshape _ _) ⟨⟨rfl, Or.inl rfl⟩, trivial⟩ (fun h => by exact rfl)) $$ Hst
  iintro Hst

  iapply (c0_if vs K c 6 (of_decide_eq_true rfl) (by clear * -; revert c; decide) rfl (Memref.isWhole_whole _).wordExact
    (((Memref.isWhole_whole _).wordExact_slice rfl _ wordsbf16_S7x32x1152_S1x32x1152_6_0_0).reshape _ _) ⟨⟨rfl, Or.inl rfl⟩, trivial⟩ (fun h => by exact rfl)) $$ Hst
  iintro Hst

  by_cases h18 : k0_cond18 c = 1#1
  · obtain rfl : c = 1 := by clear * - h18; revert c; decide
    have e1 : (1 : Dev nD) = 1 := rfl
    unfold WP
    sl_exec (disch := sl_exact h18)
    have h7 : ¬ 7 < (1 : Dev nD).val := by decide
    unfold C0St
    rw [if_neg h7]
    icases Hst with ⟨-, HO, HA⟩
    ihave HO' : owesE 1 (O + pxOwn) $$ [HO]
    · rw [if_pos e1]; iexact HO
    ihave HX' : pxB $$ [HX]
    · iapply (show (if (1 : Dev nD) = 1 then pxB else iprop(emp)) ⊢ (pxB : sProp 𝕄) by rw [if_pos e1]) $$ HX
    iapply (px_copy vs K (by exact Fin.ext rfl) (by exact rfl) (by exact rfl) O) $$ [HO' HX' Hp1]
    · isplitr; · iexact HW
      isplitl [HO']; · iexact HO'
      isplitl [HX']; · iexact HX'
      rw [hpx rfl]
      iapply (has_of_read pxM 1 fullShare _ _ ?_) $$ Hp1
      exact (View.read_writes_full pxM.view f1 inb_S128x1152_S128x1152_0_0 _ []).trans rfl
    iintro ⟨HO, HC⟩
    unfold WP
    sl_exec
    iapply (ret_run (a := Scalar.cmpi .eq (myW 1) 0#32) (1 : Dev nD)); iapply Hpost
    isplitl [HO]; · iexact HO
    isplitl [HA]; · iexact HA
    isplitl [HC]
    · rw [if_pos e1]; iexact HC
    isplitl [Hx]; · iexact Hx
    isplitl [Hwq]; · iexact Hwq
    isplitl [Hk]; · iexact Hk
    isplitl [Hv]; · iexact Hv
    iexact Hwo
  · have hc1 : c ≠ 1 := by clear * - h18; revert c; decide
    rw [if_neg hc1, if_neg hc1]
    unfold WP
    sl_exec (disch := sl_exact h18)
    have h7 : ¬ 7 < c.val := by have h : c.val < 8 := c.isLt; omega
    unfold C0St
    rw [if_neg h7, if_neg hc1, add_zero]
    icases Hst with ⟨-, HO, HA⟩
    iapply (ret_run (a := Scalar.cmpi .eq (myW c) 0#32) c); iapply Hpost
    isplitl [HO]; · iexact HO
    isplitl [HA]; · iexact HA
    isplitl [Hp1]; · iexists f1; iexact Hp1
    isplitl [Hx]; · iexact Hx
    isplitl [Hwq]; · iexact Hwq
    isplitl [Hk]; · iexact Hk
    isplitl [Hv]; · iexact Hv
    iexact Hwo

end Cert.KernelIdeal.Fused

end
-- ==== Proof.Zero62.lean ====
/-
  Device 0's waits of the second part: the global rows' sums come in, and its copies have left.
-/
module

public import proofs.«01_k».proof.Proof.Combine

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

variable (vs : Vals F) (K : GSem nD τ sig → ℕ)

/-- What device 0 waits for: the other devices' contributions to the global rows, and its own copies. -/
abbrev c0W (k : Fin 7) : sProp 𝕄 :=
  iprop(cred (tallyAt (dmaCell 0 (k.val + 6) (by show k.val + 6 < 40; omega)) () N32) ∗ atPos ER (dmaCell 0 (k.val + 6) (by show k.val + 6 < 40; omega)) 0 ∅ 0)
abbrev c0D (k : Fin 7) : sProp 𝕄 :=
  iprop(atPos ER (dmaCell 0 (k.val + 6) (by show k.val + 6 < 40; omega)) 1 ∅ 0
    ∗ has (c0S k.val k.isLt) 0 fullShare (lead squeezes_S1x32x1152_S32x1152 (vs.p32 ⟨k.val + 1, by show k.val + 1 < 8; omega⟩)))
abbrev s0W (k : Fin 7) : sProp 𝕄 :=
  iprop(cred (tallyAt (dmaCell 0 (k.val + 15) (by show k.val + 15 < 40; omega)) () N128) ∗ atPos ER (dmaCell 0 (k.val + 15) (by show k.val + 15 < 40; omega)) 0 ∅ 0)
abbrev s0D (k : Fin 7) : sProp 𝕄 :=
  iprop(atPos ER (dmaCell 0 (k.val + 15) (by show k.val + 15 < 40; omega)) 1 ∅ 0
    ∗ has (psS k.val k.isLt) 0 fullShare (vs.ps k.val))

theorem n32_c0 (k : ℕ) (hk : k < 7) : ((c0S k hk).squeeze S32x1152 squeezes_S1x32x1152_S32x1152).view.dmaCredit = N32 := by unfold N32; rfl
theorem n128_ps (k : ℕ) (hk : k < 7) : ((psS k hk).squeeze S128x1152 squeezes_S1x128x1152_S128x1152).view.dmaCredit = N128 := by unfold N128; rfl

theorem c0_pays : ∀ k : Fin 7, payers 0 (.dma ⟨k.val + 6, by show k.val + 6 < 40; omega⟩) = {(⟨k.val + 1, by show k.val + 1 < 8; omega⟩ : Dev nD)} := by decide
theorem s0_pays : ∀ k : Fin 7, payers 0 (.dma ⟨k.val + 15, by show k.val + 15 < 40; omega⟩) = {(0 : Dev nD)} := by decide

theorem c0_wait {α : Type} (k : ℕ) (hk : k < 7) {a : DmaSem sig} (ha : a = ⟨k + 6, by show k + 6 < 40; omega⟩)
    {src : Memref sig .tc .vmem S32x1152 .bf16} {hsrc : src.view.WordExact} {hdst : ((c0S k hk).squeeze S32x1152 squeezes_S1x32x1152_S32x1152).view.WordExact}
    {kk : PUnit → PG F α} {Q : α → sProp 𝕄} {O : CellTallies nD τ sig Unit} (hO : Above 2 O) :
    FamSt vs K 0 O (c0D vs) c0W k ⊢ iprop((FamSt vs K 0 O (c0D vs) c0W (k + 1) -∗ WP 0 (kk ⟨⟩) Q)
      -∗ WP 0 (.op (.waitDma2 a src ((c0S k hk).squeeze S32x1152 squeezes_S1x32x1152_S32x1152) hsrc hdst) kk) Q) :=
  wait_fam vs K 0 (k + 6) (by omega) (by omega) ha N32 (n32_c0 k hk) (amt32 _ _ (by omega)) _ (c0_pays ⟨k, hk⟩)
    (by rw [lev_mid _ _ (by omega) (by omega)]; exact hO) k hk rfl (by rw [pay_c0 vs 0 _ k hk])

theorem s0_wait {α : Type} (k : ℕ) (hk : k < 7) {a : DmaSem sig} (ha : a = ⟨k + 15, by show k + 15 < 40; omega⟩)
    {s' : Shape} {src : Memref sig .tc .vmem s' .bf16} {hsrc : src.view.WordExact} {hdst : ((psS k hk).squeeze S128x1152 squeezes_S1x128x1152_S128x1152).view.WordExact}
    {kk : PUnit → PG F α} {Q : α → sProp 𝕄} {O : CellTallies nD τ sig Unit} (hO : Above 0 O) :
    FamSt vs K 0 O (s0D vs) s0W k ⊢ iprop((FamSt vs K 0 O (s0D vs) s0W (k + 1) -∗ WP 0 (kk ⟨⟩) Q)
      -∗ WP 0 (.op (.waitDma2 a src ((psS k hk).squeeze S128x1152 squeezes_S1x128x1152_S128x1152) hsrc hdst) kk) Q) :=
  wait_fam vs K 0 (k + 15) (by omega) (by omega) ha N128 (n128_ps k hk) (amt128 _ _ (by omega) (by omega)) _ (s0_pays ⟨k, hk⟩)
    (by rw [lev_low _ _ (by omega) (by omega)]; exact hO) k hk rfl (by rw [pay_s0 vs 0 0 k hk])

theorem part62_zero (t : S128x1152.Idx → Elt F .bf16) (O : CellTallies nD τ sig Unit) (hO : Above 2 O) (hO' : Above 0 O)
    (Q : (Σ' (_ : FVec F S128x128 .f32) (_ : FVec F S128x128 .f32), FVec F S128x128 .f32) → sProp 𝕄) :
   iprop(FamSt vs K 0 O (c0D vs) c0W 0 ∗ fam 0 (s0D vs) s0W ∗ has bsM 0 fullShare (bs0 t)
     ∗ ((owesE 0 O ∗ bigSep Finset.univ (c0D vs) ∗ bigSep Finset.univ (s0D vs)
        ∗ has bsM 0 fullShare (bsG t fun k => lead squeezes_S1x32x1152_S32x1152 (vs.p32 (Fin.ofNat 8 (k + 1)))))
       -∗ Q ⟨quot (bsG t fun k => lead squeezes_S1x32x1152_S32x1152 (vs.p32 (Fin.ofNat 8 (k + 1)))) 0,
          quot (bsG t fun k => lead squeezes_S1x32x1152_S32x1152 (vs.p32 (Fin.ofNat 8 (k + 1)))) 1,
          quot (bsG t fun k => lead squeezes_S1x32x1152_S32x1152 (vs.p32 (Fin.ofNat 8 (k + 1)))) 2⟩))
     ⊢ WP 0 (atArgs (k0_part62 (F := F)) (myW 0) 1#1) Q := by
  rw [k0_part62_eq_skeleton]
  unfold WP atArgs k0_part62_skel
  iintro ⟨HF, HS, Hb, Hpost⟩
  sl_exec (disch := decide)
  iapply (c0_wait vs K 0 (of_decide_eq_true rfl) (by exact rfl) hO) $$ HF
  iintro HF
  unfold WP
  sl_exec (disch := decide)
  iapply (c0_wait vs K 1 (of_decide_eq_true rfl) (by exact rfl) hO) $$ HF
  iintro HF
  unfold WP
  sl_exec (disch := decide)
  iapply (c0_wait vs K 2 (of_decide_eq_true rfl) (by exact rfl) hO) $$ HF
  iintro HF
  unfold WP
  sl_exec (disch := decide)
  iapply (c0_wait vs K 3 (of_decide_eq_true rfl) (by exact rfl) hO) $$ HF
  iintro HF
  unfold WP
  sl_exec (disch := decide)
  iapply (c0_wait vs K 4 (of_decide_eq_true rfl) (by exact rfl) hO) $$ HF
  iintro HF
  unfold WP
  sl_exec (disch := decide)
  iapply (c0_wait vs K 5 (of_decide_eq_true rfl) (by exact rfl) hO) $$ HF
  iintro HF
  unfold WP
  sl_exec (disch := decide)
  iapply (c0_wait vs K 6 (of_decide_eq_true rfl) (by exact rfl) hO) $$ HF
  iintro HF
  unfold FamSt
  icases HF with ⟨#HW, HO, HF⟩
  ihave HF' := (Entails.of_eq ((fam_all (n := 7) (c0D vs) c0W).trans (bigSep_seven (c0D vs)))) $$ HF
  icases HF' with ⟨⟨Ha0, Hd0⟩, ⟨Ha1, Hd1⟩, ⟨Ha2, Hd2⟩, ⟨Ha3, Hd3⟩, ⟨Ha4, Hd4⟩, ⟨Ha5, Hd5⟩, ⟨Ha6, Hd6⟩⟩
  unfold WP has
  sl_exec (disch := decide)
  ihave Hb : has bsM 0 fullShare (bsG t fun k => lead squeezes_S1x32x1152_S32x1152 (vs.p32 (Fin.ofNat 8 (k + 1)))) $$ [Hb]
  · iapply (has_of_read bsM 0 fullShare _ _ ?_) $$ Hb
    refine (View.read_writes_rep_unit bsM.view (bs0 t) inb_S128x1152_S32x1152_0_0 _ rfl).trans ?_
    unfold bsG
    refine congrArg (VecWindow.put (s := S128x1152) (bs0 t) ![0, 0] S32x1152.size) ?_
    unfold part62_zero.sl.r part62_zero.sl.v242 part62_zero.sl.v246 part62_zero.sl.v250 part62_zero.sl.v254 part62_zero.sl.v258
    rw [View.readAt_rep_unit bsM.view (bs0 t) inb_S128x1152_S32x1152_0_0 rfl inb_S128x1152_S32x1152_0_0]
    exact pay402_congr (c0_read 0 (of_decide_eq_true rfl) _ _) (c0_read 1 (of_decide_eq_true rfl) _ _) (c0_read 2 (of_decide_eq_true rfl) _ _)
      (c0_read 3 (of_decide_eq_true rfl) _ _) (c0_read 4 (of_decide_eq_true rfl) _ _) (c0_read 5 (of_decide_eq_true rfl) _ _) (c0_read 6 (of_decide_eq_true rfl) _ _)
  ihave HS : FamSt vs K 0 O (s0D vs) s0W 0 $$ [HO HS]
  · unfold FamSt
    isplitr; · iexact HW
    isplitl [HO]; · iexact HO
    iexact HS
  iapply (s0_wait vs K 0 (of_decide_eq_true rfl) (by exact rfl) hO') $$ HS
  iintro HS
  unfold WP
  sl_exec (disch := decide)
  iapply (s0_wait vs K 1 (of_decide_eq_true rfl) (by exact rfl) hO') $$ HS
  iintro HS
  unfold WP
  sl_exec (disch := decide)
  iapply (s0_wait vs K 2 (of_decide_eq_true rfl) (by exact rfl) hO') $$ HS
  iintro HS
  unfold WP
  sl_exec (disch := decide)
  iapply (s0_wait vs K 3 (of_decide_eq_true rfl) (by exact rfl) hO') $$ HS
  iintro HS
  unfold WP
  sl_exec (disch := decide)
  iapply (s0_wait vs K 4 (of_decide_eq_true rfl) (by exact rfl) hO') $$ HS
  iintro HS
  unfold WP
  sl_exec (disch := decide)
  iapply (s0_wait vs K 5 (of_decide_eq_true rfl) (by exact rfl) hO') $$ HS
  iintro HS
  unfold WP
  sl_exec (disch := decide)
  iapply (s0_wait vs K 6 (of_decide_eq_true rfl) (by exact rfl) hO') $$ HS
  iintro HS
  unfold WP FamSt has
  icases HS with ⟨-, HO, HS⟩
  sl_exec (disch := decide)
  iapply (ret_three 0 _ Q); iapply Hpost
  isplitl [HO]; · iexact HO
  isplitl [Ha0 Hd0 Ha1 Hd1 Ha2 Hd2 Ha3 Hd3 Ha4 Hd4 Ha5 Hd5 Ha6 Hd6]
  · iapply (Entails.of_eq (bigSep_seven (c0D vs)).symm)
    unfold c0D has
    isplitl [Ha0 Hd0]; · (isplitl [Ha0]; · iexact Ha0); iexact Hd0
    isplitl [Ha1 Hd1]; · (isplitl [Ha1]; · iexact Ha1); iexact Hd1
    isplitl [Ha2 Hd2]; · (isplitl [Ha2]; · iexact Ha2); iexact Hd2
    isplitl [Ha3 Hd3]; · (isplitl [Ha3]; · iexact Ha3); iexact Hd3
    isplitl [Ha4 Hd4]; · (isplitl [Ha4]; · iexact Ha4); iexact Hd4
    isplitl [Ha5 Hd5]; · (isplitl [Ha5]; · iexact Ha5); iexact Hd5
    isplitl [Ha6]; · iexact Ha6
    iexact Hd6
  isplitl [HS]
  · iapply (Entails.of_eq (fam_all (n := 7) (s0D vs) s0W)); iexact HS
  iexact Hb

end Cert.KernelIdeal.Fused

end
-- ==== Proof.Other62.lean ====
/-
  The other devices' waits of the second part.
-/
module

public import proofs.«01_k».proof.Proof.Combine

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (vs : Vals F) (K : GSem nD τ sig → ℕ) (c : Dev nD)

/-- A conditional passed either way. -/
theorem opt_if {α : Type} {C : Prop} {_ : Decidable C} {P : C → PG F α} {J : PG F α} {Q : α → sProp 𝕄} {A B : sProp 𝕄}
    (t : ∀ h : C, A ⊢ iprop((B -∗ WP c J Q) -∗ WP c (P h) Q)) (e : ¬ C → A ⊢ B) :
    A ⊢ iprop((B -∗ WP c J Q) -∗ WP c (if h : C then P h else J) Q) := by
  by_cases hc : C
  · rw [dif_pos hc]; exact t hc
  · rw [dif_neg hc]
    iintro HA Hk
    iapply Hk; iapply (e hc); iexact HA

/-- A device's sums once all has come in. -/
def bsV (t : S128x1152.Idx → Elt F .bf16) (c : Dev nD) : S128x1152.Idx → Elt F .f32 :=
  if c = 0 then bsG t fun k => lead squeezes_S1x32x1152_S32x1152 (vs.p32 (Fin.ofNat 8 (k + 1)))
  else if c = 7 then bs7 (vs.ps 6) (lead squeezes_S1x128x1152_S128x1152 vs.px)
  else bsO (vs.ps (c.val - 1))

/-- What waits for device 1's copy on device 7; what comes of it; and on device 1 for its having left. -/
def w7 : sProp 𝕄 := if c = 7 then iprop(cred (tallyAt (dmaCell c 14 (by decide)) () N128) ∗ atPos ER (dmaCell c 14 (by decide)) 0 ∅ 0) else iprop(emp)
def d7 : sProp 𝕄 := if c = 7 then iprop(atPos ER (dmaCell c 14 (by decide)) 1 ∅ 0 ∗ has (cxS 1 (by decide)) c fullShare (lead squeezes_S1x128x1152_S128x1152 vs.px)) else iprop(emp)
def w1 : sProp 𝕄 := if c = 1 then iprop(cred (tallyAt (dmaCell c 23 (by decide)) () N128) ∗ atPos ER (dmaCell c 23 (by decide)) 0 ∅ 0) else iprop(emp)
def d1 : sProp 𝕄 := if c = 1 then iprop(atPos ER (dmaCell c 23 (by decide)) 1 ∅ 0 ∗ has pxM c fullShare vs.px) else iprop(emp)

theorem payers13 (h : c ≠ 0) : payers c (.dma ⟨13, by decide⟩) = {0} := by revert c; decide
theorem payers22 (h : c ≠ 0) : payers c (.dma ⟨22, by decide⟩) = {c} := by revert c; decide
theorem payers14 : payers 7 (.dma ⟨14, by decide⟩) = {1} := by decide
theorem payers23 : payers 1 (.dma ⟨23, by decide⟩) = {1} := by decide

theorem part62_other (t : S128x1152.Idx → Elt F .bf16) (h0 : c ≠ 0)
    (h19 : ¬ Scalar.cmpi .ne (Scalar.extui (Scalar.cmpi .eq (myW c) 0#32)) 0#32 = 1#1)
    (h20 : Scalar.cmpi .ne (Scalar.extui (Scalar.cmpi .ne (myW c) 0#32)) 0#32 = 1#1)
    (O : CellTallies nD τ sig Unit) (hO : Above 2 O) (hO' : Above 0 O)
    (Q : (Σ' (_ : FVec F S128x128 .f32) (_ : FVec F S128x128 .f32), FVec F S128x128 .f32) → sProp 𝕄) :
   iprop(World vs K ∗ owesE c O ∗ (cred (tallyAt (dmaCell c 13 (by decide)) () N128) ∗ atPos ER (dmaCell c 13 (by decide)) 0 ∅ 0)
     ∗ w7 c ∗ (cred (tallyAt (dmaCell c 22 (by decide)) () N32) ∗ atPos ER (dmaCell c 22 (by decide)) 0 ∅ 0) ∗ w1 c ∗ hasAny (F := F) bsM c
     ∗ ((owesE c O ∗ (atPos ER (dmaCell c 13 (by decide)) 1 ∅ 0 ∗ has (cxS 0 (by decide)) c fullShare (vs.ps (c.val - 1)))
         ∗ d7 vs c ∗ (atPos ER (dmaCell c 22 (by decide)) 1 ∅ 0 ∗ has p32M c fullShare (vs.p32 c)) ∗ d1 vs c ∗ has bsM c fullShare (bsV vs t c))
       -∗ Q ⟨quot (bsV vs t c) 0, quot (bsV vs t c) 1, quot (bsV vs t c) 2⟩))
     ⊢ WP c (atArgs (k0_part62 (F := F)) (myW c) (Scalar.cmpi .eq (myW c) 0#32)) Q := by
  have l13 : 13 < 40 := by decide
  have l14 : 14 < 40 := by decide
  have l22 : 22 < 40 := by decide
  have l23 : 23 < 40 := by decide
  have m13 : 6 ≤ 13 := by decide
  have m14 : 6 ≤ 14 := by decide
  have m22 : 6 ≤ 22 := by decide
  have m23 : 6 ≤ 23 := by decide
  have a13 : Above (lev (.dma ⟨13, l13⟩)) O := by rw [lev_mid 13 l13 (by omega) (by omega)]; exact hO
  have a14 : Above (lev (.dma ⟨14, l14⟩)) O := by rw [lev_mid 14 l14 (by omega) (by omega)]; exact hO
  have a22 : Above (lev (.dma ⟨22, l22⟩)) O := by rw [lev_low 22 l22 (by omega) (by omega)]; exact hO'
  have a23 : Above (lev (.dma ⟨23, l23⟩)) O := by rw [lev_low 23 l23 (by omega) (by omega)]; exact hO'
  have n13 : amt (.dma ⟨13, l13⟩) = N128 := amt128 _ _ (by omega) (by omega)
  have n14 : amt (.dma ⟨14, l14⟩) = N128 := amt128 _ _ (by omega) (by omega)
  have n22 : amt (.dma ⟨22, l22⟩) = N32 := amt32 _ _ (by omega)
  have n23 : amt (.dma ⟨23, l23⟩) = N128 := amt128 _ _ (by omega) (by omega)
  rw [k0_part62_eq_skeleton]
  unfold WP atArgs k0_part62_skel hasAny
  iintro ⟨#HW, HO, ⟨Hc13, Ha13⟩, H7, ⟨Hc22, Ha22⟩, H1, ⟨%f, Hb⟩, Hpost⟩
  sl_exec (disch := first | sl_exact h19 | sl_exact h20)
  iapply (wait_dma vs K c 13 m13 l13 (by exact rfl) N128 (by unfold N128; exact rfl) n13 0 (payers13 c h0) O a13) $$ [HO Hc13 Ha13]
  · isplitr; · iexact HW
    isplitl [HO]; · iexact HO
    isplitl [Hc13]; · iexact Hc13
    iexact Ha13
  iintro ⟨HO, Ha13, Hd13⟩
  ihave Hd13 := (Entails.of_eq (pay_cx0 vs c 0)) $$ Hd13
  unfold WP has
  sl_exec (disch := first | sl_exact h19 | sl_exact h20)
  ihave Hb : has bsM c fullShare (bsO (vs.ps (c.val - 1))) $$ [Hb]
  · iapply (has_of_read bsM c fullShare _ _ ?_) $$ Hb
    refine (View.read_writes_full bsM.view f inb_S128x1152_S128x1152_0_0 _ []).trans ?_
    exact congrArg k0_pay403 (cx_read 0 (of_decide_eq_true rfl) _ _)
  iapply (opt_if c (A := iprop(World vs K ∗ owesE c O ∗ w7 c ∗ has bsM c fullShare (bsO (vs.ps (c.val - 1)))))
    (B := iprop(owesE c O ∗ d7 vs c ∗ has bsM c fullShare (bsV vs t c))) ?t7 ?e7) $$ [HO H7 Hb]
  case t7 =>
    intro h
    obtain rfl : c = 7 := by clear * - h; revert c; decide
    have e7 : (7 : Dev nD) = 7 := rfl
    iintro ⟨#HW, HO, H7, Hb⟩ Hk
    ihave H7 := (show w7 7 ⊢ iprop(cred (tallyAt (dmaCell 7 14 (by decide)) () N128) ∗ atPos ER (dmaCell 7 14 (by decide)) 0 ∅ 0) by unfold w7; rw [if_pos e7]) $$ H7
    icases H7 with ⟨Hc, Ha⟩
    unfold WP
    sl_exec (disch := sl_exact h)
    iapply (wait_dma vs K 7 14 m14 l14 (by exact rfl) N128 (by unfold N128; exact rfl) n14 1 payers14 O a14) $$ [HO Hc Ha]
    · isplitr; · iexact HW
      isplitl [HO]; · iexact HO
      isplitl [Hc]; · iexact Hc
      iexact Ha
    iintro ⟨HO, Ha, Hd⟩
    ihave Hd := (Entails.of_eq (pay_cx1 vs 7 1)) $$ Hd
    unfold WP has
    sl_exec (disch := sl_exact h)
    ihave Hb : has bsM 7 fullShare (bsV vs t 7) $$ [Hb]
    · iapply (has_of_read bsM 7 fullShare _ _ ?_) $$ Hb
      refine (View.read_writes_full bsM.view _ inb_S128x1152_S128x1152_0_0 _ []).trans ?_
      refine (congrArg₂ k0_pay404 (View.readAt_rep_full bsM.view _ inb_S128x1152_S128x1152_0_0) (cx_read 1 (of_decide_eq_true rfl) _ _)).trans ?_
      unfold bsV
      rw [if_neg h0, if_pos e7]; rfl
    unfold has
    iapply Hk
    isplitl [HO]; · iexact HO
    isplitl [Ha Hd]
    · unfold d7 has; rw [if_pos e7]
      isplitl [Ha]; · iexact Ha
      iexact Hd
    iexact Hb
  case e7 =>
    intro h
    have hc : c ≠ 7 := by clear * - h; revert c; decide
    unfold w7 d7 bsV
    rw [if_neg hc, if_neg hc, if_neg h0, if_neg hc]
    iintro ⟨-, HO, H7, Hb⟩
    isplitl [HO]; · iexact HO
    isplitl [H7]; · iexact H7
    iexact Hb
  · isplitr; · iexact HW
    isplitl [HO]; · iexact HO
    isplitl [H7]; · iexact H7
    iexact Hb
  iintro ⟨HO, H7, Hb⟩
  unfold WP has
  sl_exec (disch := first | sl_exact h19 | sl_exact h20)
  iapply (wait_dma vs K c 22 m22 l22 (by exact rfl) N32 (by unfold N32; exact rfl) n22 c (payers22 c h0) O a22) $$ [HO Hc22 Ha22]
  · isplitr; · iexact HW
    isplitl [HO]; · iexact HO
    isplitl [Hc22]; · iexact Hc22
    iexact Ha22
  iintro ⟨HO, Ha22, Hd22⟩
  ihave Hd22 := (Entails.of_eq (pay_s1 vs c c)) $$ Hd22
  unfold WP has
  sl_exec (disch := first | sl_exact h19 | sl_exact h20)
  iapply (opt_if c (A := iprop(World vs K ∗ owesE c O ∗ w1 c)) (B := iprop(owesE c O ∗ d1 vs c)) ?t1 ?e1) $$ [HO H1]
  case t1 =>
    intro h
    obtain rfl : c = 1 := by clear * - h; revert c; decide
    have e1 : (1 : Dev nD) = 1 := rfl
    iintro ⟨#HW, HO, H1⟩ Hk
    ihave H1 := (show w1 1 ⊢ iprop(cred (tallyAt (dmaCell 1 23 (by decide)) () N128) ∗ atPos ER (dmaCell 1 23 (by decide)) 0 ∅ 0) by unfold w1; rw [if_pos e1]) $$ H1
    icases H1 with ⟨Hc, Ha⟩
    unfold WP
    sl_exec (disch := sl_exact h)
    iapply (wait_dma vs K 1 23 m23 l23 (by exact rfl) N128 (by unfold N128; exact rfl) n23 1 payers23 O a23) $$ [HO Hc Ha]
    · isplitr; · iexact HW
      isplitl [HO]; · iexact HO
      isplitl [Hc]; · iexact Hc
      iexact Ha
    iintro ⟨HO, Ha, Hd⟩
    ihave Hd := (Entails.of_eq (pay_s1' vs 1 1)) $$ Hd
    iapply Hk
    isplitl [HO]; · iexact HO
    unfold d1; rw [if_pos e1]
    isplitl [Ha]; · iexact Ha
    iexact Hd
  case e1 =>
    intro h
    have hc : c ≠ 1 := by clear * - h; revert c; decide
    unfold w1 d1
    rw [if_neg hc, if_neg hc]
    iintro ⟨-, HO, H1⟩
    isplitl [HO]; · iexact HO
    iexact H1
  · isplitr; · iexact HW
    isplitl [HO]; · iexact HO
    iexact H1
  iintro ⟨HO, H1⟩
  unfold WP
  sl_exec (disch := first | sl_exact h19 | sl_exact h20)
  iapply (ret_three c _ Q); iapply Hpost
  isplitl [HO]; · iexact HO
  isplitl [Ha13 Hd13]
  · isplitl [Ha13]; · iexact Ha13
    iexact Hd13
  isplitl [H7]; · iexact H7
  isplitl [Ha22 Hd22]
  · isplitl [Ha22]; · iexact Ha22
    iexact Hd22
  isplitl [H1]; · iexact H1
  iexact Hb

end Cert.KernelIdeal.Fused

end
-- ==== Proof.Dev0.lean ====
/-
  Device 0 up to its first wait: its eight blocks, seven of them sent to the devices that finish them.
-/
module

public import proofs.«01_k».proof.Proof.Combine
public import proofs.«01_k».proof.Proof.Tiles

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (vs : Vals F) (K : GSem nD τ sig → ℕ)

theorem part61_zero (I : Ins F) (hps : ∀ k, vs.ps k = shapeCast S1x128x1152 (tile I (k + 1)) (cast_to_one 128 1152))
    (O : CellTallies nD τ sig Unit) (Q : BitVec 1 → sProp 𝕄) :
   iprop(LoopSt vs K 0 O psOwn psA psB iprop(emp) 1 ∗ insAt 0 I ∗ hasAny (F := F) bsM 0
     ∗ (hasAny (F := F) (psS 0 (by decide)) 0 ∗ hasAny (F := F) (psS 1 (by decide)) 0 ∗ hasAny (F := F) (psS 2 (by decide)) 0
     ∗ hasAny (F := F) (psS 3 (by decide)) 0 ∗ hasAny (F := F) (psS 4 (by decide)) 0 ∗ hasAny (F := F) (psS 5 (by decide)) 0 ∗ hasAny (F := F) (psS 6 (by decide)) 0)
     ∗ ((LoopSt vs K 0 O psOwn psA psB iprop(emp) 8 ∗ insAt 0 I ∗ has bsM 0 fullShare (bs0 (tile I 0))) -∗ Q 1#1))
     ⊢ WP 0 (atArgs (k0_part61 (F := F)) 0 (myW 0) (Scalar.cmpi .eq (myW 0) 0#32)) Q := by
  rw [k0_part61_eq_skeleton]
  unfold WP atArgs k0_part61_skel hasAny insAt
  iintro ⟨HL, ⟨Hx, Hwq, Hk, Hv, Hwo⟩, ⟨%fb, Hb⟩, ⟨⟨%f0, Hp0⟩, ⟨%f1, Hp1⟩, ⟨%f2, Hp2⟩, ⟨%f3, Hp3⟩, ⟨%f4, Hp4⟩, ⟨%f5, Hp5⟩, ⟨%f6, Hp6⟩⟩, Hpost⟩
  sl_exec (disch := decide)
  iapply (ps_copy vs K 0 (of_decide_eq_true rfl) (by exact Fin.ext rfl) (by exact rfl) (by exact rfl) (part61_zero.sl.Hp0_w1 I f0)
    (by rw [hps]; exact (View.read_write_univ _ _).trans rfl)) $$ [HL Hp0]
  · isplitl [HL]; · iexact HL
    iexact Hp0
  iintro HL
  unfold WP
  sl_exec (disch := decide)
  iapply (ps_copy vs K 1 (of_decide_eq_true rfl) (by exact Fin.ext rfl) (by exact rfl) (by exact rfl) (part61_zero.sl.Hp1_w1 I f1)
    (by rw [hps]; exact (View.read_write_univ _ _).trans rfl)) $$ [HL Hp1]
  · isplitl [HL]; · iexact HL
    iexact Hp1
  iintro HL
  unfold WP
  sl_exec (disch := decide)
  iapply (ps_copy vs K 2 (of_decide_eq_true rfl) (by exact Fin.ext rfl) (by exact rfl) (by exact rfl) (part61_zero.sl.Hp2_w1 I f2)
    (by rw [hps]; exact (View.read_write_univ _ _).trans rfl)) $$ [HL Hp2]
  · isplitl [HL]; · iexact HL
    iexact Hp2
  iintro HL
  unfold WP
  sl_exec (disch := decide)
  iapply (ps_copy vs K 3 (of_decide_eq_true rfl) (by exact Fin.ext rfl) (by exact rfl) (by exact rfl) (part61_zero.sl.Hp3_w1 I f3)
    (by rw [hps]; exact (View.read_write_univ _ _).trans rfl)) $$ [HL Hp3]
  · isplitl [HL]; · iexact HL
    iexact Hp3
  iintro HL
  unfold WP
  sl_exec (disch := decide)
  iapply (ps_copy vs K 4 (of_decide_eq_true rfl) (by exact Fin.ext rfl) (by exact rfl) (by exact rfl) (part61_zero.sl.Hp4_w1 I f4)
    (by rw [hps]; exact (View.read_write_univ _ _).trans rfl)) $$ [HL Hp4]
  · isplitl [HL]; · iexact HL
    iexact Hp4
  iintro HL
  unfold WP
  sl_exec (disch := decide)
  iapply (ps_copy vs K 5 (of_decide_eq_true rfl) (by exact Fin.ext rfl) (by exact rfl) (by exact rfl) (part61_zero.sl.Hp5_w1 I f5)
    (by rw [hps]; exact (View.read_write_univ _ _).trans rfl)) $$ [HL Hp5]
  · isplitl [HL]; · iexact HL
    iexact Hp5
  iintro HL
  unfold WP
  sl_exec (disch := decide)
  iapply (ps_copy vs K 6 (of_decide_eq_true rfl) (by exact Fin.ext rfl) (by exact rfl) (by exact rfl) (part61_zero.sl.Hp6_w1 I f6)
    (by rw [hps]; exact (View.read_write_univ _ _).trans rfl)) $$ [HL Hp6]
  · isplitl [HL]; · iexact HL
    iexact Hp6
  iintro HL
  unfold WP
  sl_exec (disch := decide)

  iapply (ret_run (0 : Dev nD)); iapply Hpost
  isplitl [HL]; · iexact HL
  isplitl [Hx Hwq Hk Hv Hwo]
  · isplitl [Hx]; · iexact Hx
    isplitl [Hwq]; · iexact Hwq
    isplitl [Hk]; · iexact Hk
    isplitl [Hv]; · iexact Hv
    iexact Hwo
  iapply (has_of_read bsM 0 fullShare _ (bs0 (tile I 0)) ?_) $$ Hb
  exact (View.read_writes_full bsM.view fb inb_S128x1152_S128x1152_0_0 _ []).trans rfl

end Cert.KernelIdeal.Fused

end
-- ==== Proof.Deal.lean ====
/-
  Tokens, dues, credits and positions of one device.
-/
module

public import proofs.«01_k».proof.Proof.Slots
public import proofs.«01_k».proof.Proof.Other61
public import proofs.«01_k».proof.Proof.Zero62
public import proofs.«01_k».proof.Proof.Other62
public import proofs.«01_k».proof.Proof.Dev0

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (vs : Vals F) (K : GSem nD τ sig → ℕ) (c : Dev nD)

/-! ## Tokens, credits, positions of one device -/

/-- The tokens with which device `c` pays semaphore `s` of the devices. -/
def tk (s : SemLoc sig) : sProp 𝕄 :=
  bigSep Finset.univ fun p : Dev nD => if c ∈ payers p s then dutyTok ER (((p : Thread nD τ), s) : GSem nD τ sig) 0 c else iprop(emp)
/-- What device `c` owes to semaphore `s` of the devices. -/
def T (s : SemLoc sig) : CellTallies nD τ sig Unit :=
  ∑ p : Dev nD, if c ∈ payers p s then tallyAt (((p : Thread nD τ), s) : GSem nD τ sig) () (amt s) else 0
/-- The position on an open cell. -/
abbrev pos (s : SemLoc sig) : sProp 𝕄 := atPos ER (((c : Thread nD τ), s) : GSem nD τ sig) 0 ∅ 0
/-- A position from which the cell can be closed. -/
def fin (s : SemLoc sig) : sProp 𝕄 :=
  iprop(∃ R : ℕ, ⌜∀ r, R ≤ r → (Rd vs).duties (((c : Thread nD τ), s) : GSem nD τ sig) r = ∅⌝ ∗ atPos ER (((c : Thread nD τ), s) : GSem nD τ sig) R ∅ 0)
/-- The credit for all of a cell's payments. -/
abbrev cr (s : SemLoc sig) : sProp 𝕄 := cred (tallyAt (((c : Thread nD τ), s) : GSem nD τ sig) () ((payers c s).card * amt s))

theorem fin_one (s : SemLoc sig) : atPos ER (((c : Thread nD τ), s) : GSem nD τ sig) 1 ∅ 0 ⊢ fin vs c s := by
  unfold fin
  iintro H; iexists 1; isplitr
  · ipureintro; exact duties_later vs _
  iexact H
theorem fin_zero (s : SemLoc sig) (h : payers c s = ∅) : pos c s ⊢ fin vs c s := by
  unfold fin
  iintro H; iexists 0; isplitr
  · ipureintro
    intro r _
    rcases Nat.eq_zero_or_pos r with rfl | hr
    · rw [duties_eq, h]
    · exact duties_later vs _ r hr
  iexact H

/-- One token out of a semaphore's. -/
theorem tk_at (p : Dev nD) (s : SemLoc sig) (h : c ∈ payers p s) : tk (F := F) c s ⊢ dutyTok ER (((p : Thread nD τ), s) : GSem nD τ sig) 0 c := by
  unfold tk
  refine (at_mem (Finset.mem_univ p)).trans ?_
  rw [if_pos h]
/-- The tokens of a semaphore on all the other devices. -/
theorem tk_others (s : SemLoc sig) (h : ∀ p : Dev nD, p ≠ c → c ∈ payers p s) :
    tk (F := F) c s ⊢ bigSep Finset.univ (others c fun p => dutyTok ER (((p : Thread nD τ), s) : GSem nD τ sig) 0 c) := by
  unfold tk
  refine bigSep_mono fun p _ => ?_
  unfold others
  have hd : ∀ X : sProp 𝕄, X ⊢ iprop(emp) := fun X => by iintro -; itrivial
  by_cases hp : p = c
  · rw [if_pos hp]; exact hd _
  · rw [if_neg hp, if_pos (h p hp)]; exact BI.Entails.refl _

theorem T_others (s : SemLoc sig) (n : ℕ) (hn : amt s = n) (h : ∀ p : Dev nD, c ∈ payers p s ↔ p ≠ c) :
    T c s = osum c (fun p => tallyAt (((p : Thread nD τ), s) : GSem nD τ sig) () n) 0 := by
  unfold T osum
  refine Finset.sum_congr rfl fun p _ => ?_
  rw [hn]
  exact if_congr ((h p).trans ⟨fun h => ⟨Nat.zero_le _, h⟩, fun h => h.2⟩) rfl rfl
theorem T_none (s : SemLoc sig) (h : ∀ p : Dev nD, c ∉ payers p s) : T c s = 0 := by
  unfold T
  exact Finset.sum_eq_zero fun p _ => if_neg (h p)
theorem T_one (q : Dev nD) (s : SemLoc sig) (h : ∀ p : Dev nD, c ∈ payers p s ↔ p = q) : T c s = tallyAt (((q : Thread nD τ), s) : GSem nD τ sig) () (amt s) := by
  unfold T
  rw [Finset.sum_eq_single q (fun p _ hp => if_neg fun h' => hp ((h p).mp h')) (fun h => absurd (Finset.mem_univ q) h), if_pos ((h q).mpr rfl)]

/-- What all of it comes to, for a semaphore of another device. -/
theorem T_apply (g : GSem nD τ sig) (hg : g.1.2 = .tc) (s : SemLoc sig) : T c s g () = if s = g.2 ∧ c ∈ payers g.1.1 s then amt s else 0 := by
  unfold T
  rw [Finset.sum_apply, Finsupp.finset_sum_apply, Finset.sum_eq_single g.1.1]
  · by_cases h : c ∈ payers g.1.1 s
    · rw [if_pos h, tallyAt_apply]
      refine if_congr ⟨fun h' => ⟨(congrArg Prod.snd h'.1).symm, h⟩, fun h' => ⟨?_, rfl⟩⟩ rfl rfl
      obtain ⟨⟨d, q⟩, s'⟩ := g
      obtain rfl : q = .tc := hg
      rw [h'.1]
    · rw [if_neg h, if_neg fun h' => h h'.2]; rfl
  · intro p _ hp
    by_cases h : c ∈ payers p s
    · rw [if_pos h, tallyAt_apply, if_neg]
      intro h'; exact hp (congrArg (fun g : GSem nD τ sig => g.1.1) h'.1).symm
    · rw [if_neg h]; rfl
  · exact fun h => absurd (Finset.mem_univ _) h

/-- The semaphores other devices pay. -/
def O₀ : CellTallies nD τ sig Unit :=
  T c (.reg ⟨0, by decide⟩) + T c (.reg ⟨1, by decide⟩) + (∑ k : Fin 8, T c (.dma ⟨k.val + 32, by show k.val + 32 < 40; omega⟩))
    + T c (.dma ⟨13, by decide⟩) + T c (.dma ⟨14, by decide⟩) + ∑ k : Fin 7, T c (.dma ⟨k.val + 6, by show k.val + 6 < 40; omega⟩)

/-- What is owed once the barrier is signalled. -/
def midO : CellTallies nD τ sig Unit :=
  if c = 0 then agO c + osum c psOwn 0 else (agO c + if c = 1 then pxOwn else 0) + c0Own c

theorem O₀_eq : O₀ c = midO c + osum c (fun p => tallyAt (barCell p) () 1) 0 := by
  have hbar : T c (.reg ⟨0, by decide⟩) = osum c (fun p => tallyAt (barCell p) () 1) 0 := T_others c _ 1 rfl (by clear * -; revert c; decide)
  have hend : T c (.reg ⟨1, by decide⟩) = osum c (fun p => tallyAt (endCell p) () 1) 0 := T_others c _ 1 rfl (by clear * -; revert c; decide)
  have hag : (∑ k : Fin 8, T c (.dma ⟨k.val + 32, by show k.val + 32 < 40; omega⟩)) = osum c (agOwn c) 0 := by
    rw [Finset.sum_eq_single (⟨c.val, c.isLt⟩ : Fin 8)]
    · exact T_others c _ NO (amtO _ _ (by show 24 ≤ c.val + 32; omega)) (by clear * -; revert c; decide)
    · intro k _ hk
      refine T_none c _ ?_
      have : ∀ (c : Dev nD) (k : Fin 8), k ≠ ⟨c.val, c.isLt⟩ → ∀ p : Dev nD, c ∉ payers p (.dma ⟨k.val + 32, by show k.val + 32 < 40; omega⟩) := by decide
      exact this c k hk
    · exact fun h => absurd (Finset.mem_univ _) h
  unfold O₀ midO agO endO
  rw [hbar, hend, hag]
  by_cases h0 : c = 0
  · subst h0
    have hps : T 0 (.dma ⟨13, by decide⟩) = osum 0 psOwn 0 := T_others 0 _ N128 (amt128 _ _ (by omega) (by omega)) (by decide)
    rw [if_pos rfl, hps, T_none 0 (.dma ⟨14, by decide⟩) (by decide),
      Finset.sum_eq_zero fun k _ => T_none 0 _ ?_]
    · simp only [zero_add, add_zero]
      ac_rfl
    · revert k
      have : ∀ (k : Fin 7) (p : Dev nD), (0 : Dev nD) ∉ payers p (.dma ⟨k.val + 6, by show k.val + 6 < 40; omega⟩) := by decide
      exact fun k _ => this k
  · have hc0 : (∑ k : Fin 7, T c (.dma ⟨k.val + 6, by show k.val + 6 < 40; omega⟩)) = c0Own c := by
      rw [Finset.sum_eq_single (⟨c.val - 1, pred_lt c⟩ : Fin 7)]
      · rw [T_one c 0 _ (by clear * - h0; revert c; decide), amt32 _ _ (by have := pred_lt c; omega)]
      · intro k _ hk
        refine T_none c _ ?_
        have : ∀ (c : Dev nD) (k : Fin 7), c ≠ 0 → k ≠ ⟨c.val - 1, pred_lt c⟩ → ∀ p : Dev nD, c ∉ payers p (.dma ⟨k.val + 6, by show k.val + 6 < 40; omega⟩) := by decide
        exact this c k h0 hk
      · exact fun h => absurd (Finset.mem_univ _) h
    rw [if_neg h0, hc0, T_none c (.dma ⟨13, by decide⟩) (by clear * - h0; revert c; decide)]
    by_cases h1 : c = 1
    · subst h1
      have hpx : T 1 (.dma ⟨14, by decide⟩) = pxOwn := (T_one 1 7 (.dma ⟨14, by decide⟩) (by decide)).trans (by rw [amt128 _ _ (by omega) (by omega)])
      rw [if_pos rfl, hpx]
      simp only [zero_add, add_zero]
      ac_rfl
    · rw [if_neg h1, T_none c (.dma ⟨14, by decide⟩) (by clear * - h1; revert c; decide)]
      simp only [zero_add, add_zero]
      ac_rfl

end Cert.KernelIdeal.Fused

end
-- ==== Proof.Exch.lean ====
/-
  What the devices hand one another at the barrier.
-/
module

public import proofs.«01_k».proof.Proof.Deal

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Families over the other devices -/

section Families
variable (c : Dev nD)

theorem sep_emp_eq (P : sProp 𝕄) : iprop(P ∗ emp) = P := by
  have h₁ : iprop(P ∗ emp) ⊢ P := by iintro ⟨H, -⟩; iexact H
  have h₂ : P ⊢ iprop(P ∗ emp) := by
    iintro H
    isplitl [H]; · iexact H
    itrivial
  exact BI.Entails.antisymm h₁ h₂
theorem others_congr {X Y : Dev nD → sProp 𝕄} (h : ∀ p, p ≠ c → X p = Y p) : bigSep Finset.univ (others c X) = bigSep Finset.univ (others c Y) := by
  rw [others_eq, others_eq]
  exact bigSep_congr fun p hp => h p (Finset.ne_of_mem_erase hp)
theorem others_mono {X Y : Dev nD → sProp 𝕄} (h : ∀ p, p ≠ c → X p ⊢ Y p) : bigSep Finset.univ (others c X) ⊢ bigSep Finset.univ (others c Y) := by
  rw [others_eq, others_eq]
  exact bigSep_mono fun p hp => h p (Finset.ne_of_mem_erase hp)
theorem others_both (X Y : Dev nD → sProp 𝕄) :
    bigSep Finset.univ (others c fun p => iprop(X p ∗ Y p)) = iprop(bigSep Finset.univ (others c X) ∗ bigSep Finset.univ (others c Y)) := by
  rw [others_eq, others_eq, others_eq]
  exact bigSep_sep' _ X Y
theorem others_pers {R : sProp 𝕄} [BI.Persistent R] {Y : Dev nD → sProp 𝕄} (h : ∀ p, p ≠ c → R ⊢ Y p) : R ⊢ bigSep Finset.univ (others c Y) := by
  rw [others_eq]
  exact bigSep_intro_persistent fun p hp => h p (Finset.ne_of_mem_erase hp)
theorem others_split (X : Dev nD → sProp 𝕄) : bigSep Finset.univ X = iprop(X c ∗ bigSep Finset.univ (others c X)) := by
  rw [others_eq]; exact bigSep_univ_at X c
theorem others_none (X : Dev nD → sProp 𝕄) (P : Dev nD → Prop) [DecidablePred P] (h : ∀ p, p ≠ c → ¬ P p) :
    bigSep Finset.univ (others c fun p => if P p then X p else iprop(emp)) = iprop(emp) := by
  rw [others_congr c (Y := fun _ => iprop(emp)) fun p hp => if_neg (h p hp), others_eq]
  exact bigSep_emp_const _
theorem others_all (X : Dev nD → sProp 𝕄) (P : Dev nD → Prop) [DecidablePred P] (h : ∀ p, p ≠ c → P p) :
    bigSep Finset.univ (others c fun p => if P p then X p else iprop(emp)) = bigSep Finset.univ (others c X) :=
  others_congr c fun p hp => if_pos (h p hp)
theorem others_at (X : Dev nD → sProp 𝕄) (P : Dev nD → Prop) [DecidablePred P] (q : Dev nD) (hq : q ≠ c) (h : ∀ p, p ≠ c → (P p ↔ p = q)) :
    bigSep Finset.univ (others c fun p => if P p then X p else iprop(emp)) = X q := by
  rw [others_eq, bigSep_erase (Finset.mem_erase.mpr ⟨hq, Finset.mem_univ q⟩), if_pos ((h q hq).mpr rfl),
    bigSep_congr (Ψ := fun _ => iprop(emp)) fun p hp => if_neg fun hP => Finset.ne_of_mem_erase hp ((h p (Finset.ne_of_mem_erase (Finset.mem_of_mem_erase hp))).mp hP)]
  exact (congrArg (BI.sep (X q)) (bigSep_emp_const _)).trans (sep_emp_eq _)

/-- Seven numbered things are the things of the seven devices past the first. -/
theorem seven_others (Φ : Fin 7 → sProp 𝕄) (X : Dev nD → sProp 𝕄) (h : ∀ k : Fin 7, X ⟨k.val + 1, by show k.val + 1 < 8; omega⟩ = Φ k) :
    bigSep Finset.univ (others 0 X) = bigSep Finset.univ Φ := by
  rw [others_eq, bigSep_seven Φ, ← h 0, ← h 1, ← h 2, ← h 3, ← h 4, ← h 5, ← h 6]
  exact bigSep_eq_bigSepL_of_eq [1, 2, 3, 4, 5, 6, 7] (by decide) (by decide) X

end Families

section Exchange
variable (c : Dev nD)

/-- Every device's scoped cells are open. -/
def allR : sProp 𝕄 := bigSep Finset.univ fun p : Dev nD => reachedAll (F := F) p
instance reachedAll_pers (p : Dev nD) : BI.Persistent (reachedAll (F := F) p) := by unfold reachedAll; infer_instance
instance allR_pers : BI.Persistent (allR (F := F)) := by unfold allR; infer_instance
theorem allR_mk : iprop(reachedAll (F := F) c ∗ bigSep Finset.univ (others c fun p => reachedAll (F := F) p)) ⊢ allR (F := F) := by
  unfold allR; exact Entails.of_eq (others_split c _).symm
theorem allR_at (p : Dev nD) (k : Fin 35) : allR (F := F) ⊢ reached ER (((p : Thread nD τ), osem k) : GSem nD τ sig) 0 := by
  unfold allR
  refine BIBase.Entails.trans (at_mem (Finset.mem_univ p)) ?_
  unfold reachedAll
  exact at_mem (Finset.mem_univ k)
theorem allR_dma (p : Dev nD) (k : ℕ) (h6 : 6 ≤ k) (hk : k < 40) : allR (F := F) ⊢ reached ER (dmaCell p k hk) 0 := by
  have h := allR_at (F := F) p ⟨k - 6, by omega⟩
  rwa [osem_dma k h6 hk] at h
theorem allR_end (p : Dev nD) : allR (F := F) ⊢ reached ER (endCell p) 0 := by
  have h := allR_at (F := F) p 34
  rwa [osem_end] at h

/-- The parts of the barrier's payloads, over all the other devices. -/
theorem give_eq : bigSep Finset.univ (others c fun p => barPay (F := F) p c)
    = iprop(bigSep Finset.univ (others c fun _ => reachedAll (F := F) c) ∗ bigSep Finset.univ (others c fun p => hasAny (F := F) (adS p.val p.isLt) c)
      ∗ bigSep Finset.univ (others c fun p => if p = 0 then hasAny (F := F) (cxS 0 (by decide)) c else iprop(emp))
      ∗ bigSep Finset.univ (others c fun p => if c = 0 ∧ p ≠ 0 then hasAny (F := F) (c0S (p.val - 1) (pred_lt p)) c else iprop(emp))
      ∗ bigSep Finset.univ (others c fun p => if p = 1 ∧ c = 7 then hasAny (F := F) (cxS 1 (by decide)) c else iprop(emp))) := by
  unfold barPay
  rw [others_both, others_both, others_both, others_both]
theorem get_eq : bigSep Finset.univ (others c fun p => barPay (F := F) c p)
    = iprop(bigSep Finset.univ (others c fun p => reachedAll (F := F) p) ∗ bigSep Finset.univ (others c fun p => hasAny (F := F) (adS c.val c.isLt) p)
      ∗ bigSep Finset.univ (others c fun p => if c = 0 then hasAny (F := F) (cxS 0 (by decide)) p else iprop(emp))
      ∗ bigSep Finset.univ (others c fun p => if p = 0 ∧ c ≠ 0 then hasAny (F := F) (c0S (c.val - 1) (pred_lt c)) p else iprop(emp))
      ∗ bigSep Finset.univ (others c fun p => if c = 1 ∧ p = 7 then hasAny (F := F) (cxS 1 (by decide)) p else iprop(emp))) := by
  unfold barPay
  rw [others_both, others_both, others_both, others_both]

theorem give_zero : iprop(reachedAll (F := F) 0 ∗ (bigSep Finset.univ fun k : Fin 8 => hasAny (F := F) (adS k.val k.isLt) 0)
      ∗ bigSep Finset.univ fun k : Fin 7 => hasAny (F := F) (c0S k.val k.isLt) 0)
    ⊢ iprop(bigSep Finset.univ (others 0 fun p => barPay (F := F) p 0) ∗ hasAny (F := F) (adS 0 (by decide)) 0) := by
  rw [give_eq, others_none 0 _ (fun p => p = 0) (by decide), others_none 0 _ (fun p => p = 1 ∧ (0 : Dev nD) = 7) (by decide),
    others_all 0 _ (fun p => (0 : Dev nD) = 0 ∧ p ≠ 0) (by decide), seven_others (fun k : Fin 7 => hasAny (F := F) (c0S k.val k.isLt) 0) (fun p => hasAny (F := F) (c0S (p.val - 1) (pred_lt p)) 0) (fun k => rfl)]
  have hs := others_split (F := F) 0 (fun p : Dev nD => hasAny (F := F) (adS p.val p.isLt) 0)
  iintro ⟨#HR, Had, Hc0⟩
  ihave Had' := (Entails.of_eq hs) $$ Had
  icases Had' with ⟨Ha, Had⟩
  isplitr [Ha]
  · isplitr; · iapply (others_pers (F := F) 0 (fun p _ => BI.Entails.refl _)); iexact HR
    isplitl [Had]; · iexact Had
    isplitr; · itrivial
    isplitl [Hc0]; · iexact Hc0
    itrivial
  iexact Ha

theorem give_other (h0 : c ≠ 0) : iprop(reachedAll (F := F) c ∗ (bigSep Finset.univ fun k : Fin 8 => hasAny (F := F) (adS k.val k.isLt) c)
      ∗ bigSep Finset.univ fun k : Fin 2 => hasAny (F := F) (cxS k.val k.isLt) c)
    ⊢ iprop(bigSep Finset.univ (others c fun p => barPay (F := F) p c) ∗ hasAny (F := F) (adS c.val c.isLt) c
      ∗ if c = 7 then iprop(emp) else hasAny (F := F) (cxS 1 (by decide)) c) := by
  rw [give_eq, others_at c _ (fun p => p = 0) 0 (Ne.symm h0) (fun p _ => Iff.rfl),
    others_none c _ (fun p => c = 0 ∧ p ≠ 0) (fun p _ h => h0 h.1)]
  have hs := others_split (F := F) c (fun p : Dev nD => hasAny (F := F) (adS p.val p.isLt) c)
  have h2 : (bigSep Finset.univ fun k : Fin 2 => hasAny (F := F) (cxS k.val k.isLt) c) = iprop(hasAny (F := F) (cxS 0 (by decide)) c ∗ hasAny (F := F) (cxS 1 (by decide)) c) :=
    bigSep_univ_eq_bigSepL [0, 1] (by decide) (by decide) _
  rw [h2]
  iintro ⟨#HR, Had, Hx0, Hx1⟩
  ihave Had' := (Entails.of_eq hs) $$ Had
  icases Had' with ⟨Ha, Had⟩
  by_cases h7 : c = 7
  · rw [if_pos h7, others_at c _ (fun p => p = 1 ∧ c = 7) 1 (by subst h7; decide) (fun p _ => ⟨fun h => h.1, fun h => ⟨h, h7⟩⟩)]
    isplitr [Ha]
    · isplitr; · iapply (others_pers (F := F) c (fun p _ => BI.Entails.refl _)); iexact HR
      isplitl [Had]; · iexact Had
      isplitl [Hx0]; · iexact Hx0
      isplitr; · itrivial
      iexact Hx1
    isplitl; · iexact Ha
    itrivial
  · rw [if_neg h7, others_none c _ (fun p => p = 1 ∧ c = 7) (fun p _ h => h7 h.2)]
    isplitr [Ha Hx1]
    · isplitr; · iapply (others_pers (F := F) c (fun p _ => BI.Entails.refl _)); iexact HR
      isplitl [Had]; · iexact Had
      isplitl [Hx0]; · iexact Hx0
      isplitr; · itrivial
      itrivial
    isplitl [Ha]; · iexact Ha
    iexact Hx1

theorem get_zero : bigSep Finset.univ (others 0 fun p => barPay (F := F) 0 p)
    ⊢ iprop(bigSep Finset.univ (others 0 fun p => reachedAll (F := F) p) ∗ bigSep Finset.univ (others 0 fun p => hasAny (F := F) (adS 0 (by decide)) p)
      ∗ bigSep Finset.univ (others 0 fun p => hasAny (F := F) (cxS 0 (by decide)) p)) := by
  rw [get_eq, others_all 0 _ (fun p => (0 : Dev nD) = 0) (by decide)]
  iintro ⟨HR, Ha, Hx, -⟩
  isplitl [HR]; · iexact HR
  isplitl [Ha]; · iexact Ha
  iexact Hx

theorem get_other (h0 : c ≠ 0) : bigSep Finset.univ (others c fun p => barPay (F := F) c p)
    ⊢ iprop(bigSep Finset.univ (others c fun p => reachedAll (F := F) p) ∗ bigSep Finset.univ (others c fun p => hasAny (F := F) (adS c.val c.isLt) p)
      ∗ hasAny (F := F) (c0S (c.val - 1) (pred_lt c)) 0 ∗ if c = 1 then hasAny (F := F) (cxS 1 (by decide)) 7 else iprop(emp)) := by
  rw [get_eq, others_at c _ (fun p => p = 0 ∧ c ≠ 0) 0 (Ne.symm h0) (fun p _ => ⟨fun h => h.1, fun h => ⟨h, h0⟩⟩)]
  by_cases h1 : c = 1
  · rw [if_pos h1, others_at c _ (fun p => c = 1 ∧ p = 7) 7 (by subst h1; decide) (fun p _ => ⟨fun h => h.2, fun h => ⟨h1, h⟩⟩)]
    iintro ⟨HR, Ha, -, Hc, Hx⟩
    isplitl [HR]; · iexact HR
    isplitl [Ha]; · iexact Ha
    isplitl [Hc]; · iexact Hc
    iexact Hx
  · rw [if_neg h1]
    iintro ⟨HR, Ha, -, Hc, -⟩
    isplitl [HR]; · iexact HR
    isplitl [Ha]; · iexact Ha
    isplitl [Hc]; · iexact Hc
    itrivial

end Exchange

end Cert.KernelIdeal.Fused

end
-- ==== Proof.Feed.lean ====
/-
  What the exchange of the finished rows starts from and leaves.
-/
module

public import proofs.«01_k».proof.Proof.Exch

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (vs : Vals F) (K : GSem nD τ sig → ℕ) (c : Dev nD)

/-- What the exchange of the finished rows and the last signals start from. -/
theorem feed : iprop(allR (F := F) ∗ bigSep Finset.univ (others c fun p => hasAny (F := F) (adS c.val c.isLt) p)
      ∗ rng (tk (F := F) c) 24 8 (by decide) ∗ rng (tk (F := F) c) 32 8 (by decide) ∗ rng (pos (F := F) c) 24 8 (by decide)
      ∗ rng (cr (F := F) c) 32 8 (by decide) ∗ rng (pos (F := F) c) 32 8 (by decide) ∗ tk (F := F) c (.reg ⟨1, by decide⟩))
    ⊢ iprop(bigSep Finset.univ (others c (agB0 (F := F) c)) ∗ bigSep Finset.univ (others c (arB (F := F) c)) ∗ bigSep Finset.univ (others c (endB vs c))
      ∗ pos (F := F) c (.dma ⟨c.val + 24, ag_lt c⟩) ∗ pos (F := F) c (.dma ⟨c.val + 32, ar_lt c⟩)) := by
  have e1 : bigSep Finset.univ (others c (agB0 (F := F) c)) = iprop(bigSep Finset.univ (others c fun p => hasAny (F := F) (adS c.val c.isLt) p)
      ∗ bigSep Finset.univ (others c fun p => dutyTok ER (dmaCell c (p.val + 24) (ag_lt p)) 0 c)
      ∗ bigSep Finset.univ (others c fun p => reached ER (dmaCell c (p.val + 24) (ag_lt p)) 0)
      ∗ bigSep Finset.univ (others c fun p => dutyTok ER (dmaCell p (c.val + 32) (ar_lt c)) 0 c)
      ∗ bigSep Finset.univ (others c fun p => reached ER (dmaCell p (c.val + 32) (ar_lt c)) 0)
      ∗ bigSep Finset.univ (others c fun p => atPos ER (dmaCell c (p.val + 24) (ag_lt p)) 0 ∅ 0)) := by
    unfold agB0
    rw [others_both, others_both, others_both, others_both, others_both]
  have e2 : bigSep Finset.univ (others c (arB (F := F) c)) = iprop(bigSep Finset.univ (others c fun p => cred (tallyAt (dmaCell c (p.val + 32) (ar_lt p)) () NO))
      ∗ bigSep Finset.univ (others c fun p => atPos ER (dmaCell c (p.val + 32) (ar_lt p)) 0 ∅ 0)) := others_both c _ _
  have e3 : bigSep Finset.univ (others c (endB vs c)) = iprop(bigSep Finset.univ (others c fun p => dutyTok ER (endCell p) 0 c)
      ∗ bigSep Finset.univ (others c fun p => pay vs p c (.reg ⟨1, by decide⟩)) ∗ bigSep Finset.univ (others c fun p => reached ER (endCell p) 0)) := by
    unfold endB
    rw [others_both, others_both]
  rw [e1, e2, e3]
  have t1 : rng (tk (F := F) c) 24 8 (by decide) ⊢ bigSep Finset.univ (others c fun p => (dutyTok ER (dmaCell c (p.val + 24) (ag_lt p)) 0 c : sProp 𝕄)) := by
    rw [show rng (tk (F := F) c) 24 8 (by decide) = _ from others_split c (fun p : Dev nD => tk (F := F) c (.dma ⟨p.val + 24, ag_lt p⟩))]
    have h : ∀ p : Dev nD, p ≠ c → c ∈ payers c (.dma ⟨p.val + 24, ag_lt p⟩) := by clear * -; revert c; decide
    have hm := others_mono (F := F) c (X := fun p : Dev nD => tk (F := F) c (.dma ⟨p.val + 24, ag_lt p⟩)) fun p hp => tk_at c c _ (h p hp)
    iintro ⟨-, H⟩
    iapply hm; iexact H
  have t2 : rng (tk (F := F) c) 32 8 (by decide) ⊢ bigSep Finset.univ (others c fun p => (dutyTok ER (dmaCell p (c.val + 32) (ar_lt c)) 0 c : sProp 𝕄)) :=
    BIBase.Entails.trans (at_mem (g := (⟨c.val, c.isLt⟩ : Fin 8)) (Finset.mem_univ _)) (tk_others c (.dma ⟨c.val + 32, ar_lt c⟩) (by clear * -; revert c; decide))
  have t3 : tk (F := F) c (.reg ⟨1, by decide⟩) ⊢ bigSep Finset.univ (others c fun p => (dutyTok ER (endCell p) 0 c : sProp 𝕄)) :=
    tk_others c _ (by clear * -; revert c; decide)
  have r1 : allR (F := F) ⊢ bigSep Finset.univ (others c fun p => (reached ER (dmaCell c (p.val + 24) (ag_lt p)) 0 : sProp 𝕄)) :=
    others_pers c fun p _ => allR_dma c (p.val + 24) (by omega) (ag_lt p)
  have r2 : allR (F := F) ⊢ bigSep Finset.univ (others c fun p => (reached ER (dmaCell p (c.val + 32) (ar_lt c)) 0 : sProp 𝕄)) :=
    others_pers c fun p _ => allR_dma p (c.val + 32) (by omega) (ar_lt c)
  have r3 : allR (F := F) ⊢ bigSep Finset.univ (others c fun p => (reached ER (endCell p) 0 : sProp 𝕄)) :=
    others_pers c fun p _ => allR_end p
  have r4 : allR (F := F) ⊢ bigSep Finset.univ (others c fun p => pay vs p c (.reg ⟨1, by decide⟩)) := by
    have he : ∀ p : Dev nD, allR (F := F) ⊢ pay vs p c (.reg ⟨1, by decide⟩) := by
      intro p
      rw [show pay vs p c (.reg ⟨1, by decide⟩) = iprop(emp) from rfl]
      iintro -; itrivial
    exact others_pers c fun p _ => he p
  have p1 : rng (pos (F := F) c) 24 8 (by decide) = _ := others_split c (fun p : Dev nD => pos (F := F) c (.dma ⟨p.val + 24, ag_lt p⟩))
  have p2 : rng (pos (F := F) c) 32 8 (by decide) = _ := others_split c (fun p : Dev nD => pos (F := F) c (.dma ⟨p.val + 32, ar_lt p⟩))
  have c1 : rng (cr (F := F) c) 32 8 (by decide) ⊢ bigSep Finset.univ (others c fun p => (cred (tallyAt (dmaCell c (p.val + 32) (ar_lt p)) () NO) : sProp 𝕄)) := by
    rw [show rng (cr (F := F) c) 32 8 (by decide) = _ from others_split c (fun p : Dev nD => cr (F := F) c (.dma ⟨p.val + 32, ar_lt p⟩))]
    have h : ∀ p : Dev nD, p ≠ c → (payers c (.dma ⟨p.val + 32, ar_lt p⟩)).card = 1 := by clear * -; revert c; decide
    have hm := others_congr (F := F) c (X := fun p : Dev nD => cr (F := F) c (.dma ⟨p.val + 32, ar_lt p⟩))
      (Y := fun p => cred (tallyAt (dmaCell c (p.val + 32) (ar_lt p)) () NO)) fun p hp => by
        unfold cr
        rw [h p hp, amtO _ _ (by show 24 ≤ p.val + 32; omega), Nat.one_mul]
    iintro ⟨-, H⟩
    iapply (Entails.of_eq hm); iexact H
  iintro ⟨#HR, Had, Ht24, Ht32, Hp24, Hc32, Hp32, Hte⟩
  ihave Hp24' := (Entails.of_eq p1) $$ Hp24
  icases Hp24' with ⟨Ho24, Hp24⟩
  ihave Hp32' := (Entails.of_eq p2) $$ Hp32
  icases Hp32' with ⟨Ho32, Hp32⟩
  isplitl [Had Ht24 Ht32 Hp24]
  · isplitl [Had]; · iexact Had
    isplitl [Ht24]; · iapply t1; iexact Ht24
    isplitr; · iapply r1; iexact HR
    isplitl [Ht32]; · iapply t2; iexact Ht32
    isplitr; · iapply r2; iexact HR
    iexact Hp24
  isplitl [Hc32 Hp32]
  · isplitl [Hc32]; · iapply c1; iexact Hc32
    iexact Hp32
  isplitl [Hte]
  · isplitl [Hte]; · iapply t3; iexact Hte
    isplitr; · iapply r4; iexact HR
    iapply r3; iexact HR
  isplitl [Ho24]; · iexact Ho24
  iexact Ho32

theorem has_any {s : Shape} {e : EltTy} (M : Memref sig .tc .vmem s e) (X : s.Idx → Elt F e) : has M c fullShare X ⊢ hasAny (F := F) M c := by
  unfold has hasAny
  iintro H; iexists _; iexact H

/-- The own finished rows are whole again when the copies have left. -/
theorem pack_ag : iprop(bigSep Finset.univ (others c (awA vs c)) ∗ agRest vs c ∗ pos (F := F) c (.dma ⟨c.val + 24, ag_lt c⟩))
    ⊢ iprop(rng (fin vs c) 24 8 (by decide) ∗ hasAny (F := F) agM c) := by
  have e1 : bigSep Finset.univ (others c (awA vs c)) = iprop(bigSep Finset.univ (others c fun p => atPos ER (dmaCell c (p.val + 24) (ag_lt p)) 1 ∅ 0)
      ∗ bigSep Finset.univ (others c fun p => has agM c (Transfers.shareTokN fullShare p.val) (vs.ag c))) := others_both c _ _
  have e2 : rng (fin vs c) 24 8 (by decide) = _ := others_split c (fun p : Dev nD => fin vs c (.dma ⟨p.val + 24, ag_lt p⟩))
  have hm := others_mono (F := F) c (X := fun p => atPos ER (dmaCell c (p.val + 24) (ag_lt p)) 1 ∅ 0) (Y := fun p : Dev nD => fin vs c (.dma ⟨p.val + 24, ag_lt p⟩)) fun p _ => fin_one vs c _
  have hz := fin_zero vs c (.dma ⟨c.val + 24, ag_lt c⟩) (by clear * -; revert c; decide)
  have hs := others_split (F := F) c (fun p : Dev nD => has agM c (Transfers.shareTokN fullShare p.val) (vs.ag c))
  have hj : iprop(has agM c (Transfers.shareDrop fullShare 8) (vs.ag c)
    ∗ bigSep Finset.univ fun p : Dev nD => has agM c (Transfers.shareTokN fullShare p.val) (vs.ag c)) ⊢ has agM c fullShare (vs.ag c) :=
    Transfers.pointsTo_toks_join fullShare 8
  rw [e1, e2]
  unfold agRest
  iintro ⟨⟨Hat, Hsh⟩, ⟨Hd, Ho⟩, Hp⟩
  isplitl [Hat Hp]
  · isplitl [Hp]; · iapply hz; iexact Hp
    iapply hm; iexact Hat
  iapply (has_any c agM (vs.ag c))
  iapply hj
  isplitl [Hd]; · iexact Hd
  iapply (Entails.of_eq hs.symm)
  isplitl [Ho]; · iexact Ho
  iexact Hsh

/-- The buffer of the rows received is whole again. -/
theorem pack_ad [∀ e, Nonempty (Elt F e)] : iprop(bigSep Finset.univ (others c (arA vs c)) ∗ hasAny (F := F) (adS c.val c.isLt) c ∗ pos (F := F) c (.dma ⟨c.val + 32, ar_lt c⟩))
    ⊢ iprop(rng (fin vs c) 32 8 (by decide) ∗ hasAny (F := F) adM c) := by
  have e1 : bigSep Finset.univ (others c (arA vs c)) = iprop(bigSep Finset.univ (others c fun p => atPos ER (dmaCell c (p.val + 32) (ar_lt p)) 1 ∅ 0)
      ∗ bigSep Finset.univ (others c fun p => has (adS p.val p.isLt) c fullShare (lead squeezes_S1x128x1024_S128x1024 (vs.ag p)))) := others_both c _ _
  have e2 : rng (fin vs c) 32 8 (by decide) = _ := others_split c (fun p : Dev nD => fin vs c (.dma ⟨p.val + 32, ar_lt p⟩))
  have hm := others_mono (F := F) c (X := fun p => atPos ER (dmaCell c (p.val + 32) (ar_lt p)) 1 ∅ 0) (Y := fun p : Dev nD => fin vs c (.dma ⟨p.val + 32, ar_lt p⟩)) fun p _ => fin_one vs c _
  have hz := fin_zero vs c (.dma ⟨c.val + 32, ar_lt c⟩) (by clear * -; revert c; decide)
  have ha := others_mono (F := F) c (X := fun p => has (adS p.val p.isLt) c fullShare (lead squeezes_S1x128x1024_S128x1024 (vs.ag p)))
    (Y := fun p => hasAny (F := F) (adS p.val p.isLt) c) fun p _ => has_any c _ _
  have hs := others_split (F := F) c (fun p : Dev nD => hasAny (F := F) (adS p.val p.isLt) c)
  have hj := ad_join (F := F) c
  rw [e1, e2]
  iintro ⟨⟨Hat, Hsh⟩, Ho, Hp⟩
  isplitl [Hat Hp]
  · isplitl [Hp]; · iapply hz; iexact Hp
    iapply hm; iexact Hat
  iapply hj
  iapply (Entails.of_eq hs.symm)
  isplitl [Ho]; · iexact Ho
  iapply ha; iexact Hsh

end Cert.KernelIdeal.Fused

end
-- ==== Proof.Body0.lean ====
/-
  The kernel on device 0: all its parts together.
-/
module

public import proofs.«01_k».proof.Proof.Feed

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (vs : Vals F) (K : GSem nD τ sig → ℕ) (c : Dev nD)

/-- The buffers the kernel allocates. -/
def bufs : sProp 𝕄 :=
  iprop(hasAny (F := F) psM c ∗ hasAny (F := F) p32M c ∗ hasAny (F := F) pxM c ∗ hasAny (F := F) c0M c ∗ hasAny (F := F) cxM c ∗ hasAny (F := F) bsM c
    ∗ hasAny (F := F) agM c ∗ hasAny (F := F) adM c)
/-- The credit for what the others pay. -/
def crs : sProp 𝕄 :=
  iprop(cr (F := F) c (.reg ⟨0, by decide⟩) ∗ cr (F := F) c (.reg ⟨1, by decide⟩) ∗ cr (F := F) c (.dma ⟨13, by decide⟩) ∗ cr (F := F) c (.dma ⟨14, by decide⟩)
    ∗ rng (cr (F := F) c) 6 7 (by decide) ∗ rng (cr (F := F) c) 32 8 (by decide))
/-- What device `c` holds at the start of the kernel, but for the operands and the result. -/
def StartSt : sProp 𝕄 :=
  iprop(World vs K ∗ owesE c (O₀ c) ∗ (tk (F := F) c (.reg ⟨0, by decide⟩) ∗ bigSep Finset.univ fun k : Fin 35 => tk (F := F) c (osem k)) ∗ crs (F := F) c
    ∗ (pos (F := F) c (.reg ⟨0, by decide⟩) ∗ bigSep Finset.univ fun k : Fin 35 => pos (F := F) c (osem k)) ∗ reachedAll (F := F) c ∗ bufs (F := F) c)
/-- The same at its end. -/
def DoneSt : sProp 𝕄 :=
  iprop(owesE c 0 ∗ (fin vs c (.reg ⟨0, by decide⟩) ∗ bigSep Finset.univ fun k : Fin 35 => fin vs c (osem k)) ∗ bufs (F := F) c)
/-- What the result holds at the end. -/
def outOf (t : S128x1152.Idx → Elt F .bf16) (I : Ins F) (base : S1x1024x1024.Idx → Elt F .f32) : ℕ → S1x1024x1024.Idx → Elt F .f32 :=
  oRow vs c base (oblk (bsV vs t c) I.wo)

/-- Every semaphore family's members are one or none of the payers'. -/
theorem rng_fin_zero (b n : ℕ) (h : b + n ≤ 40) (hz : ∀ k : Fin n, payers c (.dma ⟨k.val + b, by show k.val + b < 40; omega⟩) = ∅) :
    rng (pos (F := F) c) b n h ⊢ rng (fin vs c) b n h :=
  bigSep_mono fun k _ => fin_zero vs c _ (hz k)

/-- What the barrier's signals need. -/
theorem bar_feed : iprop(World vs K ∗ tk (F := F) c (.reg ⟨0, by decide⟩) ∗ bigSep Finset.univ (others c fun p => barPay (F := F) p c))
    ⊢ fam 0 (others c fun _ => iprop(emp)) (others c fun p => iprop(dutyTok ER (barCell p) 0 c ∗ pay vs p c (.reg ⟨0, by decide⟩) ∗ reached ER (barCell p) 0)) := by
  rw [fam_zero, others_both, others_both]
  have t : tk (F := F) c (.reg ⟨0, by decide⟩) ⊢ bigSep Finset.univ (others c fun p => (dutyTok ER (barCell p) 0 c : sProp 𝕄)) :=
    tk_others c _ (by clear * -; revert c; decide)
  have r : World vs K ⊢ bigSep Finset.univ (others c fun p => (reached ER (barCell p) 0 : sProp 𝕄)) :=
    others_pers c fun p _ => world_bar vs K p
  iintro ⟨#HW, Ht, Hb⟩
  isplitl [Ht]; · iapply t; iexact Ht
  isplitl [Hb]; · iexact Hb
  iapply r; iexact HW

/-- What device 0's copies to the others need. -/
theorem ps_feed : iprop(allR (F := F) ∗ bigSep Finset.univ (others 0 fun p => hasAny (F := F) (cxS 0 (by decide)) p)
      ∗ rng (tk (F := F) 0) 15 7 (by decide) ∗ tk (F := F) 0 (.dma ⟨13, by decide⟩))
    ⊢ bigSep Finset.univ (others 0 (psB (F := F))) := by
  have e1 : bigSep Finset.univ (others 0 (psB (F := F))) = iprop(bigSep Finset.univ (others 0 fun p => hasAny (F := F) (cxS 0 (by decide)) p)
      ∗ bigSep Finset.univ (others 0 fun p => dutyTok ER (dmaCell 0 (p.val - 1 + 15) (s0_lt p)) 0 (0 : Dev nD))
      ∗ bigSep Finset.univ (others 0 fun p => reached ER (dmaCell 0 (p.val - 1 + 15) (s0_lt p)) 0)
      ∗ bigSep Finset.univ (others 0 fun p => dutyTok ER (dmaCell p 13 (by decide)) 0 (0 : Dev nD))
      ∗ bigSep Finset.univ (others 0 fun p => reached ER (dmaCell p 13 (by decide)) 0)) := by
    unfold psB
    rw [others_both, others_both, others_both, others_both]
  rw [e1]
  have t1 : rng (tk (F := F) 0) 15 7 (by decide) ⊢ bigSep Finset.univ (others 0 fun p => (dutyTok ER (dmaCell 0 (p.val - 1 + 15) (s0_lt p)) 0 (0 : Dev nD) : sProp 𝕄)) := by
    rw [seven_others (fun k : Fin 7 => (dutyTok ER (dmaCell 0 (k.val + 15) (by omega)) 0 (0 : Dev nD) : sProp 𝕄)) _ (fun k => rfl)]
    have h : ∀ k : Fin 7, (0 : Dev nD) ∈ payers 0 (.dma ⟨k.val + 15, by show k.val + 15 < 40; omega⟩) := by decide
    exact bigSep_mono fun k _ => tk_at 0 0 _ (h k)
  have t2 : tk (F := F) 0 (.dma ⟨13, by decide⟩) ⊢ bigSep Finset.univ (others 0 fun p => (dutyTok ER (dmaCell p 13 (by decide)) 0 (0 : Dev nD) : sProp 𝕄)) :=
    tk_others 0 _ (by decide)
  have r1 : allR (F := F) ⊢ bigSep Finset.univ (others 0 fun p => (reached ER (dmaCell 0 (p.val - 1 + 15) (s0_lt p)) 0 : sProp 𝕄)) :=
    others_pers 0 fun p _ => allR_dma 0 (p.val - 1 + 15) (by omega) (s0_lt p)
  have r2 : allR (F := F) ⊢ bigSep Finset.univ (others 0 fun p => (reached ER (dmaCell p 13 (by decide)) 0 : sProp 𝕄)) :=
    others_pers 0 fun p _ => allR_dma p 13 (by decide) (by decide)
  iintro ⟨#HR, Hx, Ht15, Ht13⟩
  isplitl [Hx]; · iexact Hx
  isplitl [Ht15]; · iapply t1; iexact Ht15
  isplitr; · iapply r1; iexact HR
  isplitl [Ht13]; · iapply t2; iexact Ht13
  iapply r2; iexact HR

/-- What device 0 waits for. -/
theorem c0_feed : iprop(rng (cr (F := F) 0) 6 7 (by decide) ∗ rng (pos (F := F) 0) 6 7 (by decide)) ⊢ bigSep Finset.univ (c0W (F := F)) := by
  have h : ∀ k : Fin 7, (payers 0 (.dma ⟨k.val + 6, by show k.val + 6 < 40; omega⟩)).card = 1 := by decide
  have e : rng (cr (F := F) 0) 6 7 (by decide) = bigSep Finset.univ fun k : Fin 7 => (cred (tallyAt (dmaCell 0 (k.val + 6) (by show k.val + 6 < 40; omega)) () N32) : sProp 𝕄) :=
    bigSep_congr fun k _ => by
      unfold cr
      rw [h k, amt32 _ _ (by omega), Nat.one_mul]
  rw [e]
  exact Entails.of_eq (bigSep_sep' _ _ _).symm
theorem s0_feed : iprop(bigSep Finset.univ (others 0 (psA (F := F))) ∗ rng (pos (F := F) 0) 15 7 (by decide)) ⊢ bigSep Finset.univ (s0W (F := F)) := by
  rw [seven_others (fun k : Fin 7 => (cred (tallyAt (dmaCell 0 (k.val + 15) (by omega)) () N128) : sProp 𝕄)) (psA (F := F)) (fun k => rfl)]
  exact Entails.of_eq (bigSep_sep' _ _ _).symm
theorem c0_pack : bigSep Finset.univ (c0D vs) ⊢ iprop(rng (fin vs 0) 6 7 (by decide) ∗ bigSep Finset.univ fun k : Fin 7 => hasAny (F := F) (c0S k.val k.isLt) 0) := by
  have h₁ : (bigSep Finset.univ fun k : Fin 7 => atPos ER (dmaCell 0 (k.val + 6) (by show k.val + 6 < 40; omega)) 1 ∅ 0) ⊢ rng (fin vs 0) 6 7 (by decide) :=
    bigSep_mono fun k _ => fin_one vs 0 _
  have h₂ : (bigSep Finset.univ fun k : Fin 7 => has (c0S k.val k.isLt) 0 fullShare (lead squeezes_S1x32x1152_S32x1152 (vs.p32 ⟨k.val + 1, by show k.val + 1 < 8; omega⟩)))
      ⊢ bigSep Finset.univ fun k : Fin 7 => hasAny (F := F) (c0S k.val k.isLt) 0 := bigSep_mono fun k _ => has_any 0 _ _
  rw [show bigSep Finset.univ (c0D vs) = _ from bigSep_sep' _ _ _]
  iintro ⟨H₁, H₂⟩
  isplitl [H₁]; · iapply h₁; iexact H₁
  iapply h₂; iexact H₂
theorem s0_pack : bigSep Finset.univ (s0D vs) ⊢ iprop(rng (fin vs 0) 15 7 (by decide) ∗ bigSep Finset.univ fun k : Fin 7 => hasAny (F := F) (psS k.val k.isLt) 0) := by
  have h₁ : (bigSep Finset.univ fun k : Fin 7 => atPos ER (dmaCell 0 (k.val + 15) (by show k.val + 15 < 40; omega)) 1 ∅ 0) ⊢ rng (fin vs 0) 15 7 (by decide) :=
    bigSep_mono fun k _ => fin_one vs 0 _
  have h₂ : (bigSep Finset.univ fun k : Fin 7 => has (psS k.val k.isLt) 0 fullShare (vs.ps k.val))
      ⊢ bigSep Finset.univ fun k : Fin 7 => hasAny (F := F) (psS k.val k.isLt) 0 := bigSep_mono fun k _ => has_any 0 _ _
  rw [show bigSep Finset.univ (s0D vs) = _ from bigSep_sep' _ _ _]
  iintro ⟨H₁, H₂⟩
  isplitl [H₁]; · iapply h₁; iexact H₁
  iapply h₂; iexact H₂

set_option maxHeartbeats 1000000 in
/-- The kernel on device 0. -/
theorem zero_run [∀ e, Nonempty (Elt F e)] (I : Ins F) (hps : ∀ k, vs.ps k = shapeCast S1x128x1152 (tile I (k + 1)) (cast_to_one 128 1152))
    (base : S1x1024x1024.Idx → Elt F .f32) (hag : vs.ag 0 = obf (oblk (bsV vs (tile I 0) 0) I.wo)) (Q : PUnit → sProp 𝕄) :
    iprop(StartSt vs K 0 ∗ insAt 0 I ∗ has oM 0 fullShare base ∗ ((DoneSt vs 0 ∗ insAt 0 I ∗ has oM 0 fullShare (outOf vs 0 (tile I 0) I base 8)) -∗ Q ⟨⟩))
      ⊢ WP 0 (atArgs (cc0__fused_body (F := F))) Q := by
  rw [cc0__fused_body_eq_skeleton]
  unfold atArgs cc0__fused_body_skel StartSt bufs crs
  have a1 : Above 1 (midO 0) := by
    unfold midO; rw [if_pos rfl]
    exact (above_agO 0 1 (by decide)).add (above_osum 0 1 _ 0 fun p => Above.tally p _ N128 (by decide))
  have a2 : Above 2 (agO 0) := above_agO 0 2 (by decide)
  have a0 : Above 0 (agO 0) := above_agO 0 0 (by decide)
  have em : midO 0 = agO 0 + osum 0 psOwn 1 := by
    unfold midO; rw [if_pos rfl, osum_skip 0 psOwn 0 rfl]
  have eo : agO 0 + osum 0 psOwn 8 = agO 0 := by rw [osum_end, add_zero]
  have ebs : bsV vs (tile I 0) 0 = bsG (tile I 0) fun k => lead squeezes_S1x32x1152_S32x1152 (vs.p32 (Fin.ofNat 8 (k + 1))) := if_pos rfl
  have hag' := hag
  rw [ebs] at hag'
  have hout : has oM 0 fullShare (oRow vs 0 base (oblk (bsG (tile I 0) fun k => lead squeezes_S1x32x1152_S32x1152 (vs.p32 (Fin.ofNat 8 (k + 1)))) I.wo) 8)
      = has oM 0 fullShare (oRow vs 0 base (oblk (bsV vs (tile I 0) 0) I.wo) 8) := by rw [ebs]
  have z13 := fin_zero vs 0 (.dma ⟨13, by decide⟩) (by decide)
  have z14 := fin_zero vs 0 (.dma ⟨14, by decide⟩) (by decide)
  have z22 := fin_zero vs 0 (.dma ⟨22, by decide⟩) (by decide)
  have z23 := fin_zero vs 0 (.dma ⟨23, by decide⟩) (by decide)
  have tks := cells_split (F := F) (tk (F := F) 0)
  have poss := cells_split (F := F) (pos (F := F) 0)
  have cb : cr (F := F) 0 (.reg ⟨0, by decide⟩) = cred (tallyAt (barCell 0) () 7) := rfl
  have ce : cr (F := F) 0 (.reg ⟨1, by decide⟩) = cred (tallyAt (endCell 0) () 7) := rfl
  have hb : bigSep (Finset.univ.erase 0) (fun p => pay vs 0 p (.reg ⟨0, by decide⟩)) ⊢ bigSep Finset.univ (others 0 fun p => barPay (F := F) 0 p) := Entails.of_eq (others_eq 0 _).symm
  iintro ⟨⟨#HW, HO, ⟨Htb, Ht⟩, ⟨Hcb, Hce, -, -, Hc6, Hc32⟩, ⟨Hpb, Hp⟩, #HR, ⟨Hps, Hp32, Hpx, Hc0, Hcx, Hbs, Hag, Had⟩⟩, Hin, Ho, Hpost⟩
  ihave Ht' := (Entails.of_eq tks) $$ Ht
  icases Ht' with ⟨-, Ht13, -, Ht15, -, -, Ht24, Ht32, Hte⟩
  ihave Hp' := (Entails.of_eq poss) $$ Hp
  icases Hp' with ⟨Hp6, Hp13, Hp14, Hp15, Hp22, Hp23, Hp24, Hp32', Hpe⟩
  ihave Hps' := (ps_slots 0) $$ Hps
  ihave Hc0' := (c0_slots 0) $$ Hc0
  ihave Had' := (ad_slots 0) $$ Had
  ihave Hg := give_zero (F := F) $$ [Had' Hc0']
  · isplitr; · iexact HR
    isplitl [Had']; · iexact Had'
    iexact Hc0'
  icases Hg with ⟨Hg, Hao⟩
  ihave HO' := (Entails.of_eq (congrArg (owesE (F := F) 0) (O₀_eq 0))) $$ HO
  iapply (bind_run 0)
  iapply (part60_run vs K 0 (midO 0) a1) $$ [-]
  unfold LoopSt
  isplitr; · iexact HW
  isplitl [HO']; · iexact HO'
  isplitl [Htb Hg]
  · iapply (bar_feed vs K 0)
    isplitr; · iexact HW
    isplitl [Htb]; · iexact Htb
    iexact Hg
  isplitl [Hcb]; · iexact Hcb
  isplitl [Hpb]; · iexact Hpb
  iintro ⟨HO, Hpb, Hget⟩
  ihave Hget := hb $$ Hget
  ihave Hget := (get_zero (F := F)) $$ Hget
  icases Hget with ⟨HRo, Hado, Hxo⟩
  ihave #HA := (allR_mk (F := F) 0) $$ [HRo]
  · isplitr; · iexact HR
    iexact HRo
  ihave HB := (ps_feed (F := F)) $$ [Hxo Ht15 Ht13]
  · isplitr; · iexact HA
    isplitl [Hxo]; · iexact Hxo
    isplitl [Ht15]; · iexact Ht15
    iexact Ht13
  ihave HF := (Entails.of_eq (fam_zero (others 0 (psA (F := F))) (others 0 (psB (F := F)))).symm) $$ HB
  ihave HF := (fam_self 0 0 (by decide) rfl (psA (F := F)) (psB (F := F))) $$ HF
  ihave HO := (Entails.of_eq (congrArg (owesE (F := F) 0) em)) $$ HO
  ihave Hps := (Entails.of_eq (bigSep_seven fun k : Fin 7 => hasAny (F := F) (psS k.val k.isLt) 0)) $$ Hps'
  iapply (bind_run 0)
  iapply (part61_zero vs K I hps (agO 0)) $$ [-]
  unfold LoopSt
  isplitl [HO HF]
  · isplitr; · iexact HW
    isplitl [HO]; · iexact HO
    isplitl [HF]; · iexact HF
    itrivial
  isplitl [Hin]; · iexact Hin
  isplitl [Hbs]; · iexact Hbs
  isplitl [Hps]; · iexact Hps
  iintro ⟨⟨-, HO, HF, -⟩, Hin, Hbs⟩
  ihave HO := (Entails.of_eq (congrArg (owesE (F := F) 0) eo)) $$ HO
  ihave HF := (Entails.of_eq (fam_all (n := 8) (others 0 (psA (F := F))) (others 0 (psB (F := F))))) $$ HF
  ihave HS := (s0_feed (F := F)) $$ [HF Hp15]
  · isplitl [HF]; · iexact HF
    iexact Hp15
  ihave HC := (c0_feed (F := F)) $$ [Hc6 Hp6]
  · isplitl [Hc6]; · iexact Hc6
    iexact Hp6
  iapply (bind_run 0)
  iapply (part62_zero vs K (tile I 0) (agO 0) a2 a0) $$ [-]
  unfold FamSt
  isplitl [HO HC]
  · isplitr; · iexact HW
    isplitl [HO]; · iexact HO
    iapply (Entails.of_eq (fam_zero (c0D vs) (c0W (F := F))).symm); iexact HC
  isplitl [HS]
  · iapply (Entails.of_eq (fam_zero (s0D vs) (s0W (F := F))).symm); iexact HS
  isplitl [Hbs]; · iexact Hbs
  iintro ⟨HO, HC, HS, Hbs⟩
  ihave Hfeed := (feed (F := F) vs 0) $$ [Hado Ht24 Ht32 Hp24 Hc32 Hp32' Hte]
  · isplitr; · iexact HA
    isplitl [Hado]; · iexact Hado
    isplitl [Ht24]; · iexact Ht24
    isplitl [Ht32]; · iexact Ht32
    isplitl [Hp24]; · iexact Hp24
    isplitl [Hc32]; · iexact Hc32
    isplitl [Hp32']; · iexact Hp32'
    iexact Hte
  icases Hfeed with ⟨HagB, HarB, HeB, Hpo24, Hpo32⟩
  iapply (rear_run vs K 0 I (bsG (tile I 0) fun k => lead squeezes_S1x32x1152_S32x1152 (vs.p32 (Fin.ofNat 8 (k + 1)))) base hag') $$ [-]
  isplitr; · iexact HW
  isplitl [HO]; · iexact HO
  isplitl [Hin]; · iexact Hin
  isplitl [Hbs]; · iexact Hbs
  isplitl [Ho]; · iexact Ho
  isplitl [Hag]; · iexact Hag
  isplitl [HagB]; · iexact HagB
  isplitl [HarB]; · iexact HarB
  isplitl [HeB]; · iexact HeB
  isplitl [Hce]; · iexact Hce
  isplitl [Hpe]; · iexact Hpe
  iintro ⟨HO, Hin, Hbs, Ho, Hag, HagA, HarA, Hpe⟩
  iapply Hpost
  ihave Hag := (pack_ag vs 0) $$ [HagA Hag Hpo24]
  · isplitl [HagA]; · iexact HagA
    isplitl [Hag]; · iexact Hag
    iexact Hpo24
  icases Hag with ⟨Hf24, Hag⟩
  ihave Had := (pack_ad vs 0) $$ [HarA Hao Hpo32]
  · isplitl [HarA]; · iexact HarA
    isplitl [Hao]; · iexact Hao
    iexact Hpo32
  icases Had with ⟨Hf32, Had⟩
  ihave HC := (c0_pack vs) $$ HC
  icases HC with ⟨Hf6, Hc0⟩
  ihave HS := (s0_pack vs) $$ HS
  icases HS with ⟨Hf15, Hps⟩
  unfold DoneSt bufs outOf
  isplitr [Hin Ho]
  · isplitl [HO]; · iexact HO
    isplitl [Hpb Hf6 Hp13 Hp14 Hf15 Hp22 Hp23 Hf24 Hf32 Hpe]
    · isplitl [Hpb]; · iapply (fin_one vs 0); iexact Hpb
      iapply (Entails.of_eq (cells_split (fin vs 0)).symm)
      isplitl [Hf6]; · iexact Hf6
      isplitl [Hp13]; · iapply z13; iexact Hp13
      isplitl [Hp14]; · iapply z14; iexact Hp14
      isplitl [Hf15]; · iexact Hf15
      isplitl [Hp22]; · iapply z22; iexact Hp22
      isplitl [Hp23]; · iapply z23; iexact Hp23
      isplitl [Hf24]; · iexact Hf24
      isplitl [Hf32]; · iexact Hf32
      iapply (fin_one vs 0); iexact Hpe
    isplitl [Hps]; · iapply (ps_join (F := F) 0); iexact Hps
    isplitl [Hp32]; · iexact Hp32
    isplitl [Hpx]; · iexact Hpx
    isplitl [Hc0]; · iapply (c0_join (F := F) 0); iexact Hc0
    isplitl [Hcx]; · iexact Hcx
    isplitl [Hbs]; · iapply (has_any 0 bsM); iexact Hbs
    isplitl [Hag]; · iexact Hag
    iexact Had
  isplitl [Hin]; · iexact Hin
  iapply (Entails.of_eq hout); iexact Ho

end Cert.KernelIdeal.Fused

end
-- ==== Proof.Body1.lean ====
/-
  The kernel on the other devices: all its parts together.
-/
module

public import proofs.«01_k».proof.Proof.Body0

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (vs : Vals F) (K : GSem nD τ sig → ℕ) (c : Dev nD)

theorem px_feed : iprop(allR (F := F) ∗ (if c = 1 then hasAny (F := F) (cxS 1 (by decide)) 7 else iprop(emp)) ∗ tk (F := F) c (.dma ⟨23, by decide⟩) ∗ tk (F := F) c (.dma ⟨14, by decide⟩))
    ⊢ (if c = 1 then pxB (F := F) else iprop(emp)) := by
  by_cases h : c = 1
  · subst h
    rw [if_pos rfl, if_pos rfl]
    have t1 : tk (F := F) 1 (.dma ⟨23, by decide⟩) ⊢ dutyTok ER (dmaCell 1 23 (by decide)) 0 (1 : Dev nD) := tk_at 1 1 _ (by decide)
    have t2 : tk (F := F) 1 (.dma ⟨14, by decide⟩) ⊢ dutyTok ER (dmaCell 7 14 (by decide)) 0 (1 : Dev nD) := tk_at 1 7 _ (by decide)
    have r1 := allR_dma (F := F) 1 23 (by decide) (by decide)
    have r2 := allR_dma (F := F) 7 14 (by decide) (by decide)
    iintro ⟨#HR, Hx, H1, H2⟩
    isplitl [Hx]; · iexact Hx
    isplitl [H1]; · iapply t1; iexact H1
    isplitr; · iapply r1; iexact HR
    isplitl [H2]; · iapply t2; iexact H2
    iapply r2; iexact HR
  · rw [if_neg h, if_neg h]
    iintro -; itrivial

theorem p32_feed (h0 : c ≠ 0) : iprop(allR (F := F) ∗ hasAny (F := F) (c0S (c.val - 1) (pred_lt c)) 0 ∗ tk (F := F) c (.dma ⟨22, by decide⟩) ∗ rng (tk (F := F) c) 6 7 (by decide))
    ⊢ c0B (F := F) c := by
  have t1 : tk (F := F) c (.dma ⟨22, by decide⟩) ⊢ dutyTok ER (dmaCell c 22 (by decide)) 0 c := tk_at c c _ (by clear * - h0; revert c; decide)
  have t2 : rng (tk (F := F) c) 6 7 (by decide) ⊢ dutyTok ER (dmaCell 0 (c.val - 1 + 6) (c0_lt c)) 0 c :=
    BIBase.Entails.trans (at_mem (g := (⟨c.val - 1, pred_lt c⟩ : Fin 7)) (Finset.mem_univ _)) (tk_at c 0 _ (by clear * - h0; revert c; decide))
  have r1 := allR_dma (F := F) c 22 (by decide) (by decide)
  have r2 := allR_dma (F := F) 0 (c.val - 1 + 6) (by omega) (c0_lt c)
  iintro ⟨#HR, Hx, H1, H2⟩
  isplitl [Hx]; · iexact Hx
  isplitl [H1]; · iapply t1; iexact H1
  isplitr; · iapply r1; iexact HR
  isplitl [H2]; · iapply t2; iexact H2
  iapply r2; iexact HR

theorem w7_feed : iprop(cr (F := F) c (.dma ⟨14, by decide⟩) ∗ pos (F := F) c (.dma ⟨14, by decide⟩))
    ⊢ iprop(w7 (F := F) c ∗ if c = 7 then iprop(emp) else pos (F := F) c (.dma ⟨14, by decide⟩)) := by
  unfold w7
  by_cases h : c = 7
  · subst h
    rw [if_pos rfl, if_pos rfl]
    have e : cr (F := F) 7 (.dma ⟨14, by decide⟩) = cred (tallyAt (dmaCell 7 14 (by decide)) () N128) := by
      unfold cr
      rw [payers14, Finset.card_singleton, Nat.one_mul, amt128 _ _ (by omega) (by omega)]
    rw [e]
    iintro H
    isplitl; · iexact H
    itrivial
  · rw [if_neg h, if_neg h]
    iintro ⟨-, H⟩
    isplitr; · itrivial
    iexact H

theorem w1_feed : iprop((if c = 1 then cred (tallyAt (dmaCell 1 23 (by decide)) () N128) else hasAny (F := F) pxM c) ∗ pos (F := F) c (.dma ⟨23, by decide⟩))
    ⊢ iprop(w1 (F := F) c ∗ if c = 1 then iprop(emp) else iprop(hasAny (F := F) pxM c ∗ pos (F := F) c (.dma ⟨23, by decide⟩))) := by
  unfold w1
  by_cases h : c = 1
  · subst h
    rw [if_pos rfl, if_pos rfl, if_pos rfl]
    iintro H
    isplitl; · iexact H
    itrivial
  · rw [if_neg h, if_neg h, if_neg h]
    iintro H
    isplitr; · itrivial
    iexact H

theorem d7_pack : iprop(d7 vs c ∗ (if c = 7 then iprop(emp) else pos (F := F) c (.dma ⟨14, by decide⟩)) ∗ if c = 7 then iprop(emp) else hasAny (F := F) (cxS 1 (by decide)) c)
    ⊢ iprop(fin vs c (.dma ⟨14, by decide⟩) ∗ hasAny (F := F) (cxS 1 (by decide)) c) := by
  unfold d7
  by_cases h : c = 7
  · subst h
    rw [if_pos rfl, if_pos rfl, if_pos rfl]
    iintro ⟨⟨H1, H2⟩, -, -⟩
    isplitl [H1]; · iapply (fin_one vs 7); iexact H1
    iapply (has_any 7 _); iexact H2
  · rw [if_neg h, if_neg h, if_neg h]
    have z := fin_zero vs c (.dma ⟨14, by decide⟩) (by clear * - h; revert c; decide)
    iintro ⟨-, H1, H2⟩
    isplitl [H1]; · iapply z; iexact H1
    iexact H2

theorem d1_pack : iprop(d1 vs c ∗ if c = 1 then iprop(emp) else iprop(hasAny (F := F) pxM c ∗ pos (F := F) c (.dma ⟨23, by decide⟩)))
    ⊢ iprop(fin vs c (.dma ⟨23, by decide⟩) ∗ hasAny (F := F) pxM c) := by
  unfold d1
  by_cases h : c = 1
  · subst h
    rw [if_pos rfl, if_pos rfl]
    iintro ⟨⟨H1, H2⟩, -⟩
    isplitl [H1]; · iapply (fin_one vs 1); iexact H1
    iapply (has_any 1 pxM); iexact H2
  · rw [if_neg h, if_neg h]
    have z := fin_zero vs c (.dma ⟨23, by decide⟩) (by clear * - h; revert c; decide)
    iintro ⟨-, H1, H2⟩
    isplitl [H2]; · iapply z; iexact H2
    iexact H1

set_option maxHeartbeats 1000000 in
/-- The kernel on another device. -/
theorem other_run [∀ e, Nonempty (Elt F e)] (h0 : c ≠ 0) (I : Ins F) (t : S128x1152.Idx → Elt F .bf16)
    (hp32 : vs.p32 c = shapeCast S32x1152 (p32T I) (cast_self 32 1152)) (hpx : c = 1 → vs.px = shapeCast S128x1152 (pxT I) (cast_self 128 1152))
    (base : S1x1024x1024.Idx → Elt F .f32) (hag : vs.ag c = obf (oblk (bsV vs t c) I.wo)) (Q : PUnit → sProp 𝕄) :
    iprop(StartSt vs K c ∗ insAt c I ∗ has oM c fullShare base ∗ ((DoneSt vs c ∗ insAt c I ∗ has oM c fullShare (outOf vs c t I base 8)) -∗ Q ⟨⟩))
      ⊢ WP c (atArgs (cc0__fused_body (F := F))) Q := by
  rw [cc0__fused_body_eq_skeleton]
  unfold atArgs cc0__fused_body_skel StartSt bufs crs
  have a1 : Above 1 (midO c) := by
    unfold midO; rw [if_neg h0]
    refine ((above_agO c 1 (by decide)).add ?_).add (Above.tally 0 _ N32 ?_)
    · split
      · exact Above.tally 7 _ N128 (by decide)
      · exact Above.zero 1
    · have := pred_lt c
      rw [lev_mid _ _ (by omega) (by omega)]; decide
  have a2 : Above 2 (agO c) := above_agO c 2 (by decide)
  have a0 : Above 0 (agO c) := above_agO c 0 (by decide)
  have em : midO c = (agO c + if c = 1 then pxOwn else 0) + c0Own c := by
    unfold midO; rw [if_neg h0]
  have e13 : cr (F := F) c (.dma ⟨13, by decide⟩) = cred (tallyAt (dmaCell c 13 (by decide)) () N128) := by
    unfold cr
    rw [payers13 c h0, Finset.card_singleton, Nat.one_mul, amt128 _ _ (by omega) (by omega)]
  have hpos : 0 < c.val := Nat.pos_of_ne_zero fun h => h0 (Fin.ext h)
  have h9 : ¬ k0_cond9 c = 1#1 := by clear * - h0; revert c; decide
  have h19 : ¬ Scalar.cmpi .ne (Scalar.extui (Scalar.cmpi .eq (myW c) 0#32)) 0#32 = 1#1 := by clear * - h0; revert c; decide
  have h20 : Scalar.cmpi .ne (Scalar.extui (Scalar.cmpi .ne (myW c) 0#32)) 0#32 = 1#1 := by clear * - h0; revert c; decide
  have z6 := rng_fin_zero vs c 6 7 (by decide) (by clear * - h0; revert c; decide)
  have z15 := rng_fin_zero vs c 15 7 (by decide) (by clear * - h0; revert c; decide)
  have tks := cells_split (F := F) (tk (F := F) c)
  have poss := cells_split (F := F) (pos (F := F) c)
  have cb : cr (F := F) c (.reg ⟨0, by decide⟩) = cred (tallyAt (barCell c) () 7) := by
    have : (payers c (.reg ⟨0, by decide⟩)).card = 7 := by clear * -; revert c; decide
    unfold cr; rw [this]; rfl
  have ce : cr (F := F) c (.reg ⟨1, by decide⟩) = cred (tallyAt (endCell c) () 7) := by
    have : (payers c (.reg ⟨1, by decide⟩)).card = 7 := by clear * -; revert c; decide
    unfold cr; rw [this]; rfl
  have h2 : (bigSep Finset.univ fun k : Fin 2 => hasAny (F := F) (cxS k.val k.isLt) c) = iprop(hasAny (F := F) (cxS 0 (by decide)) c ∗ hasAny (F := F) (cxS 1 (by decide)) c) :=
    bigSep_univ_eq_bigSepL [0, 1] (by decide) (by decide) _
  have hb : bigSep (Finset.univ.erase c) (fun p => pay vs c p (.reg ⟨0, by decide⟩)) ⊢ bigSep Finset.univ (others c fun p => barPay (F := F) c p) := Entails.of_eq (others_eq c _).symm
  iintro ⟨⟨#HW, HO, ⟨Htb, Ht⟩, ⟨Hcb, Hce, Hc13, Hc14, -, Hc32⟩, ⟨Hpb, Hp⟩, #HR, ⟨Hps, Hp32, Hpx, Hc0, Hcx, Hbs, Hag, Had⟩⟩, Hin, Ho, Hpost⟩
  ihave Ht' := (Entails.of_eq tks) $$ Ht
  icases Ht' with ⟨Ht6, -, Ht14, -, Ht22, Ht23, Ht24, Ht32, Hte⟩
  ihave Hp' := (Entails.of_eq poss) $$ Hp
  icases Hp' with ⟨Hp6, Hp13, Hp14, Hp15, Hp22, Hp23, Hp24, Hp32', Hpe⟩
  ihave Hcx' := (cx_slots c) $$ Hcx
  ihave Had' := (ad_slots c) $$ Had
  ihave Hg := (give_other (F := F) c h0) $$ [Had' Hcx']
  · isplitr; · iexact HR
    isplitl [Had']; · iexact Had'
    iexact Hcx'
  icases Hg with ⟨Hg, Hao, Hx1⟩
  ihave HO' := (Entails.of_eq (congrArg (owesE (F := F) c) (O₀_eq c))) $$ HO
  iapply (bind_run c)
  iapply (part60_run vs K c (midO c) a1) $$ [-]
  unfold LoopSt
  isplitr; · iexact HW
  isplitl [HO']; · iexact HO'
  isplitl [Htb Hg]
  · iapply (bar_feed vs K c)
    isplitr; · iexact HW
    isplitl [Htb]; · iexact Htb
    iexact Hg
  isplitl [Hcb]; · iapply (Entails.of_eq cb); iexact Hcb
  isplitl [Hpb]; · iexact Hpb
  iintro ⟨HO, Hpb, Hget⟩
  ihave Hget := hb $$ Hget
  ihave Hget := (get_other (F := F) c h0) $$ Hget
  icases Hget with ⟨HRo, Hado, Hcs, Hxs⟩
  ihave #HA := (allR_mk (F := F) c) $$ [HRo]
  · isplitr; · iexact HR
    iexact HRo
  ihave HB := (p32_feed (F := F) c h0) $$ [Hcs Ht22 Ht6]
  · isplitr; · iexact HA
    isplitl [Hcs]; · iexact Hcs
    isplitl [Ht22]; · iexact Ht22
    iexact Ht6
  ihave HX := (px_feed (F := F) c) $$ [Hxs Ht23 Ht14]
  · isplitr; · iexact HA
    isplitl [Hxs]; · iexact Hxs
    isplitl [Ht23]; · iexact Ht23
    iexact Ht14
  ihave HO := (Entails.of_eq (congrArg (owesE (F := F) c) em)) $$ HO
  iapply (bind_run c)
  iapply (part61_other vs K c I hp32 hpx h9 h20 hpos (agO c)) $$ [-]
  isplitr; · iexact HW
  isplitl [HO]; · iexact HO
  isplitl [HB]; · iexact HB
  isplitl [HX]; · iexact HX
  isplitl [Hin]; · iexact Hin
  isplitl [Hp32]; · iexact Hp32
  isplitl [Hpx]; · iexact Hpx
  iintro ⟨HO, Hc22, Hx, Hin⟩
  ihave H7 := (w7_feed (F := F) c) $$ [Hc14 Hp14]
  · isplitl [Hc14]; · iexact Hc14
    iexact Hp14
  icases H7 with ⟨H7, Hk14⟩
  ihave H1 := (w1_feed (F := F) c) $$ [Hx Hp23]
  · isplitl [Hx]; · iexact Hx
    iexact Hp23
  icases H1 with ⟨H1, Hk23⟩
  iapply (bind_run c)
  iapply (part62_other vs K c t h0 h19 h20 (agO c) a2 a0) $$ [-]
  isplitr; · iexact HW
  isplitl [HO]; · iexact HO
  isplitl [Hc13 Hp13]
  · isplitl [Hc13]; · iapply (Entails.of_eq e13); iexact Hc13
    iexact Hp13
  isplitl [H7]; · iexact H7
  isplitl [Hc22 Hp22]
  · isplitl [Hc22]; · iexact Hc22
    iexact Hp22
  isplitl [H1]; · iexact H1
  isplitl [Hbs]; · iexact Hbs
  iintro ⟨HO, ⟨Hp13, Hx0⟩, H7, ⟨Hp22, Hp32⟩, H1, Hbs⟩
  ihave Hfeed := (feed (F := F) vs c) $$ [Hado Ht24 Ht32 Hp24 Hc32 Hp32' Hte]
  · isplitr; · iexact HA
    isplitl [Hado]; · iexact Hado
    isplitl [Ht24]; · iexact Ht24
    isplitl [Ht32]; · iexact Ht32
    isplitl [Hp24]; · iexact Hp24
    isplitl [Hc32]; · iexact Hc32
    isplitl [Hp32']; · iexact Hp32'
    iexact Hte
  icases Hfeed with ⟨HagB, HarB, HeB, Hpo24, Hpo32⟩
  iapply (rear_run vs K c I (bsV vs t c) base hag) $$ [-]
  isplitr; · iexact HW
  isplitl [HO]; · iexact HO
  isplitl [Hin]; · iexact Hin
  isplitl [Hbs]; · iexact Hbs
  isplitl [Ho]; · iexact Ho
  isplitl [Hag]; · iexact Hag
  isplitl [HagB]; · iexact HagB
  isplitl [HarB]; · iexact HarB
  isplitl [HeB]; · iexact HeB
  isplitl [Hce]; · iapply (Entails.of_eq ce); iexact Hce
  isplitl [Hpe]; · iexact Hpe
  iintro ⟨HO, Hin, Hbs, Ho, Hag, HagA, HarA, Hpe⟩
  iapply Hpost
  ihave Hag := (pack_ag vs c) $$ [HagA Hag Hpo24]
  · isplitl [HagA]; · iexact HagA
    isplitl [Hag]; · iexact Hag
    iexact Hpo24
  icases Hag with ⟨Hf24, Hag⟩
  ihave Had := (pack_ad vs c) $$ [HarA Hao Hpo32]
  · isplitl [HarA]; · iexact HarA
    isplitl [Hao]; · iexact Hao
    iexact Hpo32
  icases Had with ⟨Hf32, Had⟩
  ihave H7 := (d7_pack vs c) $$ [H7 Hk14 Hx1]
  · isplitl [H7]; · iexact H7
    isplitl [Hk14]; · iexact Hk14
    iexact Hx1
  icases H7 with ⟨Hf14, Hx1⟩
  ihave H1 := (d1_pack vs c) $$ [H1 Hk23]
  · isplitl [H1]; · iexact H1
    iexact Hk23
  icases H1 with ⟨Hf23, Hpx⟩
  unfold DoneSt bufs outOf
  isplitr [Hin Ho]
  · isplitl [HO]; · iexact HO
    isplitl [Hpb Hp6 Hp13 Hf14 Hp15 Hp22 Hf23 Hf24 Hf32 Hpe]
    · isplitl [Hpb]; · iapply (fin_one vs c); iexact Hpb
      iapply (Entails.of_eq (cells_split (fin vs c)).symm)
      isplitl [Hp6]; · iapply z6; iexact Hp6
      isplitl [Hp13]; · iapply (fin_one vs c); iexact Hp13
      isplitl [Hf14]; · iexact Hf14
      isplitl [Hp15]; · iapply z15; iexact Hp15
      isplitl [Hp22]; · iapply (fin_one vs c); iexact Hp22
      isplitl [Hf23]; · iexact Hf23
      isplitl [Hf24]; · iexact Hf24
      isplitl [Hf32]; · iexact Hf32
      iapply (fin_one vs c); iexact Hpe
    isplitl [Hps]; · iexact Hps
    isplitl [Hp32]; · iapply (has_any c p32M); iexact Hp32
    isplitl [Hpx]; · iexact Hpx
    isplitl [Hc0]; · iexact Hc0
    isplitl [Hx0 Hx1]
    · iapply (cx_join (F := F) c)
      iapply (Entails.of_eq h2.symm)
      isplitl [Hx0]; · iapply (has_any c _); iexact Hx0
      iexact Hx1
    isplitl [Hbs]; · iapply (has_any c bsM); iexact Hbs
    isplitl [Hag]; · iexact Hag
    iexact Had
  isplitl [Hin]; · iexact Hin
  iexact Ho

end Cert.KernelIdeal.Fused

end
-- ==== Proof.Whole.lean ====
/-
  What the devices send and what the result holds, from what the devices are given; the kernel on every device.
-/
module

public import proofs.«01_k».proof.Proof.Body1

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## What the devices send, from what they are given -/

variable (Is : Dev nD → Ins F)

/-- The weighted sums that travel. -/
def sums : Vals F where
  ps k := shapeCast S1x128x1152 (tile (Is 0) (k + 1)) (cast_to_one 128 1152)
  p32 d := shapeCast S32x1152 (p32T (Is d)) (cast_self 32 1152)
  px := shapeCast S128x1152 (pxT (Is 1)) (cast_self 128 1152)
  ag _ := obf (oblk (bs0 (tile (Is 0) 0)) (Is 0).wo)
/-- The sum device `d` divides, and the rows of the result it makes of them. -/
def total (d : Dev nD) : S128x1152.Idx → Elt F .f32 := bsV (sums Is) (tile (Is 0) 0) d
def made (d : Dev nD) : S128x1024.Idx → Elt F .f32 := oblk (total Is d) (Is d).wo
/-- All that travels. -/
def valsOf : Vals F := { sums Is with ag := fun d => obf (made Is d) }

theorem bsV_valsOf (d : Dev nD) : bsV (valsOf Is) (tile (Is 0) 0) d = total Is d := rfl

/-- The finished rows as another device stores them. -/
def sent (d : Dev nD) : S1x128x1024.Idx → Elt F .f32 := oExt (lead squeezes_S1x128x1024_S128x1024 (obf (made Is d)))
/-- Block `r` of the result's rows, as device `c` stores it. -/
def blockOf (c r : Dev nD) : S1x128x1024.Idx → Elt F .f32 := if r = c then shapeCast S1x128x1024 (made Is c) (cast_to_one 128 1024) else sent Is r

theorem rowBlk (i : S1x1024x1024.Idx) : (i 1).val / 128 < 8 := by
  have h : (i 1).val < 1024 := (i 1).isLt
  omega
/-- A row within its block. -/
def rowAt (i : S1x1024x1024.Idx) : S1x128x1024.Idx := fun a => match a with
  | ⟨0, _⟩ => (⟨0, by decide⟩ : Fin 1)
  | ⟨1, _⟩ => (⟨(i 1).val % 128, Nat.mod_lt _ (by decide)⟩ : Fin 128)
  | ⟨2, _⟩ => (⟨(i 2).val, (i 2).isLt⟩ : Fin 1024)
/-- What the result holds at the end on device `c`. -/
def OUT (c : Dev nD) : S1x1024x1024.Idx → Elt F .f32 := fun i => blockOf Is c ⟨(i 1).val / 128, rowBlk i⟩ (rowAt i)

theorem put_row (x : S1x1024x1024.Idx → Elt F .f32) (r : ℕ) (w : S1x128x1024.Idx → Elt F .f32) (i : S1x1024x1024.Idx) :
    VecWindow.put (s := S1x1024x1024) x ![0, 128 * r, 0] S1x128x1024.size w i = if (i 1).val / 128 = r then w (rowAt i) else x i := by
  have h0 : (i 0).val < 1 := (i 0).isLt
  have h2 : (i 2).val < 1024 := (i 2).isLt
  unfold VecWindow.put
  by_cases h : (i 1).val / 128 = r
  · have hh : ∀ a : Fin S1x1024x1024.rank, (![0, 128 * r, 0] : Fin 3 → ℕ) a ≤ (i a).val ∧ (i a).val < (![0, 128 * r, 0] : Fin 3 → ℕ) a + S1x128x1024.size a := by
      intro a
      match a with
      | ⟨0, _⟩ => exact ⟨Nat.zero_le _, by show (i 0).val < 0 + 1; omega⟩
      | ⟨1, _⟩ => exact ⟨by show 128 * r ≤ (i 1).val; omega, by show (i 1).val < 128 * r + 128; omega⟩
      | ⟨2, _⟩ => exact ⟨Nat.zero_le _, by show (i 2).val < 0 + 1024; omega⟩
    rw [dif_pos hh, if_pos h]
    refine congrArg w (funext fun a => Fin.ext ?_)
    match a with
    | ⟨0, _⟩ => show (i 0).val - 0 = 0; omega
    | ⟨1, _⟩ => show (i 1).val - 128 * r = (i 1).val % 128; omega
    | ⟨2, _⟩ => rfl
  · rw [dif_neg fun hh => h (by
      have h1 := hh ⟨1, by decide⟩
      have a1 : 128 * r ≤ (i 1).val := h1.1
      have a2 : (i 1).val < 128 * r + 128 := h1.2
      omega), if_neg h]

/-- The result's rows once `n` devices' blocks are in. -/
theorem oRow_at (c : Dev nD) (base : S1x1024x1024.Idx → Elt F .f32) (i : S1x1024x1024.Idx) : ∀ n, n ≤ 8 →
    oRow (valsOf Is) c base (made Is c) n i
      = if (i 1).val / 128 = c.val ∨ (i 1).val / 128 < n then OUT Is c i else base i
  | 0, _ => by
    show oOwn c base (made Is c) i = _
    unfold oOwn
    rw [put_row]
    by_cases h : (i 1).val / 128 = c.val
    · rw [if_pos h, if_pos (.inl h)]
      unfold OUT blockOf
      rw [if_pos (Fin.ext h)]
    · rw [if_neg h, if_neg (by omega)]
  | n + 1, hn => by
    have ih := oRow_at c base i n (by omega)
    show (if c.val = n then oRow (valsOf Is) c base (made Is c) n else _) i = _
    by_cases hc : c.val = n
    · rw [if_pos hc, ih]
      by_cases h : (i 1).val / 128 = c.val ∨ (i 1).val / 128 < n
      · rw [if_pos h, if_pos (by omega)]
      · rw [if_neg h, if_neg (by omega)]
    · rw [if_neg hc, put_row, ih]
      by_cases h : (i 1).val / 128 = n
      · rw [if_pos h, if_pos (by omega)]
        unfold OUT blockOf
        have e : (⟨(i 1).val / 128, rowBlk i⟩ : Dev nD) = Fin.ofNat 8 n := Fin.ext (by
          show (i 1).val / 128 = n % 8
          omega)
        rw [if_neg (fun e' => hc (by rw [← e']; exact h)), e]
        rfl
      · rw [if_neg h]
        by_cases h' : (i 1).val / 128 = c.val ∨ (i 1).val / 128 < n
        · rw [if_pos h', if_pos (by omega)]
        · rw [if_neg h', if_neg (by omega)]

theorem oRow_all (c : Dev nD) (base : S1x1024x1024.Idx → Elt F .f32) : oRow (valsOf Is) c base (made Is c) 8 = OUT Is c :=
  funext fun i => by rw [oRow_at Is c base i 8 (Nat.le_refl 8), if_pos (.inr (rowBlk i))]

/-- The kernel on every device. -/
theorem body_run [∀ e, Nonempty (Elt F e)] (K : GSem nD τ sig → ℕ) (c : Dev nD) (base : S1x1024x1024.Idx → Elt F .f32) (Q : PUnit → sProp 𝕄) :
    iprop(StartSt (valsOf Is) K c ∗ insAt c (Is c) ∗ has oM c fullShare base
      ∗ ((DoneSt (valsOf Is) c ∗ insAt c (Is c) ∗ has oM c fullShare (OUT Is c)) -∗ Q ⟨⟩))
      ⊢ WP c (atArgs (cc0__fused_body (F := F))) Q := by
  by_cases h0 : c = 0
  · subst h0
    have h := zero_run (valsOf Is) K (Is 0) (fun k => rfl) base rfl Q
    unfold outOf at h
    rw [bsV_valsOf, show oblk (total Is 0) (Is 0).wo = made Is 0 from rfl, oRow_all] at h
    exact h
  · have h := other_run (valsOf Is) K c h0 (Is c) (tile (Is 0) 0) rfl (fun h => by subst h; rfl) base rfl Q
    unfold outOf at h
    rw [bsV_valsOf, show oblk (total Is c) (Is c).wo = made Is c from rfl, oRow_all] at h
    exact h

end Cert.KernelIdeal.Fused

end
-- ==== Proof.Entry.lean ====
/-
  The launch's ghost state and credit, dealt to the devices; the scoped cells opened and closed.
-/
module

public import proofs.«01_k».proof.Proof.Whole

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The launch's ghost state, dealt to the devices -/

/-- A device's semaphores with cells: the barrier's, and the scoped ones. -/
def csem : Option (Fin 35) → SemLoc sig
  | none => .reg ⟨0, by decide⟩
  | some k => osem k
theorem osem_ne_bar : ∀ k : Fin 35, osem k ≠ .reg ⟨0, by decide⟩ := by decide
theorem csem_inj : Function.Injective csem := by
  rintro (_ | a) (_ | b) h
  · rfl
  · exact absurd h.symm (osem_ne_bar b)
  · exact absurd h (osem_ne_bar a)
  · exact congrArg some (osem_inj h)

/-- Every payment's token: the payer, the semaphore, the device paid. -/
def tokEmb : (Dev nD × Option (Fin 35)) × Dev nD ↪ GSem nD τ sig × ℕ × Duty :=
  ⟨fun x => (((x.2 : Thread nD τ), csem x.1.2), 0, x.1.1), fun x y h => by
    have h1 : x.2 = y.2 := congrArg (fun t : GSem nD τ sig × ℕ × Duty => t.1.1.1) h
    have h2 : csem x.1.2 = csem y.1.2 := congrArg (fun t : GSem nD τ sig × ℕ × Duty => t.1.2) h
    have h3 : x.1.1 = y.1.1 := congrArg (fun t : GSem nD τ sig × ℕ × Duty => t.2.2) h
    exact Prod.ext (Prod.ext h3 (csem_inj h2)) h1⟩
def toks : Finset (GSem nD τ sig × ℕ × Duty) :=
  (Finset.univ.filter fun x : (Dev nD × Option (Fin 35)) × Dev nD => x.1.1 ∈ payers x.2 (csem x.1.2)).map tokEmb

theorem bigSep_opt (Φ : Option (Fin 35) → sProp 𝕄) : bigSep Finset.univ Φ = iprop(Φ none ∗ bigSep Finset.univ fun k => Φ (some k)) := by
  rw [bigSep_univ_at _ none, show (Finset.univ.erase none : Finset (Option (Fin 35))) = Finset.univ.map Function.Embedding.some from by decide, bigSep_map]
  rfl

/-- The tokens a device pays with. -/
def tokens (c : Dev nD) : sProp 𝕄 := iprop(tk (F := F) c (.reg ⟨0, by decide⟩) ∗ bigSep Finset.univ fun k : Fin 35 => tk (F := F) c (osem k))

theorem toks_eq : bigSep toks (fun x => (dutyTok ER x.1 x.2.1 x.2.2 : sProp 𝕄)) = bigSep Finset.univ fun c : Dev nD => tokens (F := F) c := by
  unfold toks
  rw [bigSep_map, bigSep_filter, bigSep_univ_prod, bigSep_univ_prod]
  refine bigSep_congr fun c _ => ?_
  rw [bigSep_opt]
  rfl

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-! ## The credit for what is owed at the launch -/

/-- The semaphores the devices pay each other on, all owed from the start. -/
def paidSem : Fin 19 → SemLoc sig := fun k =>
  if k.val = 0 then .reg ⟨0, by decide⟩ else if k.val = 1 then .reg ⟨1, by decide⟩ else if k.val = 2 then .dma ⟨13, by decide⟩
  else if k.val = 3 then .dma ⟨14, by decide⟩ else if h : k.val < 11 then .dma ⟨k.val + 2, by show k.val + 2 < 40; omega⟩ else .dma ⟨k.val + 21, by show k.val + 21 < 40; omega⟩
theorem paidSem_inj : Function.Injective paidSem := by decide

theorem O₀_sum (c : Dev nD) : O₀ c = ∑ k, T c (paidSem k) := by
  have h8 : (∑ k : Fin 8, T c (paidSem (Fin.natAdd 11 k))) = ∑ k : Fin 8, T c (.dma ⟨k.val + 32, by show k.val + 32 < 40; omega⟩) :=
    Finset.sum_congr rfl fun k _ => congrArg (T c) ((by decide : ∀ k : Fin 8, paidSem (Fin.natAdd 11 k) = .dma ⟨k.val + 32, by show k.val + 32 < 40; omega⟩) k)
  have h7 : (∑ k : Fin 7, T c (paidSem (Fin.castAdd 8 (Fin.natAdd 4 k)))) = ∑ k : Fin 7, T c (.dma ⟨k.val + 6, by show k.val + 6 < 40; omega⟩) :=
    Finset.sum_congr rfl fun k _ => congrArg (T c) ((by decide : ∀ k : Fin 7, paidSem (Fin.castAdd 8 (Fin.natAdd 4 k)) = .dma ⟨k.val + 6, by show k.val + 6 < 40; omega⟩) k)
  have h4 : (∑ k : Fin 4, T c (paidSem (Fin.castAdd 8 (Fin.castAdd 7 k)))) = T c (.reg ⟨0, by decide⟩) + T c (.reg ⟨1, by decide⟩) + T c (.dma ⟨13, by decide⟩) + T c (.dma ⟨14, by decide⟩) := by
    rw [Fin.sum_univ_four]; rfl
  have e : (∑ k, T c (paidSem k)) = (∑ k : Fin 4, T c (paidSem (Fin.castAdd 8 (Fin.castAdd 7 k)))) + (∑ k : Fin 7, T c (paidSem (Fin.castAdd 8 (Fin.natAdd 4 k))))
      + ∑ k : Fin 8, T c (paidSem (Fin.natAdd 11 k)) := by
    rw [← Fin.sum_univ_add (fun k : Fin (4 + 7) => T c (paidSem (Fin.castAdd 8 k)))]
    exact Fin.sum_univ_add (a := 11) (b := 8) fun k => T c (paidSem k)
  rw [e, h8, h7, h4]
  unfold O₀
  ac_rfl

theorem O₀_apply (d c : Dev nD) (j : Fin 19) :
    O₀ d (((c : Thread nD τ), paidSem j) : GSem nD τ sig) () = if d ∈ payers c (paidSem j) then amt (paidSem j) else 0 := by
  rw [O₀_sum, Finset.sum_apply, Finsupp.finset_sum_apply, Finset.sum_eq_single j]
  · rw [T_apply d _ rfl]
    exact if_congr ⟨fun h => h.2, fun h => ⟨rfl, h⟩⟩ rfl rfl
  · intro k _ hk
    rw [T_apply d _ rfl]
    exact if_neg fun h => hk (paidSem_inj h.1)
  · exact fun h => absurd (Finset.mem_univ j) h

theorem launch_at (c : Dev nD) (j : Fin 19) (s : SemLoc sig) (hs : paidSem j = s) :
    tallyOn (((c : Thread nD τ), s) : GSem nD τ sig) (launchCredit (Pipeline.owing O₀) 0 (((c : Thread nD τ), s) : GSem nD τ sig))
      = (tallyAt (((c : Thread nD τ), s) : GSem nD τ sig) () ((payers c s).card * amt s) : CellTallies nD τ sig Unit) := by
  subst hs
  unfold tallyAt; refine congrArg _ (Finsupp.ext fun u => ?_); cases u
  rw [Pipeline.launchCredit_owing, Finsupp.single_eq_same, Finset.sum_congr rfl fun d _ => O₀_apply d c j, ← Finset.sum_filter, Finset.sum_const,
    Finset.filter_mem_eq_inter, Finset.univ_inter, smul_eq_mul]

/-- A cell's credit at the launch. -/
def lcr (c : Dev nD) (s : SemLoc sig) : sProp 𝕄 :=
  cred (tallyOn (((c : Thread nD τ), s) : GSem nD τ sig) (launchCredit (Pipeline.owing O₀) 0 (((c : Thread nD τ), s) : GSem nD τ sig)))
theorem lcr_at (c : Dev nD) (j : Fin 19) (s : SemLoc sig) (hs : paidSem j = s) : lcr (F := F) c s = cr (F := F) c s := by
  unfold lcr; rw [launch_at c j s hs]

theorem creds (c : Dev nD) : (Pipeline.launchCred O₀ c : sProp 𝕄) ⊢ crs (F := F) c := by
  have hu : (Finset.univ : Finset (SemLoc sig)) = Finset.univ.map ⟨csem, csem_inj⟩ ∪ (Finset.univ \ Finset.univ.map ⟨csem, csem_inj⟩) :=
    (Finset.union_sdiff_of_subset (Finset.subset_univ _)).symm
  have c6 : rng (lcr (F := F) c) 6 7 (by decide) = rng (cr (F := F) c) 6 7 (by decide) := bigSep_congr fun k _ =>
    lcr_at c ⟨k.val + 4, by omega⟩ _ ((by decide : ∀ k : Fin 7, paidSem ⟨k.val + 4, by omega⟩ = .dma ⟨k.val + 6, by show k.val + 6 < 40; omega⟩) k)
  have c32 : rng (lcr (F := F) c) 32 8 (by decide) = rng (cr (F := F) c) 32 8 (by decide) := bigSep_congr fun k _ =>
    lcr_at c ⟨k.val + 11, by omega⟩ _ ((by decide : ∀ k : Fin 8, paidSem ⟨k.val + 11, by omega⟩ = .dma ⟨k.val + 32, by show k.val + 32 < 40; omega⟩) k)
  have e : (Pipeline.launchCred O₀ c : sProp 𝕄) = bigSep Finset.univ (lcr (F := F) c) := rfl
  have e3 : bigSep Finset.univ (lcr (F := F) c) = iprop((lcr (F := F) c (.reg ⟨0, by decide⟩) ∗ bigSep Finset.univ fun k : Fin 35 => lcr (F := F) c (osem k))
      ∗ bigSep (Finset.univ \ Finset.univ.map ⟨csem, csem_inj⟩) (lcr (F := F) c)) := by
    conv_lhs => rw [hu]
    rw [bigSep_union Finset.disjoint_sdiff, bigSep_map, bigSep_opt]
    rfl
  rw [e, e3, cells_split, c6, c32, lcr_at c 2 (.dma ⟨13, by decide⟩) rfl, lcr_at c 3 (.dma ⟨14, by decide⟩) rfl, lcr_at c 1 (.reg ⟨1, by decide⟩) rfl,
    lcr_at c 0 (.reg ⟨0, by decide⟩) rfl]
  unfold crs
  iintro ⟨⟨Hb, H6, H13, H14, -, -, -, -, H32, He⟩, -⟩
  isplitl [Hb]; · iexact Hb
  isplitl [He]; · iexact He
  isplitl [H13]; · iexact H13
  isplitl [H14]; · iexact H14
  isplitl [H6] <;> iassumption

/-! ## Opening and closing the scoped cells -/

variable (vs : Vals F) (K : GSem nD τ sig → ℕ) (c : Dev nD)

theorem world_at (k : Fin 35) : World vs K ⊢ cellInv ER (Rd vs) (K (((c : Thread nD τ), osem k) : GSem nD τ sig)) (((c : Thread nD τ), osem k) : GSem nD τ sig) :=
  world_inv vs K (osem_mem c k)

theorem open_all : iprop(World vs K ∗ (bigSep Finset.univ fun k : Fin 35 => openTok ER (((c : Thread nD τ), osem k) : GSem nD τ sig)) ∗ Pipeline.ownSems0 osem c)
    ⊢ (|={Set.univ}=> iprop((bigSep Finset.univ fun k : Fin 35 => pos (F := F) c (osem k)) ∗ reachedAll (F := F) c) : sProp 𝕄) := by
  have h1 (k : Fin 35) : iprop(World vs K ∗ (openTok ER (((c : Thread nD τ), osem k) : GSem nD τ sig) ∗ semVal (((c : Thread nD τ), osem k) : GSem nD τ sig) 0))
      ⊢ (|={Set.univ}=> iprop(pos (F := F) c (osem k) ∗ reached ER (((c : Thread nD τ), osem k) : GSem nD τ sig) 0) : sProp 𝕄) := by
    iintro ⟨HW, Ho, Hs⟩
    ihave HI := (world_at vs K c k) $$ HW
    iapply (Rounds.cell_open ER (Rd vs) (g := (((c : Thread nD τ), osem k) : GSem nD τ sig)) (Set.mem_univ (K (((c : Thread nD τ), osem k) : GSem nD τ sig))))
    isplitl [HI]; · iexact HI
    isplitl [Ho] <;> iassumption
  have h2 : iprop(World vs K ∗ bigSep Finset.univ fun k : Fin 35 => iprop(openTok ER (((c : Thread nD τ), osem k) : GSem nD τ sig) ∗ semVal (((c : Thread nD τ), osem k) : GSem nD τ sig) 0))
      ⊢ (bigSep Finset.univ fun k : Fin 35 => iprop(|={Set.univ}=> (pos (F := F) c (osem k) ∗ reached ER (((c : Thread nD τ), osem k) : GSem nD τ sig) 0)) : sProp 𝕄) :=
    bigSep_with_persistent fun k _ => h1 k
  have h3 : (bigSep Finset.univ fun k : Fin 35 => iprop(pos (F := F) c (osem k) ∗ reached ER (((c : Thread nD τ), osem k) : GSem nD τ sig) 0))
      ⊢ (iprop((bigSep Finset.univ fun k : Fin 35 => pos (F := F) c (osem k)) ∗ reachedAll (F := F) c) : sProp 𝕄) := by
    unfold reachedAll
    exact Entails.of_eq (bigSep_sep' _ _ _)
  unfold Pipeline.ownSems0
  iintro ⟨HW, Ho, Hs⟩
  imod (show _ ⊢ (|={Set.univ}=> bigSep Finset.univ fun k : Fin 35 => iprop(pos (F := F) c (osem k) ∗ reached ER (((c : Thread nD τ), osem k) : GSem nD τ sig) 0) : sProp 𝕄)
    from h2.trans (bigSep_fupd _ _)) $$ [HW Ho Hs] with H
  · isplitl [HW]; · iexact HW
    iapply (Entails.of_eq (bigSep_sep' _ _ _).symm)
    isplitl [Ho]; · iexact Ho
    iexact Hs
  imodintro
  iapply h3; iexact H

theorem close_one (s : SemLoc sig) (hm : (((c : Thread nD τ), s) : GSem nD τ sig) ∈ (barCells ∪ scCells : Finset (GSem nD τ sig))) :
    iprop(World vs K ∗ fin vs c s) ⊢ (|={Set.univ}=> semVal (((c : Thread nD τ), s) : GSem nD τ sig) 0 : sProp 𝕄) := by
  unfold fin
  iintro ⟨HW, ⟨%R, %hR, Hp⟩⟩
  ihave HI := (world_inv vs K hm) $$ HW
  iapply (Rounds.cell_close ER (Rd vs) (g := (((c : Thread nD τ), s) : GSem nD τ sig)) (Set.mem_univ (K (((c : Thread nD τ), s) : GSem nD τ sig))) id hR)
  isplitl [HI] <;> iassumption

theorem close_all : iprop(World vs K ∗ fin vs c (.reg ⟨0, by decide⟩) ∗ bigSep Finset.univ fun k : Fin 35 => fin vs c (osem k))
    ⊢ (|={Set.univ}=> iprop(semVal (barCell c) 0 ∗ Pipeline.ownSems0 osem c) : sProp 𝕄) := by
  have h2 : iprop(World vs K ∗ bigSep Finset.univ fun k : Fin 35 => fin vs c (osem k))
      ⊢ (bigSep Finset.univ fun k : Fin 35 => iprop(|={Set.univ}=> semVal (((c : Thread nD τ), osem k) : GSem nD τ sig) 0) : sProp 𝕄) :=
    bigSep_with_persistent fun k _ => close_one vs K c (osem k) (osem_mem c k)
  iintro ⟨#HW, Hb, Hs⟩
  imod (close_one vs K c (.reg ⟨0, by decide⟩) (bar_mem c)) $$ [Hb] with Hb
  · isplitr; · iexact HW
    iexact Hb
  imod (show _ ⊢ (|={Set.univ}=> bigSep Finset.univ fun k : Fin 35 => semVal (((c : Thread nD τ), osem k) : GSem nD τ sig) 0 : sProp 𝕄)
    from h2.trans (bigSep_fupd _ _)) $$ [Hs] with Hs
  · isplitr; · iexact HW
    iexact Hs
  imodintro
  isplitl [Hb]; · iexact Hb
  unfold Pipeline.ownSems0
  iexact Hs

end Cert.KernelIdeal.Fused

end
-- ==== Proof.Data.lean ====
/-
  The run's data: what each device is given, its windows, and what is owed.
-/
module

public import proofs.«01_k».proof.Proof.Entry
public import proofs.«01_k».proof.Proof.Gen.KernelIdeal.Frame

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- A core's buffers at the launch, and when the kernel starts. -/
abbrev V₀ (c : Dev nD) : Valuation τ sig (Elt F) := fun b => m (c, b)
abbrev V₁ (c : Dev nD) : Valuation τ sig (Elt F) := StableHlo.after hostOps0 (V₀ m c)

/-- What each device is given. -/
def insOf (c : Dev nD) : Ins F where
  x := V₁ m c (Proc.devRef .tc main_arg0)
  wq := V₁ m c (Proc.devRef .tc main_arg1)
  k := V₁ m c (Proc.devRef .tc main_v2)
  v := V₁ m c (Proc.devRef .tc main_v4)
  wo := V₁ m c (Proc.devRef .tc main_arg4)

/-! ## Each window is its whole array -/

theorem zero_0 : (fun a => (win0_0.index t0_0) a * main_arg0.ty.shape.size a) = fun _ => 0 := funext fun a => by fin_cases a <;> decide
theorem iblk_0 (c : Dev nD) : iblk m c 0 t0_0 = (insOf m c).x :=
  show (win0_0.blk t0_0).view.read (Elt F) (V₁ m c (Proc.devRef .tc main_arg0)) = _ from
    Memref.read_access_unit_zero (Elt F) main_arg0 zero_0 (fun a => by fin_cases a <;> decide) _
theorem zero_1 : (fun a => (win0_1.index t0_0) a * main_arg1.ty.shape.size a) = fun _ => 0 := funext fun a => by fin_cases a <;> decide
theorem iblk_1 (c : Dev nD) : iblk m c 1 t0_0 = (insOf m c).wq :=
  show (win0_1.blk t0_0).view.read (Elt F) (V₁ m c (Proc.devRef .tc main_arg1)) = _ from
    Memref.read_access_unit_zero (Elt F) main_arg1 zero_1 (fun a => by fin_cases a <;> decide) _
theorem zero_2 : (fun a => (win0_2.index t0_0) a * main_v2.ty.shape.size a) = fun _ => 0 := funext fun a => by fin_cases a <;> decide
theorem iblk_2 (c : Dev nD) : iblk m c 2 t0_0 = (insOf m c).k :=
  show (win0_2.blk t0_0).view.read (Elt F) (V₁ m c (Proc.devRef .tc main_v2)) = _ from
    Memref.read_access_unit_zero (Elt F) main_v2 zero_2 (fun a => by fin_cases a <;> decide) _
theorem zero_3 : (fun a => (win0_3.index t0_0) a * main_v4.ty.shape.size a) = fun _ => 0 := funext fun a => by fin_cases a <;> decide
theorem iblk_3 (c : Dev nD) : iblk m c 3 t0_0 = (insOf m c).v :=
  show (win0_3.blk t0_0).view.read (Elt F) (V₁ m c (Proc.devRef .tc main_v4)) = _ from
    Memref.read_access_unit_zero (Elt F) main_v4 zero_3 (fun a => by fin_cases a <;> decide) _
theorem zero_4 : (fun a => (win0_4.index t0_0) a * main_arg4.ty.shape.size a) = fun _ => 0 := funext fun a => by fin_cases a <;> decide
theorem iblk_4 (c : Dev nD) : iblk m c 4 t0_0 = (insOf m c).wo :=
  show (win0_4.blk t0_0).view.read (Elt F) (V₁ m c (Proc.devRef .tc main_arg4)) = _ from
    Memref.read_access_unit_zero (Elt F) main_arg4 zero_4 (fun a => by fin_cases a <;> decide) _
theorem zero_5 : (fun a => (win0_5.index t0_0) a * main_v5.ty.shape.size a) = fun _ => 0 := funext fun a => by fin_cases a <;> decide
theorem write_5 (f g : S1x1024x1024.Idx → Elt F .f32) : (win0_5.blk t0_0).view.write (Elt F) f g Finset.univ = g :=
  Memref.write_access_unit_zero_univ (Elt F) main_v5 zero_5 (fun a => by fin_cases a <;> decide) _ _

/-! ## The run's data -/

/-- The values that travel in this run, and what the result holds at its end. -/
abbrev vs : Vals F := valsOf (insOf m)
abbrev V₂ (c : Dev nD) : Valuation τ sig (Elt F) := Function.update (V₁ m c) (Proc.devRef .tc main_v5) (OUT (insOf m) c)

/-- What a device holds when its kernel starts, but for the operands, the scratch buffers and what it owes. -/
def heldSt (c : Dev nD) : sProp 𝕄 :=
  iprop(∃ K, World (vs m) K ∗ tokens (F := F) c ∗ crs (F := F) c ∗ (pos (F := F) c (.reg ⟨0, by decide⟩) ∗ bigSep Finset.univ fun k : Fin 35 => pos (F := F) c (osem k)) ∗ reachedAll (F := F) c)

def dat0 (c : Dev nD) : Pipeline.Dat τ (Elt F) Unit ℕ UU ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => OUT (insOf m) c
  Φ t := if t.val = 0 then iprop(heldSt m c ∗ bufs (F := F) c ∗ ∃ r, prngReg c r)
    else iprop((semVal (barCell c) 0 ∗ Pipeline.ownSems0 osem c) ∗ bufs (F := F) c ∗ ∃ r, prngReg c r)
  q _ := fullShare
  owed t := if t.val = 0 then O₀ c else 0

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c
  | 0 => dat0 m

theorem owed_zero (c : Dev nD) : (pdats (F := F) m 0 c).owed 0 = O₀ c := by
  show (if ((0 : Fin (cfg0.N + 1)).val = 0) then O₀ c else 0) = O₀ c; exact if_pos rfl
theorem owed_first (c : Dev nD) : (dat0 (F := F) m c).owed t0_0.castSucc = O₀ c := by
  show (if (t0_0.castSucc : Fin (cfg0.N + 1)).val = 0 then O₀ c else 0) = O₀ c; exact if_pos rfl
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

theorem before_0 (c : Dev nD) (d) : (dat0 m c).before 0 t0_0 d = (insOf m c).x := by
  rw [← iblk_0]
  unfold Dat.before; rw [if_pos (fetch0_0 t0_0)]; unfold Dat.fetched Dat.blockOf iblk; dsimp only [dat0]; rfl
theorem before_1 (c : Dev nD) (d) : (dat0 m c).before 1 t0_0 d = (insOf m c).wq := by
  rw [← iblk_1]
  unfold Dat.before; rw [if_pos (fetch0_1 t0_0)]; unfold Dat.fetched Dat.blockOf iblk; dsimp only [dat0]; rfl
theorem before_2 (c : Dev nD) (d) : (dat0 m c).before 2 t0_0 d = (insOf m c).k := by
  rw [← iblk_2]
  unfold Dat.before; rw [if_pos (fetch0_2 t0_0)]; unfold Dat.fetched Dat.blockOf iblk; dsimp only [dat0]; rfl
theorem before_3 (c : Dev nD) (d) : (dat0 m c).before 3 t0_0 d = (insOf m c).v := by
  rw [← iblk_3]
  unfold Dat.before; rw [if_pos (fetch0_3 t0_0)]; unfold Dat.fetched Dat.blockOf iblk; dsimp only [dat0]; rfl
theorem before_4 (c : Dev nD) (d) : (dat0 m c).before 4 t0_0 d = (insOf m c).wo := by
  rw [← iblk_4]
  unfold Dat.before; rw [if_pos (fetch0_4 t0_0)]; unfold Dat.fetched Dat.blockOf iblk; dsimp only [dat0]; rfl

theorem owesAt_intro (c : Dev nD) (t : Fin (cfg0.N + 1)) (O : CellTallies nD τ sig Unit) (h0 : (dat0 m c).owed t = O) :
    owesE (F := F) c O ⊢ ((dat0 m c).owesAt () t : sProp 𝕄) := by
  unfold Dat.owesAt Pipeline.owesWithin Dat.bound owesE; rw [h0]
  iintro ⟨%W, HO⟩; iexists W; isplitr; · ipureintro; exact fun _ _ => Or.inl trivial
  iexact HO
theorem owesAt_elim (c : Dev nD) (t : Fin (cfg0.N + 1)) (O : CellTallies nD τ sig Unit) (h0 : (dat0 m c).owed t = O) :
    ((dat0 m c).owesAt () t : sProp 𝕄) ⊢ owesE (F := F) c O := by
  unfold Dat.owesAt Pipeline.owesWithin owesE; rw [h0]
  iintro ⟨%W, -, HO⟩; iexists W; iexact HO

end Cert.KernelIdeal.Fused

end
-- ==== Proof.Obl.lean ====
/-
  The kernel in its window: what the pipeline asks of its body.
-/
module

public import proofs.«01_k».proof.Proof.Data

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The kernel in its window -/

section Own
variable {s : Shape} {e : EltTy} (M : Memref sig .tc .vmem s e) (c : Dev nD)

theorem owns_has [∀ e, Nonempty (Elt F e)] (X : s.Idx → Elt F e) : (owns (c : Thread nD τ) M fullShare X : sProp 𝕄) ⊢ has M c fullShare X := by
  unfold owns has
  iintro ⟨%f, %h, H⟩
  iapply (pointsTo_rep_of_read (c : Thread nD τ) M f fullShare X h); iexact H
theorem has_owns [∀ e, Nonempty (Elt F e)] (X : s.Idx → Elt F e) : has M c fullShare X ⊢ (owns (c : Thread nD τ) M fullShare X : sProp 𝕄) := by
  unfold owns has
  iintro H
  iexists (M.view.rep X)
  isplitr; · ipureintro; exact View.read_rep _ _
  iexact H
theorem owns_holds (X : s.Idx → Elt F e) (f : Buf (Elt F) (M.view.loc (c : Thread nD τ))) (hr : ∀ g, M.view.read (Elt F) g = X → g = f) :
    (owns (c : Thread nD τ) M fullShare X : sProp 𝕄) ⊢ holds M c f := by
  unfold owns
  iintro ⟨%g, %h, H⟩
  obtain rfl := hr g h
  iexact H
theorem holds_owns (X : s.Idx → Elt F e) (f : Buf (Elt F) (M.view.loc (c : Thread nD τ))) (hr : M.view.read (Elt F) f = X) :
    holds M c f ⊢ (owns (c : Thread nD τ) M fullShare X : sProp 𝕄) := by
  unfold owns
  iintro H
  iexists f
  isplitr; · ipureintro; exact hr
  iexact H
end Own

theorem body0 [∀ e, Nonempty (Elt F e)] (c : Dev nD) : BodyObligation (dat0 (F := F) m c) defs₀ 𝒱₀ () Set.univ := fun t => by
  obtain rfl := fin_N0 t
  rw [bigSep_W0, bigSep_W0]
  rw [show (dat0 m c).Φ t0_0.castSucc = iprop(heldSt m c ∗ bufs (F := F) c ∗ ∃ r, prngReg c r) from rfl,
    show (dat0 m c).Φ t0_0.succ = iprop((semVal (barCell c) 0 ∗ Pipeline.ownSems0 osem c) ∗ bufs (F := F) c ∗ ∃ r, prngReg c r) from rfl]
  show _ ⊢ WP c (atArgs (cc0__fused_body (F := F))) _
  unfold heldSt
  iintro ⟨⟨⟨%K, #HW, Ht, Hc, Hp, Hr⟩, Hb, Hg⟩, HO, ⟨%d0, H0⟩, ⟨%d1, H1⟩, ⟨%d2, H2⟩, ⟨%d3, H3⟩, ⟨%d4, H4⟩, ⟨%d5, H5⟩⟩
  ihave HO := (owesAt_elim m c _ (O₀ c) (owed_first m c)) $$ HO
  ihave H0 := (owns_holds xM c _ (insOf m c).x (fun g h => h.trans (before_0 m c d0))) $$ H0
  ihave H1 := (owns_holds wqM c _ (insOf m c).wq (fun g h => h.trans (before_1 m c d1))) $$ H1
  ihave H2 := (owns_holds kM c _ (insOf m c).k (fun g h => h.trans (before_2 m c d2))) $$ H2
  ihave H3 := (owns_holds vM c _ (insOf m c).v (fun g h => h.trans (before_3 m c d3))) $$ H3
  ihave H4 := (owns_holds woM c _ (insOf m c).wo (fun g h => h.trans (before_4 m c d4))) $$ H4
  ihave H5 := (owns_has oM c _) $$ H5
  iapply wp_fupd
  iapply (body_run (insOf m) K c _ _)
  unfold StartSt insAt tokens
  isplitl [HO Ht Hc Hp Hr Hb]
  · isplitr; · iexact HW
    isplitl [HO]; · iexact HO
    isplitl [Ht]; · iexact Ht
    isplitl [Hc]; · iexact Hc
    isplitl [Hp]; · iexact Hp
    isplitl [Hr] <;> iassumption
  isplitl [H0 H1 H2 H3 H4]
  · isplitl [H0]; · iexact H0
    isplitl [H1]; · iexact H1
    isplitl [H2]; · iexact H2
    isplitl [H3] <;> iassumption
  isplitl [H5]; · iexact H5
  unfold DoneSt
  iintro ⟨⟨HO, Hf, Hb⟩, ⟨H0, H1, H2, H3, H4⟩, H5⟩
  imod (close_all (vs m) K c) $$ [Hf] with Hs
  · isplitr; · iexact HW
    iexact Hf
  imodintro
  isplitl [Hs Hb Hg]
  · isplitl [Hs]; · iexact Hs
    isplitl [Hb] <;> iassumption
  isplitl [HO]; · iapply (owesAt_intro m c t0_0.succ 0 (owed_last m c)); iexact HO
  isplitl [H0]; · iapply (holds_owns xM c _ (insOf m c).x (iblk_0 m c).symm); iexact H0
  isplitl [H1]; · iapply (holds_owns wqM c _ (insOf m c).wq (iblk_1 m c).symm); iexact H1
  isplitl [H2]; · iapply (holds_owns kM c _ (insOf m c).k (iblk_2 m c).symm); iexact H2
  isplitl [H3]; · iapply (holds_owns vM c _ (insOf m c).v (iblk_3 m c).symm); iexact H3
  isplitl [H4]; · iapply (holds_owns woM c _ (insOf m c).wo (iblk_4 m c).symm); iexact H4
  iapply (has_owns oM c _); iexact H5

end Cert.KernelIdeal.Fused

end
-- ==== Proof.Region.lean ====
/-
  The two stretches of the program, the host's reshapes and the kernel, in the shape the launch wants them.
-/
module

public import proofs.«01_k».proof.Proof.Obl

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The two stretches of the program: the reshapes, and the kernel -/

theorem rest_bufs (c : Dev nD) : (Pipeline.scopedRest (Ix := Unit) (Name := ℕ) (U := UU) (Lvl := ℕ) (Val := Elt F) spec0 c : sProp 𝕄) = bufs (F := F) c := by
  rw [scopedRest0_eq]
  unfold bufs hasAny
  simp only [Memref.whole, View.set_whole]

/-- What the launch keeps for the kernel. -/
def Tk (c : Dev nD) : sProp 𝕄 :=
  iprop(∃ K, World (vs m) K ∗ (bigSep Finset.univ fun k : Fin 35 => openTok ER (((c : Thread nD τ), osem k) : GSem nD τ sig)) ∗ tokens (F := F) c ∗ crs (F := F) c
    ∗ pos (F := F) c (.reg ⟨0, by decide⟩))
def Yk (c : Dev nD) : sProp 𝕄 := semVal (barCell c) 0

theorem hopen (c : Dev nD) : iprop(Tk m c ∗ Pipeline.ownSems0 osem c ∗ levAts L lv) ⊢ (|={Set.univ}=> heldSt m c : sProp 𝕄) := by
  unfold Tk heldSt
  iintro ⟨⟨%K, #HW, Ho, Ht, Hc, Hp⟩, Hs, -⟩
  imod (open_all (vs m) K c) $$ [Ho Hs] with ⟨Hq, Hr⟩
  · isplitr; · iexact HW
    isplitl [Ho] <;> iassumption
  imodintro
  iexists K
  isplitr; · iexact HW
  isplitl [Ht]; · iexact Ht
  isplitl [Hc]; · iexact Hc
  isplitl [Hp Hq]; · isplitl [Hp] <;> iassumption
  iexact Hr

abbrev aRefs : Finset (DevRef τ sig) := Pipeline.arrRefs (τ := τ) (pcfgs (F := F) 0).spec
abbrev sRefs : Finset (DevRef τ sig) := Pipeline.ucRefs τ sig \ aRefs (F := F)
theorem aRefs_sub : aRefs (F := F) ⊆ Pipeline.ucRefs τ sig := Pipeline.arrRefs_sub_ucRefs _ (by decide : ∀ w : Fin 6, (Pipeline.arrRef spec0 w).isScoped = false)

theorem held_none (c : Dev nD) (W : Valuation τ sig (Elt F)) : (StableHlo.held (c.tc : Thread nD τ) ∅ W : sProp 𝕄) = BI.emp := by
  unfold StableHlo.held; exact BI.bigSep_empty

theorem hin (c : Dev nD) : iprop(Pipeline.scopedRest (Pipeline.pin (pcfgs (F := F)) adm 0).spec c ∗ (∃ r, prngReg c r) ∗ StableHlo.held (c.tc : Thread nD τ) ∅ (V₁ m c) ∗ heldSt m c)
    ⊢ (pdats m 0 c).Φ 0 := by
  rw [show (pdats m 0 c).Φ 0 = iprop(heldSt m c ∗ bufs (F := F) c ∗ ∃ r, prngReg c r) from rfl,
    show Pipeline.scopedRest (Ix := Unit) (Name := ℕ) (U := UU) (Lvl := ℕ) (Val := Elt F) (Pipeline.pin (pcfgs (F := F)) adm 0).spec c = bufs (F := F) c from rest_bufs c]
  iintro ⟨Hb, Hp, -, HX⟩
  isplitl [HX]; · iexact HX
  isplitl [Hb] <;> iassumption
theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c) ∗ Pipeline.ownSems0 osem c ∗ Yk c) := by
  rw [show (pdats m 0 c).Φ (Fin.last _) = iprop((semVal (barCell c) 0 ∗ Pipeline.ownSems0 osem c) ∗ bufs (F := F) c ∗ ∃ r, prngReg c r) from rfl,
    show Pipeline.scopedRest (Ix := Unit) (Name := ℕ) (U := UU) (Lvl := ℕ) (Val := Elt F) (Pipeline.pin (pcfgs (F := F)) adm 0).spec c = bufs (F := F) c from rest_bufs c, held_none]
  unfold Yk
  iintro ⟨⟨Hb0, Hs⟩, Hb, Hp⟩
  isplitl [Hb]; · iexact Hb
  isplitl [Hp]; · iexact Hp
  isplitr; · iempintro
  isplitl [Hs] <;> iassumption

/-- What a device owes sits above the staging cells. -/
theorem above_O₀ (c : Dev nD) : Above 0 (O₀ c) := by
  rw [O₀_sum]
  refine Above.sum _ _ fun k _ => ?_
  unfold T
  refine Above.sum _ _ fun p _ => ?_
  split
  · exact Above.tally p _ _ ((by decide : ∀ k : Fin 19, 0 < lev (paidSem k)) k)
  · exact Above.zero 0

theorem cutD (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · obtain ⟨h1, h2⟩ := above_O₀ c g i h
    exact ⟨by unfold L; rw [if_pos h1]; exact Finset.mem_singleton_self _, h2⟩
  · exact absurd h (Nat.lt_irrefl 0)

theorem stage_low : ∀ (w : Fin 6) (s : Fin (spec0 w).nbuf), lev (.dma ((spec0 w).sem s)) ≤ 0 := by decide

theorem kitP : Pipeline.PLaunchFacts (nD := nD) (τ := τ) (pcfgs (F := F)) 0 := launch0.toP

theorem hW (c : Dev nD) (w : Fin 6) : (pdats m 0 c).arrAt w 0 = V₁ m c (Proc.devRef .tc (Pipeline.arrRef (Pipeline.pin (pcfgs (F := F)) adm 0).spec w)) := rfl

theorem out_at (c : Dev nD) : (dat0 m c).arrAt 5 1 = OUT (insOf m) c := by
  unfold Dat.arrAt
  refine (dif_pos (show 0 < cfg0.N by decide)).trans ((if_pos (flush0_5 _)).trans ?_)
  exact write_5 _ _

theorem V₂_ne (c : Dev nD) (b : Ref sig .tc) (h : (Proc.devRef .tc b : DevRef τ sig) ≠ Proc.devRef .tc main_v5) : V₂ m c (Proc.devRef .tc b) = V₁ m c (Proc.devRef .tc b) :=
  Function.update_of_ne h ..
theorem V₂_out (c : Dev nD) : V₂ m c (Proc.devRef .tc main_v5) = OUT (insOf m) c := Function.update_self ..

theorem hW' (c : Dev nD) (w : Fin 6) : (pdats m 0 c).arrAt w (Pipeline.pin (pcfgs (F := F)) adm 0).N
    = V₂ m c (Proc.devRef .tc (Pipeline.arrRef (Pipeline.pin (pcfgs (F := F)) adm 0).spec w)) := by
  match w with
  | 0 => exact ((dat0 m c).arrAt_in 0 rfl _).trans (V₂_ne m c main_arg0 (by decide)).symm
  | 1 => exact ((dat0 m c).arrAt_in 1 rfl _).trans (V₂_ne m c main_arg1 (by decide)).symm
  | 2 => exact ((dat0 m c).arrAt_in 2 rfl _).trans (V₂_ne m c main_v2 (by decide)).symm
  | 3 => exact ((dat0 m c).arrAt_in 3 rfl _).trans (V₂_ne m c main_v4 (by decide)).symm
  | 4 => exact ((dat0 m c).arrAt_in 4 rfl _).trans (V₂_ne m c main_arg4 (by decide)).symm
  | 5 =>
    rw [show (Pipeline.pin (pcfgs (F := F)) adm 0).N = 1 from N_0]
    exact (out_at m c).trans (V₂_out m c).symm

theorem hshare (c : Dev nD) (w : Fin 6) : (pdats m 0 c).share w = fullShare := by
  unfold Dat.share; exact ite_self _

theorem hrest (c : Dev nD) : ∀ b ∈ sRefs (F := F) \ ∅, V₂ m c b = V₁ m c b := fun b hb => by
  refine Function.update_of_ne (fun h => ?_) ..
  subst h
  refine (Finset.mem_sdiff.mp (Finset.mem_sdiff.mp hb).1).2 ?_
  exact Finset.mem_map_of_mem _ (Finset.mem_image.mpr ⟨5, Finset.mem_univ _, rfl⟩)

set_option backward.isDefEq.respectTransparency.types false in
/-- The kernel's stretch. -/
def reg [∀ e, Nonempty (Elt F e)] : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ (sRefs (F := F)) (Finset.empty_subset _) kitP rfl (fun c => (body0 m c).loose)
    (fun _ => 0) O₀ (fun c => (owed_zero m c).trans (zero_add _).symm) (owed_last m) (fun _ => rfl) (hshare m)
    (V₁ m) (V₂ m) (hrest m) (Tk m) Yk (heldSt m) Yk (hopen m) (hin m) (hout m)
    (fun c => by iintro H; imodintro; iexact H)
    (fun _ => 0)
    ⟨fun c w s => by rw [L_tc]; exact Finset.mem_singleton_self _, fun c w s => stage_low w s, fun c t g i h => cutD m c t g i h⟩
    (fun _ => iprop(emp)) (hW m) (hW' m)

/-- What rides beside the buffers to the kernel. -/
def R (c : Dev nD) : sProp 𝕄 := iprop((Tk m c ∗ ∃ r, prngReg c r) ∗ owesE (F := F) c (O₀ c))

/-- The reshapes' stretch. -/
def seg0 : Pipeline.HostSeg (Name := ℕ) (U := UU) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) (fun op h => (List.forall_iff_forall_mem.mp hostOps0_fresh) op h) (V₀ m) (R m)

theorem reg_pre [∀ e, Nonempty (Elt F e)] (c : Dev nD) : iprop(StableHlo.held (c : Thread nD τ) (Pipeline.ucRefs τ sig) (V₁ m c) ∗ R m c) ⊢ (reg m).pre c := by
  show _ ⊢ iprop(StableHlo.held (c.tc : Thread nD τ) (aRefs (F := F)) (V₁ m c) ∗ (∃ r, prngReg c r)
    ∗ (StableHlo.held (c.tc : Thread nD τ) (sRefs (F := F)) (V₁ m c) ∗ emp) ∗ Tk m c ∗ ∃ Wd, owes (c : Thread nD τ) (0 + O₀ c) Wd)
  rw [zero_add, StableHlo.held_sub_split (c.tc : Thread nD τ) (aRefs_sub (F := F)) (V₁ m c)]
  unfold R owesE
  iintro ⟨⟨Ha, Hs⟩, ⟨HT, Hp⟩, HO⟩
  isplitl [Ha]; · iexact Ha
  isplitl [Hp]; · iexact Hp
  isplitl [Hs]
  · isplitl [Hs]; · iexact Hs
    iempintro
  isplitl [HT] <;> iassumption

theorem reg_post [∀ e, Nonempty (Elt F e)] (c : Dev nD) : (reg m).post c
    ⊢ iprop((StableHlo.held (c : Thread nD τ) (Pipeline.ucRefs τ sig) (V₂ m c) ∗ semVal (barCell c) 0) ∗ ∃ W, owes (c : Thread nD τ) (0 : CellTallies nD τ sig Unit) W) := by
  show iprop(StableHlo.held (c.tc : Thread nD τ) (aRefs (F := F)) (V₂ m c) ∗ (∃ r, prngReg c r)
    ∗ (StableHlo.held (c.tc : Thread nD τ) (sRefs (F := F)) (V₂ m c) ∗ emp) ∗ Yk c ∗ ∃ Wd, owes (c : Thread nD τ) (0 : CellTallies nD τ sig Unit) Wd) ⊢ _
  rw [StableHlo.held_sub_split (c.tc : Thread nD τ) (aRefs_sub (F := F)) (V₂ m c)]
  unfold Yk
  iintro ⟨Ha, -, ⟨Hs, -⟩, Hb, HO⟩
  isplitr [HO]
  · isplitl [Ha Hs]; · isplitl [Ha] <;> iassumption
    iexact Hb
  iexact HO

end Cert.KernelIdeal.Fused

end
-- ==== Proof.Run.lean ====
/-
  The launch: the ghost state dealt out, and the run of the whole program.
-/
module

public import proofs.«01_k».proof.Proof.Region

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem sems_eq (c : Dev nD) : (unscopedSems0 c : sProp 𝕄) = semVal (barCell c) 0 := by
  unfold unscopedSems0
  rw [show (Finset.univ.filter fun sm : SemLoc sig => ¬ sm.isScoped .tc) = {SemLoc.reg ⟨0, by decide⟩} from by decide, BI.bigSep_singleton]
theorem only_bar : ∀ sm : SemLoc sig, sm.isScoped .tc = false → sm = .reg ⟨0, by decide⟩ := by decide

/-- The ghost state the run starts from: the pipelines', and the rounds of the protocol's cells with all their tokens. -/
def u₀ : UU :=
  (initOf (Pipeline.cells (Pipeline.pin (pcfgs (F := F)) adm) cellOf_inj) (Pipeline.launchToks (Pipeline.pin (pcfgs (F := F)) adm) cellOf_inj),
    launchOf barCells scCells toks)

/-- The protocol's share of it, kept by one device until all the devices deal it out. -/
def G (c : Dev nD) : sProp 𝕄 := if c = 0 then BI.own (ER (launchOf barCells scCells toks)) else iprop(emp)
theorem all_G : bigSep Finset.univ (G (F := F)) = (BI.own (ER (launchOf barCells scCells toks)) : sProp 𝕄) := by
  rw [bigSep_univ_at _ 0, bigSep_congr (s := Finset.univ.erase 0) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

abbrev T₀ (c : Dev nD) : sProp 𝕄 := iprop(StableHlo.held (c : Thread nD τ) (Pipeline.ucRefs τ sig) (V₀ m c) ∗ R m c)
abbrev Tₙ (c : Dev nD) : sProp 𝕄 := iprop(StableHlo.held (c : Thread nD τ) (Pipeline.ucRefs τ sig) (V₂ m c) ∗ semVal (barCell c) 0)

/-- What a device gets of its own. -/
def share (c : Dev nD) : sProp 𝕄 :=
  iprop(StableHlo.held (c : Thread nD τ) (Pipeline.ucRefs τ sig) (V₀ m c) ∗ crs (F := F) c ∗ owes (c : Thread nD τ) (O₀ c) ∅ ∗ ∃ r, prngReg c r)
/-- Its part of the protocol: its place on its barrier, the rights to open its other cells, its tokens. -/
def part (c : Dev nD) : sProp 𝕄 :=
  iprop(atPos ER (barCell c) 0 ∅ 0 ∗ (bigSep Finset.univ fun k : Fin 35 => openTok ER (((c : Thread nD τ), osem k) : GSem nD τ sig)) ∗ tokens (F := F) c)

theorem start_of (K : GSem nD τ sig → ℕ) (c : Dev nD) : iprop(World (vs m) K ∗ (part c ∗ share m c)) ⊢ T₀ m c := by
  unfold part share T₀ R Tk owesE
  iintro ⟨#HW, ⟨Hp, Ho, Ht⟩, Hh, Hc, HO, Hr⟩
  isplitl [Hh]; · iexact Hh
  isplitr [HO]
  · isplitr [Hr]
    · iexists K
      isplitr; · iexact HW
      isplitl [Ho]; · iexact Ho
      isplitl [Ht]; · iexact Ht
      isplitl [Hc]; · iexact Hc
      unfold pos
      iexact Hp
    iexact Hr
  iexists ∅; iexact HO

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(share m c ∗ (semVal (barCell c) 0 ∗ G c)) : sProp 𝕄) := by
    rw [show unscopedBufs c (fun b => m ((c : Thread nD τ).loc b)) = StableHlo.held (c : Thread nD τ) (Pipeline.ucRefs τ sig) (V₀ m c) from
      Pipeline.unscopedBufs_held c (V₀ m c), sems_eq]
    unfold share
    iintro ⟨Hh, Hus, HO, Hcr, Hp, HG⟩
    isplitr [Hus HG]
    · isplitl [Hh]; · iexact Hh
      isplitl [Hcr]; · iapply (creds (F := F) c) $$ Hcr
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have ho : bigSep scCells (fun g => (openTok ER g : sProp 𝕄))
      ⊢ bigSep Finset.univ (fun c : Dev nD => (bigSep Finset.univ fun k : Fin 35 => openTok ER (((c : Thread nD τ), osem k) : GSem nD τ sig) : sProp 𝕄)) :=
    Entails.of_eq (by rw [scCells, bigSep_map, bigSep_univ_prod]; rfl)
  iintro ⟨H, #Hlev⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(share m c ∗ (semVal (barCell c) 0 ∗ G c)) : sProp 𝕄) from bigSep_mono fun c _ => hcore c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (Entails.of_eq (all_G (F := F))) $$ HG
  imod (Rounds.fund_launch ER (Rd (vs m)) disjoint_cells (fun g _ h => h) toks) $$ [Hv Hu] with ⟨%κ, -, #Hinv, #Hr, Hat, Hopen, Htok⟩
  · isplitl [Hv]
    · iapply hv $$ Hv
    · iexact Hu
  imodintro
  iapply (bigSep_with_persistent (R := World (vs m) κ) (Φ := fun c => iprop(part c ∗ share m c)) fun c _ => start_of m κ c)
  isplitr
  · unfold World
    isplitr; · iexact Hinv
    isplitr; · iexact Hr
    iexact Hlev
  iapply (Entails.of_eq (bigSep_sep' _ _ _).symm)
  isplitr [HB]
  · unfold part
    iapply (Entails.of_eq (bigSep_sep' _ _ _).symm); isplitl [Hat]; · iapply hat $$ Hat
    iapply (Entails.of_eq (bigSep_sep' _ _ _).symm); isplitl [Hopen]; · iapply ho $$ Hopen
    iapply (Entails.of_eq (toks_eq (F := F))) $$ Htok
  · iexact HB

/-! ## The run -/

/-- The two stretches in order. -/
def segs [∀ e, Nonempty (Elt F e)] : List (Pipeline.Seg (pcfgs (F := F)) adm (pdats m) () defs₀ 𝒱₀ L lv) := [.host (seg0 m), .region (reg m)]

theorem main_eq [∀ e, Nonempty (Elt F e)] (c : Dev nD) : main (F := F) c = Pipeline.Seg.run (segs m) :=
  main_segs adm (pdats m) () 𝒱₀ L lv (seg0 m) (reg m) rfl c

/-- The host program's arrays. -/
abbrev hostRefs : List (DevRef τ sig) :=
  [Proc.devRef .tc main_arg0, Proc.devRef .tc main_arg1, Proc.devRef .tc main_arg2, Proc.devRef .tc main_arg3, Proc.devRef .tc main_arg4,
    Proc.devRef .tc main_v5, Proc.devRef .tc main_v1, Proc.devRef .tc main_v2, Proc.devRef .tc main_v3, Proc.devRef .tc main_v4]

/-- The arrays of the host program, one after another. -/
theorem held_all (c : Dev nD) (W : Valuation τ sig (Elt F)) :
    (StableHlo.held (c : Thread nD τ) (Pipeline.ucRefs τ sig) W : sProp 𝕄)
      = iprop((((c : Thread nD τ).loc main_arg0) ↦{fullShare} W (Proc.devRef .tc main_arg0)) ∗ (((c : Thread nD τ).loc main_arg1) ↦{fullShare} W (Proc.devRef .tc main_arg1))
        ∗ (((c : Thread nD τ).loc main_arg2) ↦{fullShare} W (Proc.devRef .tc main_arg2)) ∗ (((c : Thread nD τ).loc main_arg3) ↦{fullShare} W (Proc.devRef .tc main_arg3))
        ∗ (((c : Thread nD τ).loc main_arg4) ↦{fullShare} W (Proc.devRef .tc main_arg4)) ∗ (((c : Thread nD τ).loc main_v5) ↦{fullShare} W (Proc.devRef .tc main_v5))
        ∗ (((c : Thread nD τ).loc main_v1) ↦{fullShare} W (Proc.devRef .tc main_v1)) ∗ (((c : Thread nD τ).loc main_v2) ↦{fullShare} W (Proc.devRef .tc main_v2))
        ∗ (((c : Thread nD τ).loc main_v3) ↦{fullShare} W (Proc.devRef .tc main_v3)) ∗ (((c : Thread nD τ).loc main_v4) ↦{fullShare} W (Proc.devRef .tc main_v4))) :=
  bigSep_eq_bigSepL_of_eq (S := Pipeline.ucRefs τ sig) hostRefs (by decide) (by decide) (fun b => ((c : Dev nD), b) ↦{fullShare} W b)

/-- What a final state shows of device `c`. -/
def Shows (c : Dev nD) (s : MemSt nD τ sig (Elt F)) : Prop :=
  s.mem ((c : Thread nD τ).loc main_v5) = V₂ m c (Proc.devRef .tc main_v5) ∧ s.mem ((c : Thread nD τ).loc main_arg0) = V₂ m c (Proc.devRef .tc main_arg0)
    ∧ s.mem ((c : Thread nD τ).loc main_arg1) = V₂ m c (Proc.devRef .tc main_arg1) ∧ s.mem ((c : Thread nD τ).loc main_arg2) = V₂ m c (Proc.devRef .tc main_arg2)
    ∧ s.mem ((c : Thread nD τ).loc main_arg3) = V₂ m c (Proc.devRef .tc main_arg3) ∧ s.mem ((c : Thread nD τ).loc main_arg4) = V₂ m c (Proc.devRef .tc main_arg4)
    ∧ s.sem (barCell c) = 0

set_option backward.isDefEq.respectTransparency.types false in
/-- Every run of the program ends with the result array of each device holding `OUT`, its arguments as they were, and all counters zero. -/
theorem run_main [∀ e, Nonempty (Elt F e)] : θ_run defs (onTc (τ := τ) (main (F := F))) (s₀ m ρ)
    (fun r => (∀ c : Dev nD, r.2.mem ((c : Thread nD τ).loc main_v5) = OUT (insOf m) c
        ∧ r.2.mem ((c : Thread nD τ).loc main_arg0) = m ((c : Thread nD τ).loc main_arg0) ∧ r.2.mem ((c : Thread nD τ).loc main_arg1) = m ((c : Thread nD τ).loc main_arg1)
        ∧ r.2.mem ((c : Thread nD τ).loc main_arg2) = m ((c : Thread nD τ).loc main_arg2) ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [all_G]; iexact HX)
    (T₀ := T₀ m) (Tₙ := Tₙ m)
    (hch := ⟨fun c => .rfl, fun c => reg_pre m c, fun c => reg_post m c⟩)
    (hinit := init m ρ)
    (QY := Shows m)
    (hfin := fun c s' => by
      dsimp only [Tₙ]; rw [held_all]
      iintro ⟨⟨⟨H0, H1, H2, H3, H4, H5, -⟩, Hb0⟩, HSI⟩
      icombine HSI H0 gives %h0
      icombine HSI H1 gives %h1
      icombine HSI H2 gives %h2
      icombine HSI H3 gives %h3
      icombine HSI H4 gives %h4
      icombine HSI H5 gives %h5
      icombine HSI Hb0 gives %hb
      imodintro
      isplitr
      · ipureintro
        exact ⟨Buf.eq_of_forall_mem_univ h5, Buf.eq_of_forall_mem_univ h0, Buf.eq_of_forall_mem_univ h1, Buf.eq_of_forall_mem_univ h2, Buf.eq_of_forall_mem_univ h3,
          Buf.eq_of_forall_mem_univ h4, by simpa using hb⟩
      iexact HSI)
    (hQ := fun s h hs => ⟨fun c => by
        obtain ⟨h5, h0, h1, h2, h3, h4, -⟩ := h c
        rw [V₂_out] at h5
        rw [V₂_ne m c main_arg0 (by decide)] at h0
        rw [V₂_ne m c main_arg1 (by decide)] at h1
        rw [V₂_ne m c main_arg2 (by decide)] at h2
        rw [V₂_ne m c main_arg3 (by decide)] at h3
        rw [V₂_ne m c main_arg4 (by decide)] at h4
        exact ⟨h5, h0.trans (V_main_arg0 m c), h1.trans (V_main_arg1 m c), h2.trans (V_main_arg2 m c), h3.trans (V_main_arg3 m c), h4.trans (V_main_arg4 m c)⟩,
      sem_eq_zero hs fun c sm hsm => by
        obtain rfl := only_bar sm hsm
        exact (h c).2.2.2.2.2.2⟩)

end Cert.KernelIdeal.Fused

end
-- ==== Proof.Frames.lean ====
/- The frames of the three programs, and the two that hold under the precondition. -/
module

public import proofs.«01_k».proof.Defs
public import proofs.«01_k».proof.Proof.Run
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal

@[expose] public section

noncomputable section

namespace Cert.Proof

open Idealize.ShloMosaic Idealize.SL.Sem

instance someBits (e : EltTy) : Nonempty (Elt Bits e) := by cases e <;> exact ⟨default⟩
instance someIdeal (e : EltTy) : Nonempty (Elt Ideal e) := by cases e <;> exact ⟨default⟩

open Cert.KernelIdeal in
/-- The run without what it computes: it ends, its arguments as they were, every counter at zero. -/
theorem frame_any {F : FTy → Type} [FloatOps F] [∀ e, Nonempty (Elt F e)] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run (defs (F := F)) _ _).mono (fun _ h => ⟨fun c => (h.1 c).2, h.2⟩) (Fused.run_main (F := F) m ρ)

/-- The two printed programs' kernel bodies are the same text. -/
theorem bodies_same : (Cert.Kernel.defs₀ (F := Bits)) = (Cert.KernelIdeal.defs₀ (F := Bits)) := by
  unfold Cert.Kernel.defs₀ Cert.KernelIdeal.defs₀
  refine congrArg (Defs.onTc (nD := Cert.KernelIdeal.nD) (τ := Cert.KernelIdeal.τ) (sig := Cert.KernelIdeal.sig) (Λ := Cert.KernelIdeal.Λ₀)) ?_
  funext l x
  match l, x with
  | 0, (t, s) =>
    show Cert.Kernel.cc0__fused_body (F := Bits) _ _ _ _ _ _ _ _ _ _ _ _ _ _ _ _ _ _ _ _ _ _ _ _ _ _ _ _ _ _ _ _ _ _ _ = Cert.KernelIdeal.cc0__fused_body (F := Bits) _ _ _ _ _ _ _ _ _ _ _ _ _ _ _ _ _ _ _ _ _ _ _ _ _ _ _ _ _ _ _ _ _ _ _
    rfl
theorem tables_same : (Cert.Kernel.defs (F := Bits)) = (Cert.KernelIdeal.defs (F := Bits)) :=
  congrArg (fun d => Pipeline.defs (nD := Cert.KernelIdeal.nD) (τ := Cert.KernelIdeal.τ) (Cert.KernelIdeal.pcfgs (F := Bits)) d) bodies_same

/-- The kernel at the machine's words: the same program text. -/
theorem frame_kernel : Cert.quiescent_Kernel := fun m ρ _ =>
  (congrArg (fun D => (θ_run D (onTc (τ := Cert.Kernel.τ) (Cert.Kernel.main (F := Bits))) ⟨m, fun _ => 0, ρ⟩) (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)) tables_same).mpr (frame_any (F := Bits) m ρ)

/-- The kernel over the extended reals. -/
theorem frame_ideal : Cert.quiescent_KernelIdeal := fun m ρ _ => frame_any (F := Ideal) m ρ

theorem frame_ideal_pre : Cert.quiescent_KernelIdeal_pre_finite_KernelIdeal := fun m ρ _ => frame_ideal m ρ trivial

/-- The reference has no semaphore at all. -/
theorem frame_reference : Cert.quiescent_ReferenceIdeal := fun m ρ _ =>
  (θ_run (Cert.ReferenceIdeal.defs (F := Ideal)) _ _).mono (fun _ h => ⟨fun c => (h c).2, sem_eq_zero_of_no_sems (by decide) _⟩)
    (Cert.ReferenceIdeal.Value.run (F := Ideal) m ρ)
theorem frame_reference_pre : Cert.quiescent_ReferenceIdeal_pre_finite_ReferenceIdeal := fun m ρ _ => frame_reference m ρ trivial

end Cert.Proof

end
-- ==== Proof.Read.lean ====
/-
  The pieces of a block's arithmetic, read at an index as sums of extended reals.
-/
module

public import Idealize.ShloMosaic.Lib.Pointwise
public import Idealize.ShloMosaic.Lib.Pointwise.IndexVar
public import proofs.«01_k».proof.Proof.Tiles
public import Idealize.ShloMosaic.Lib.MatmulPlain
public import Idealize.ShloMosaic.Lib.ValueLayoutCasts
public import Idealize.ShloMosaic.Lib.ValueLayout

@[expose] public section

set_option maxRecDepth 16384

noncomputable section

namespace Cert.KernelIdeal.Fused

open Idealize.ShloMosaic Idealize.ShloMosaic.TcCoe
open Cert.KernelIdeal Cert.KernelIdeal.Gen
open scoped BigOperators

/-! ## Reading the pieces of a block at an index -/

/-- The literal by which the products are scaled. -/
def scl : EReal := Ideal.ofBits .f32 0x3DB504F3#32

theorem win_at (f : Mat Ideal 1024 1024) (a b m n : ℕ) (ha : a + m ≤ 1024) (hb : b + n ≤ 1024) (i : Fin m) (j : Fin n) :
    win f a b m n ha hb (ix2 i j) = f (ix2 ⟨a + i.val, by omega⟩ ⟨b + j.val, by omega⟩) := by
  refine congrArg f (funext fun x => Fin.ext ?_)
  match x with
  | ⟨0, _⟩ => show a + 1 * _ = a + _; exact congrArg (a + ·) (Nat.one_mul _)
  | ⟨1, _⟩ => show b + 1 * _ = b + _; exact congrArg (b + ·) (Nat.one_mul _)

theorem rows_at (f : S1x1024x1024.Idx → Elt Ideal .f32) (a m : ℕ) (ha : a + m ≤ 1024) (i : Fin m) (j : Fin 1024) :
    rows f a m ha (ix3 0 i j) = f (ix3 0 ⟨a + i.val, by omega⟩ j) := by
  refine congrArg f (funext fun x => Fin.ext ?_)
  match x with
  | ⟨0, _⟩ => rfl
  | ⟨1, _⟩ => show a + 1 * _ = a + _; exact congrArg (a + ·) (Nat.one_mul _)
  | ⟨2, _⟩ => show 0 + 1 * _ = _; exact (Nat.zero_add _).trans (Nat.one_mul _)

theorem cast_one_at {m : ℕ} (x : (Sh1 m 1024).Idx → Elt Ideal .f32) (i : Fin m) (j : Fin 1024) :
    shapeCast (Sh m 1024) x (cast_one m 1024) (ix2 i j) = x (ix3 0 i j) :=
  ValueIdx.shapeCast_1ab_ab_apply x (cast_one m 1024) i j

theorem proj_at {m : ℕ} (x : (Sh1 m 1024).Idx → Elt Ideal .f32) (w : Mat Ideal 1024 1024) (i : Fin m) (c : Fin 1024) :
    proj x w (ix2 i c) = ∑ d : Fin 1024, x (ix3 0 i d) * w (ix2 d c) := by
  refine (by pointwise [proj] : _ = ∑ d : Fin 1024, shapeCast (Sh m 1024) x (cast_one m 1024) (ix2 i d) * w (ix2 d c)).trans ?_
  exact Finset.sum_congr rfl fun d _ => congrArg (· * _) (cast_one_at x i d)

theorem expW_at {m n : ℕ} (q : Mat Ideal m 128) (k : Mat Ideal n 128) (i : Fin m) (j : Fin n) :
    expW q k (ix2 i j) = Ideal.exp ((∑ c : Fin 128, q (ix2 i c) * k (ix2 j c)) * scl) := by
  pointwise [expW, scl]

theorem numW_at {m n : ℕ} (w : Mat Ideal m n) (v : Mat Ideal n 128) (i : Fin m) (c : Fin 128) :
    numW w v (ix2 i c) = ∑ j : Fin n, w (ix2 i j) * v (ix2 j c) := by
  refine (Ideal.matmul_plain_apply none w _ _ i c).trans ?_
  refine (congrArg (· + _) Ideal.ofBits_zero_f32).trans ((zero_add _).trans ?_)
  exact Finset.sum_congr rfl fun j _ => congrArg (w (ix2 i j) * ·) (congrFun (shapeCast_self v _) (ix2 j c))

theorem denW_at {m n : ℕ} (w : Mat Ideal m n) (i : Fin m) :
    denW w (ix2 i 0) = ∑ j : Fin n, w (ix2 i j) := by
  refine (ValueIdx.shapeCast_a_a1_apply _ (cast_col m) i 0).trans ?_
  change multiReduction (F := Ideal) (φ := .f32) .add [1] ⟨1, ![m]⟩ w 0x00000000#32 (reduces_row m n) (.inl rfl) rfl (ix1 i) = _
  pointwise

theorem headOf_at {m : ℕ} (q : Mat Ideal m 1024) (h : Fin 8) (i : Fin m) (c : Fin 128) :
    headOf q h (ix2 i c) = q (ix2 i ⟨h.val * 128 + c.val, by omega⟩) := by
  pointwise [headOf]

end Cert.KernelIdeal.Fused

end
-- ==== Proof.Mask.lean ====
/-
  The masks read at an index: which keys a query sees.
-/
module

public import Idealize.ShloMosaic.Lib.Pointwise
public import Idealize.ShloMosaic.Lib.Pointwise.IndexVar
public import proofs.«01_k».proof.Proof.Read
public import Idealize.ShloMosaic.Lib.WordArith

@[expose] public section

set_option maxRecDepth 16384

noncomputable section

namespace Cert.KernelIdeal.Fused

open Idealize.ShloMosaic Idealize.ShloMosaic.TcCoe
open Cert.KernelIdeal Cert.KernelIdeal.Gen
open scoped BigOperators

/-! ## The masks -/

/-- Query and key at most 128 apart. -/
def Near (p q : ℕ) : Prop := p ≤ q + 128 ∧ q ≤ p + 128
/-- What a query sees: the keys near it and the first 32; the first 32 queries see all. -/
def Seen (p q : ℕ) : Prop := Near p q ∨ q < 32 ∨ p < 32

instance (p q : ℕ) : Decidable (Near p q) := inferInstanceAs (Decidable (_ ∧ _))
instance (p q : ℕ) : Decidable (Seen p q) := inferInstanceAs (Decidable (_ ∨ _ ∨ _))

theorem word_near (p q : ℕ) (hp : p < 2 ^ 20) (hq : q < 2 ^ 20) :
    IntOp.cmpi .sle (IntOp.absi (IntOp.subi (BitVec.ofNat 32 p) (BitVec.ofNat 32 q))) 128#32 = BitVec.ofBool (decide (Near p q)) := by
  have hN : ∀ n : ℕ, n < 2 ^ 20 → (BitVec.ofNat 32 n).sle 128#32 = decide (n ≤ 128) := by
    intro n hn
    rw [BitVec.sle_eq_decide, WordArith.toInt_ofNat_small n (by omega)]
    simp
  have hM : ∀ n : ℕ, n < 2 ^ 20 → (BitVec.ofNat 32 n).msb = false := by
    intro n hn
    rw [BitVec.msb_eq_decide, BitVec.toNat_ofNat]
    simp; omega
  unfold IntOp.cmpi IntOp.absi IntOp.subi
  by_cases h : q ≤ p
  · have e : BitVec.ofNat 32 p - BitVec.ofNat 32 q = BitVec.ofNat 32 (p - q) := by
      apply BitVec.eq_of_toNat_eq
      simp only [BitVec.toNat_sub, BitVec.toNat_ofNat]
      omega
    rw [e, hM _ (by omega)]
    simp only [Bool.false_eq_true, if_false]
    rw [hN _ (by omega)]
    congr 1
    exact decide_eq_decide.2 ⟨fun _ => ⟨by omega, by omega⟩, fun hn => by have := hn.1; omega⟩
  · have e : -(BitVec.ofNat 32 p - BitVec.ofNat 32 q) = BitVec.ofNat 32 (q - p) := by
      apply BitVec.eq_of_toNat_eq
      simp only [BitVec.toNat_neg, BitVec.toNat_sub, BitVec.toNat_ofNat]
      omega
    have m : (BitVec.ofNat 32 p - BitVec.ofNat 32 q).msb = true := by
      rw [BitVec.msb_eq_decide]
      simp only [BitVec.toNat_sub, BitVec.toNat_ofNat]
      simp; omega
    rw [m, e]
    simp only [if_true]
    rw [hN _ (by omega)]
    congr 1
    exact decide_eq_decide.2 ⟨fun _ => ⟨by omega, by omega⟩, fun hn => by have := hn.2; omega⟩

theorem word_first (p : ℕ) (hp : p < 2 ^ 20) :
    IntOp.cmpi .slt (BitVec.ofNat 32 p) 32#32 = BitVec.ofBool (decide (p < 32)) := by
  unfold IntOp.cmpi
  congr 1
  show BitVec.slt _ _ = _
  rw [BitVec.slt_eq_decide, WordArith.toInt_ofNat_small p (by omega)]
  simp

theorem word_add (a i : ℕ) : IntOp.addi (BitVec.ofNat 32 a) (BitVec.ofNat 32 i) = BitVec.ofNat 32 (a + i) := (BitVec.ofNat_add a i).symm

theorem near_at (m n a b : ℕ) (ha : a + m < 2 ^ 20) (hb : b + n < 2 ^ 20) (i : Fin m) (j : Fin n) :
    near m n (BitVec.ofNat 32 a) (BitVec.ofNat 32 b) (ix2 i j) = BitVec.ofBool (decide (Near (a + i.val) (b + j.val))) := by
  refine Eq.trans ?_ (word_near (a + i.val) (b + j.val) (by omega) (by omega))
  rw [← word_add, ← word_add]
  pointwise [near, rowPos, colPos]

theorem mask_at (m n a b : ℕ) (ha : a + m < 2 ^ 20) (hb : b + n < 2 ^ 20) (i : Fin m) (j : Fin n) :
    mask m n (BitVec.ofNat 32 a) (BitVec.ofNat 32 b) (ix2 i j) = BitVec.ofBool (decide (Seen (a + i.val) (b + j.val))) := by
  have e : mask m n (BitVec.ofNat 32 a) (BitVec.ofNat 32 b) (ix2 i j)
      = IntOp.ori (IntOp.ori (near m n (BitVec.ofNat 32 a) (BitVec.ofNat 32 b) (ix2 i j))
          (IntOp.cmpi .slt (IntOp.addi (BitVec.ofNat 32 b) (BitVec.ofNat 32 j.val)) 32#32))
          (IntOp.cmpi .slt (IntOp.addi (BitVec.ofNat 32 a) (BitVec.ofNat 32 i.val)) 32#32) := by
    pointwise [mask, near, rowPos, colPos]
  rw [e, near_at m n a b ha hb, word_add, word_add, word_first _ (by omega), word_first _ (by omega), WordArith.ori_ofBool, WordArith.ori_ofBool]
  congr 1
  by_cases h1 : Near (a + i.val) (b + j.val) <;> by_cases h2 : b + j.val < 32 <;> by_cases h3 : a + i.val < 32 <;> simp [Seen, h1, h2, h3]

theorem select_at {m n : ℕ} (k : IVec (Sh m n) 1) (w : Mat Ideal m n) (i : Fin m) (j : Fin n) (P : Prop) [Decidable P]
    (hk : k (ix2 i j) = BitVec.ofBool (decide P)) :
    maskW k w (ix2 i j) = if P then w (ix2 i j) else 0 := by
  have e : maskW k w (ix2 i j) = if k (ix2 i j) = 1#1 then w (ix2 i j) else 0 := by
    pointwise [maskW]
    rfl
  rw [e, hk]
  by_cases hP : P <;> simp [hP]

end Cert.KernelIdeal.Fused

end
-- ==== Proof.Pieces.lean ====
/-
  The packed block of sums read at an index: which head's numerator or denominator stands where.
-/
module

public import Idealize.ShloMosaic.Lib.Pointwise
public import Idealize.ShloMosaic.Lib.Pointwise.IndexVar
public import proofs.«01_k».proof.Proof.Tiles

@[expose] public section

set_option maxRecDepth 16384

noncomputable section

namespace Cert.KernelIdeal.Fused

open Idealize.ShloMosaic Idealize.ShloMosaic.TcCoe
open Cert.KernelIdeal Cert.KernelIdeal.Gen
open scoped BigOperators

/-! ## Pieces side by side -/

/-- A matrix as a piece of a concatenation. -/
abbrev pc {m k : ℕ} (x : (Sh m k).Idx → EReal) : (s : Shape) × (s.Idx → EReal) := ⟨Sh m k, x⟩

theorem piece_here {m k N : ℕ} (j : (Sh m N).Idx) (x : (Sh m k).Idx → EReal) (xs : List ((s : Shape) × (s.Idx → EReal)))
    (hs : ∀ s' ∈ (pc x :: xs).map (·.1), s'.FitsOff (Sh m N) 1) (c : ℕ)
    (hc : c < (axisSizes (Sh m N) 1 (pc x :: xs)).sum) (i : Fin m) (hi : (j 0).val = i.val) (l : Fin k) (hl : c = l.val) :
    concatenateAt (Sh m N) 1 j (pc x :: xs) hs c hc = x (ix2 i l) := by
  subst hl
  have e : ∀ (h : ∀ b : Fin 2, _ < (Sh m k).size b), x (Shape.Idx.norm fun b => ⟨if b.val = (1 : Fin 2).val then l.val else (j (Fin.cast rfl b)).val, h b⟩) = x (ix2 i l) := by
    intro h
    rw [Shape.Idx.norm_def]
    refine congrArg x (funext fun b => Fin.ext ?_)
    match b with
    | ⟨0, _⟩ => exact hi
    | ⟨1, _⟩ => rfl
  cases xs with
  | nil => rw [concatenateAt_singleton]; exact e _
  | cons q xs => rw [concatenateAt_cons]; exact (dif_pos (show l.val < k from l.isLt)).trans (e _)

theorem piece_next {m k N : ℕ} (j : (Sh m N).Idx) (x : (Sh m k).Idx → EReal) (ys : List ((s : Shape) × (s.Idx → EReal)))
    (hs : ∀ s' ∈ (pc x :: ys).map (·.1), s'.FitsOff (Sh m N) 1) (c : ℕ)
    (hc : c < (axisSizes (Sh m N) 1 (pc x :: ys)).sum) (d : ℕ) (hd : c = k + d) (hs') (hd') :
    concatenateAt (Sh m N) 1 j (pc x :: ys) hs c hc = concatenateAt (Sh m N) 1 j ys hs' d hd' := by
  cases ys with
  | nil => exact absurd hd' (Nat.not_lt_zero _)
  | cons q xs =>
    subst hd
    rw [concatenateAt_cons]
    refine (dif_neg (show ¬ k + d < k by omega)).trans ?_
    congr 1
    exact Nat.add_sub_cancel_left k d

/-- What is right of a row of pieces of one width. -/
theorem piece_past {m k N : ℕ} (j : (Sh m N).Idx) (q : (s : Shape) × (s.Idx → EReal)) (xs : List ((s : Shape) × (s.Idx → EReal))) :
    ∀ (L : List ((Sh m k).Idx → EReal)) (hs : ∀ s' ∈ (L.map pc ++ q :: xs).map (·.1), s'.FitsOff (Sh m N) 1) (c : ℕ)
    (hc : c < (axisSizes (Sh m N) 1 (L.map pc ++ q :: xs)).sum) (d : ℕ) (hd : c = L.length * k + d) (hs') (hd'),
    concatenateAt (Sh m N) 1 j (L.map pc ++ q :: xs) hs c hc = concatenateAt (Sh m N) 1 j (q :: xs) hs' d hd'
  | [], hs, c, hc, d, hd, hs', hd' => by
    have : c = d := by simpa using hd
    subst this; rfl
  | x :: L, hs, c, hc, d, hd, hs', hd' => by
    have hx : (Sh m k).FitsOff (Sh m N) 1 := hs _ List.mem_cons_self
    have hc2 : L.length * k + d < (axisSizes (Sh m N) 1 (L.map pc ++ q :: xs)).sum := by
      have h2 := hc
      rw [show ((x :: L).map pc ++ q :: xs) = pc x :: (L.map pc ++ q :: xs) from rfl, axisSizes_cons _ _ _ _ hx, List.sum_cons, hd] at h2
      have : (Sh m k).size (Fin.cast hx.rank_eq.symm 1) = k := rfl
      rw [this, List.length_cons, Nat.succ_mul] at h2
      omega
    have hs2 : ∀ s' ∈ (L.map pc ++ q :: xs).map (·.1), s'.FitsOff (Sh m N) 1 := fun s h => hs s (List.mem_cons_of_mem _ h)
    rw [← piece_past j q xs L hs2 (L.length * k + d) hc2 d rfl hs' hd']
    exact piece_next j x _ _ c _ _ (by rw [hd, List.length_cons, Nat.succ_mul]; omega) _ _

/-- The piece `p` of a row of pieces of one width. -/
theorem piece_at {m k N : ℕ} (j : (Sh m N).Idx) (xs : List ((s : Shape) × (s.Idx → EReal))) (i : Fin m) (hi : (j 0).val = i.val) (l : Fin k) :
    ∀ (L : List ((Sh m k).Idx → EReal)) (hs : ∀ s' ∈ (L.map pc ++ xs).map (·.1), s'.FitsOff (Sh m N) 1) (c : ℕ)
    (hc : c < (axisSizes (Sh m N) 1 (L.map pc ++ xs)).sum) (p : ℕ) (hp : p < L.length) (hd : c = p * k + l.val),
    concatenateAt (Sh m N) 1 j (L.map pc ++ xs) hs c hc = L[p] (ix2 i l)
  | [], _, _, _, _, hp, _ => absurd hp (Nat.not_lt_zero _)
  | x :: L, hs, c, hc, 0, _, hd => piece_here j x _ hs c hc i hi l (by omega)
  | x :: L, hs, c, hc, p + 1, hp, hd => by
    have hx : (Sh m k).FitsOff (Sh m N) 1 := hs _ List.mem_cons_self
    have hc2 : p * k + l.val < (axisSizes (Sh m N) 1 (L.map pc ++ xs)).sum := by
      have h2 := hc
      rw [show ((x :: L).map pc ++ xs) = pc x :: (L.map pc ++ xs) from rfl, axisSizes_cons _ _ _ _ hx, List.sum_cons, hd] at h2
      have : (Sh m k).size (Fin.cast hx.rank_eq.symm 1) = k := rfl
      rw [this, Nat.succ_mul] at h2
      omega
    have hs2 : ∀ s' ∈ (L.map pc ++ xs).map (·.1), s'.FitsOff (Sh m N) 1 := fun s h => hs s (List.mem_cons_of_mem _ h)
    refine Eq.trans ?_ (piece_at j xs i hi l L hs2 (p * k + l.val) hc2 p (by simpa using hp) rfl)
    exact piece_next j x _ _ c _ _ (by rw [hd, Nat.succ_mul]; omega) _ _

theorem eight_get {α : Type} (N : Fin 8 → α) (h : Fin 8) (hh) : [N 0, N 1, N 2, N 3, N 4, N 5, N 6, N 7][h.val]'hh = N h := by
  fin_cases h <;> rfl

theorem pack_num {m : ℕ} (N : Fin 8 → Mat Ideal m 128) (D : Fin 8 → Mat Ideal m 1) (h : Fin 8) (i : Fin m) (c : Fin 128) :
    pack N D (ix2 i ⟨h.val * 128 + c.val, by omega⟩) = N h (ix2 i c) := by
  refine (concatenate_apply (Sh m 1152) 1 _ _ _).trans ?_
  refine (piece_at _ _ i rfl c [N 0, N 1, N 2, N 3, N 4, N 5, N 6, N 7] _ _ _ h.val h.isLt rfl).trans ?_
  exact congrFun (eight_get N h _) _

theorem pack_den {m : ℕ} (N : Fin 8 → Mat Ideal m 128) (D : Fin 8 → Mat Ideal m 1) (h : Fin 8) (i : Fin m) :
    pack N D (ix2 i ⟨1024 + h.val, by omega⟩) = D h (ix2 i 0) := by
  refine (concatenate_apply (Sh m 1152) 1 _ _ _).trans ?_
  refine (piece_past _ _ _ [N 0, N 1, N 2, N 3, N 4, N 5, N 6, N 7] _ _ _ h.val rfl
    (fun s hs => (concat_pack m).2.1 s (by simp only [List.map_cons, List.map_nil, List.mem_cons] at hs ⊢; tauto)) (by
      show h.val < 8 + (120 + 0); omega)).trans ?_
  refine (piece_here _ _ _ _ _ _ i rfl (⟨h.val, h.isLt⟩ : Fin 8) rfl).trans ?_
  refine (concatenate_apply (Sh m 8) 1 _ _ _).trans ?_
  refine (piece_at _ [] i rfl (0 : Fin 1) [D 0, D 1, D 2, D 3, D 4, D 5, D 6, D 7] _ _ _ h.val h.isLt (Nat.mul_one _).symm).trans ?_
  exact congrFun (eight_get D h _) _

end Cert.KernelIdeal.Fused

end
-- ==== Proof.TileSums.lean ====
/-
  What the packed blocks hold: sums over all the keys of a device.
-/
module

public import Idealize.ShloMosaic.Lib.Pointwise
public import Idealize.ShloMosaic.Lib.Pointwise.IndexVar
public import proofs.«01_k».proof.Proof.Mask
public import proofs.«01_k».proof.Proof.Pieces
public import Idealize.ShloMosaic.Lib.FinSumWindow

@[expose] public section

set_option maxRecDepth 16384

noncomputable section

namespace Cert.KernelIdeal.Fused

open Idealize.ShloMosaic Idealize.ShloMosaic.TcCoe
open Cert.KernelIdeal Cert.KernelIdeal.Gen
open scoped BigOperators

/-! ## The sums of a block, over all the keys of a device -/

/-- Column `c` of head `h`. -/
def hc (h : Fin 8) (c : Fin 128) : Fin 1024 := ⟨h.val * 128 + c.val, by omega⟩

/-- Row `r` of the queries, column `c`. -/
def qry (I : Ins Ideal) (r c : Fin 1024) : EReal := ∑ d : Fin 1024, I.x (ix3 0 r d) * I.wq (ix2 d c)

/-- The exponential of query `r` and key `j` in head `h`. -/
def ker (I : Ins Ideal) (h : Fin 8) (r j : Fin 1024) : EReal :=
  Ideal.exp ((∑ c : Fin 128, qry I r (hc h c) * I.k (ix2 j (hc h c))) * scl)

/-- The weight of query `r` at key `j` of a device whose first key is the key `o` of all. -/
def wt (I : Ins Ideal) (h : Fin 8) (o : ℕ) (r j : Fin 1024) : EReal := if Seen r.val (o + j.val) then ker I h r j else 0

/-- The weighted sum of the values of a device's keys, and the sum of the weights. -/
def wnum (I : Ins Ideal) (o : ℕ) (r : Fin 1024) (h : Fin 8) (c : Fin 128) : EReal := ∑ j : Fin 1024, wt I h o r j * I.v (ix2 j (hc h c))
def wden (I : Ins Ideal) (o : ℕ) (r : Fin 1024) (h : Fin 8) : EReal := ∑ j : Fin 1024, wt I h o r j

theorem wt_unseen (I : Ins Ideal) (h : Fin 8) (o : ℕ) (r j : Fin 1024) (hs : ¬ Seen r.val (o + j.val)) : wt I h o r j = 0 := if_neg hs
theorem wt_seen (I : Ins Ideal) (h : Fin 8) (o : ℕ) (r j : Fin 1024) (hs : Seen r.val (o + j.val)) : wt I h o r j = ker I h r j := if_pos hs

theorem wnum_zero (I : Ins Ideal) (o : ℕ) (r : Fin 1024) (h : Fin 8) (c : Fin 128) (hs : ∀ j : Fin 1024, ¬ Seen r.val (o + j.val)) : wnum I o r h c = 0 :=
  Finset.sum_eq_zero fun j _ => by rw [wt_unseen I h o r j (hs j), zero_mul]
theorem wden_zero (I : Ins Ideal) (o : ℕ) (r : Fin 1024) (h : Fin 8) (hs : ∀ j : Fin 1024, ¬ Seen r.val (o + j.val)) : wden I o r h = 0 :=
  Finset.sum_eq_zero fun j _ => wt_unseen I h o r j (hs j)

/-- A sum over a window and the first 32 of what vanishes elsewhere. -/
theorem sum_two (lo n : ℕ) (hn : lo + n ≤ 1024) (hlo : 32 ≤ lo) (f : Fin 1024 → EReal)
    (hf : ∀ j : Fin 1024, ¬ (lo ≤ j.val ∧ j.val < lo + n) → ¬ j.val < 32 → f j = 0) :
    ∑ j : Fin 1024, f j = ∑ p : Fin n, f ⟨lo + p.val, by omega⟩ + ∑ p : Fin 32, f ⟨p.val, by omega⟩ := by
  have e : ∀ j, f j = (if j.val < 32 then 0 else f j) + (if j.val < 32 then f j else 0) := fun j => by
    by_cases hj : j.val < 32 <;> simp [hj]
  rw [Finset.sum_congr rfl fun j _ => e j, Finset.sum_add_distrib,
    FinSumWindow.sum_window lo hn (fun j : Fin 1024 => if j.val < 32 then 0 else f j) fun j hj => by
      by_cases h : j.val < 32
      · simp [h]
      · simp only [h, if_false]; exact hf j hj h,
    FinSumWindow.sum_window (W := 32) 0 (by omega) (fun j : Fin 1024 => if j.val < 32 then f j else 0) fun j hj => by
      rw [if_neg (by omega)]]
  refine congrArg₂ (· + ·) (Finset.sum_congr rfl fun p _ => if_neg (show ¬ lo + p.val < 32 by omega)) (Finset.sum_congr rfl fun p _ => ?_)
  exact (if_pos (show 0 + p.val < 32 by omega)).trans (congrArg f (Fin.ext (Nat.zero_add _)))

variable (I : Ins Ideal)

theorem qBlk_at (t : ℕ) (ht : t < 8) (h : Fin 8) (i c : Fin 128) :
    qBlk I t ht h (ix2 i c) = qry I ⟨t * 128 + i.val, by omega⟩ (hc h c) := by
  have e : qBlk I t ht h (ix2 i c) = proj (rows I.x 0 1024 (by omega)) (wqW I) (ix2 ⟨t * 128 + i.val, by omega⟩ (hc h c)) := by
    pointwise [qBlk, hc]
  rw [e, proj_at]
  refine Finset.sum_congr rfl fun d _ => ?_
  rw [rows_at, wqW, win_at]
  simp only [Nat.zero_add]

theorem headOf_at' {m : ℕ} (a : ℕ) (ha : a + m ≤ 1024) (h : Fin 8) (i : Fin m) (c : Fin 128) :
    headOf (proj (rows I.x a m ha) (wqW I)) h (ix2 i c) = qry I ⟨a + i.val, by omega⟩ (hc h c) := by
  rw [headOf_at, proj_at]
  refine Finset.sum_congr rfl fun d _ => ?_
  rw [rows_at, wqW, win_at]
  simp only [Nat.zero_add, hc]

theorem kvWin_at (f : Mat Ideal 1024 1024) (lo n : ℕ) (hn : lo + n ≤ 1024) (h : Fin 8) (j : Fin n) (c : Fin 128) :
    kvWin f lo n hn h (ix2 j c) = f (ix2 ⟨lo + j.val, by omega⟩ (hc h c)) := win_at f lo _ n 128 hn _ j c

theorem locW_at (t : ℕ) (ht : t < 8) (lo n : ℕ) (hn : lo + n ≤ 1024) (h : Fin 8) (i : Fin 128) (j : Fin n) :
    locW I t ht lo n hn h (ix2 i j) = wt I h 0 ⟨t * 128 + i.val, by omega⟩ ⟨lo + j.val, by omega⟩ := by
  rw [locW, select_at _ _ i j _ (mask_at 128 n (t * 128) lo (by omega) (by omega) i j), wt, expW_at]
  simp only [qBlk_at, kvWin_at, ker, Nat.zero_add]

theorem gloW_at (t : ℕ) (ht : t < 8) (h : Fin 8) (i : Fin 128) (j : Fin 32) :
    gloW I t ht h (ix2 i j) = wt I h 0 ⟨t * 128 + i.val, by omega⟩ ⟨j.val, by omega⟩ := by
  rw [wt_seen I h 0 _ _ (.inr (.inl (by simp))), gloW, expW_at]
  simp only [qBlk_at, kvWin_at, ker, Nat.zero_add]

theorem p32W_at (o : ℕ) (h : Fin 8) (i : Fin 32) (j : Fin 1024) :
    p32W I h (ix2 i j) = wt I h o ⟨i.val, by omega⟩ j := by
  rw [wt_seen I h o _ _ (.inr (.inr i.isLt)), p32W, expW_at]
  simp only [headOf_at', kvWin_at, ker, Nat.zero_add]

theorem pxW_at (h : Fin 8) (i j : Fin 128) :
    pxW I h (ix2 i j) = wt I h 1024 ⟨896 + i.val, by omega⟩ ⟨j.val, by omega⟩ := by
  have e : Seen (896 + i.val) (1024 + j.val) ↔ Near (896 + i.val) (1024 + j.val) := ⟨fun h => by
    rcases h with h | h | h
    · exact h
    · omega
    · omega, .inl⟩
  rw [pxW, select_at _ _ i j _ (near_at 128 128 896 1024 (by omega) (by omega) i j), wt, expW_at]
  simp only [headOf_at', kvWin_at, ker, Nat.zero_add, e]

theorem loc_num (t : ℕ) (ht : t < 8) (lo n : ℕ) (hn : lo + n ≤ 1024) (h : Fin 8) (i c : Fin 128) :
    numW (locW I t ht lo n hn h) (kvWin I.v lo n hn h) (ix2 i c)
      = ∑ p : Fin n, wt I h 0 ⟨t * 128 + i.val, by omega⟩ ⟨lo + p.val, by omega⟩ * I.v (ix2 ⟨lo + p.val, by omega⟩ (hc h c)) := by
  rw [numW_at]
  exact Finset.sum_congr rfl fun p _ => by rw [locW_at, kvWin_at]
theorem loc_den (t : ℕ) (ht : t < 8) (lo n : ℕ) (hn : lo + n ≤ 1024) (h : Fin 8) (i : Fin 128) :
    denW (locW I t ht lo n hn h) (ix2 i 0) = ∑ p : Fin n, wt I h 0 ⟨t * 128 + i.val, by omega⟩ ⟨lo + p.val, by omega⟩ := by
  rw [denW_at]
  exact Finset.sum_congr rfl fun p _ => locW_at I t ht lo n hn h i p
theorem glo_num (t : ℕ) (ht : t < 8) (h : Fin 8) (i c : Fin 128) :
    numW (gloW I t ht h) (kvWin I.v 0 32 (by omega) h) (ix2 i c)
      = ∑ p : Fin 32, wt I h 0 ⟨t * 128 + i.val, by omega⟩ ⟨p.val, by omega⟩ * I.v (ix2 ⟨p.val, by omega⟩ (hc h c)) := by
  rw [numW_at]
  exact Finset.sum_congr rfl fun p _ => by rw [gloW_at, kvWin_at]; simp only [Nat.zero_add]
theorem glo_den (t : ℕ) (ht : t < 8) (h : Fin 8) (i : Fin 128) :
    denW (gloW I t ht h) (ix2 i 0) = ∑ p : Fin 32, wt I h 0 ⟨t * 128 + i.val, by omega⟩ ⟨p.val, by omega⟩ := by
  rw [denW_at]
  exact Finset.sum_congr rfl fun p _ => gloW_at I t ht h i p

theorem pack16_num {m : ℕ} (N : Fin 8 → Mat Ideal m 128) (D : Fin 8 → Mat Ideal m 1) (h : Fin 8) (i : Fin m) (c : Fin 128) :
    pack16 N D (ix2 i ⟨(hc h c).val, by have := (hc h c).isLt; omega⟩) = N h (ix2 i c) := pack_num N D h i c
theorem pack16_den {m : ℕ} (N : Fin 8 → Mat Ideal m 128) (D : Fin 8 → Mat Ideal m 1) (h : Fin 8) (i : Fin m) :
    pack16 N D (ix2 i ⟨1024 + h.val, by omega⟩) = D h (ix2 i 0) := pack_den N D h i

/-- The place of a numerator, and of a denominator, in a packed block. -/
def nc (h : Fin 8) (c : Fin 128) : Fin 1152 := ⟨(hc h c).val, by have := (hc h c).isLt; omega⟩
def dc (h : Fin 8) : Fin 1152 := ⟨1024 + h.val, by omega⟩

/-- A packed block holds the sums of rows `a` on against all the keys of a device whose first is key `o`. -/
def Holds {m : ℕ} (b : (Sh m 1152).Idx → EReal) (I : Ins Ideal) (o a : ℕ) (ha : a + m ≤ 1024) : Prop :=
  ∀ (h : Fin 8) (i : Fin m), (∀ c : Fin 128, b (ix2 i (nc h c)) = wnum I o ⟨a + i.val, by omega⟩ h c)
    ∧ b (ix2 i (dc h)) = wden I o ⟨a + i.val, by omega⟩ h

theorem locTile_holds (t : ℕ) (ht : t < 8) (lo n : ℕ) (hn : lo + n ≤ 1024)
    (hw : ∀ (i : Fin 128) (j : Fin 1024), ¬ (lo ≤ j.val ∧ j.val < lo + n) → ¬ Seen (t * 128 + i.val) j.val) :
    Holds (locTile I t ht lo n hn) I 0 (t * 128) (by omega) := by
  intro h i
  have hz : ∀ j : Fin 1024, ¬ (lo ≤ j.val ∧ j.val < lo + n) → wt I h 0 ⟨t * 128 + i.val, by omega⟩ j = 0 := fun j hj =>
    wt_unseen _ _ _ _ _ (by rw [Nat.zero_add]; exact hw i j hj)
  constructor
  · intro c
    refine (pack16_num _ _ h i c).trans ((loc_num I t ht lo n hn h i c).trans ?_)
    exact (FinSumWindow.sum_window lo hn (fun j : Fin 1024 => wt I h 0 ⟨t * 128 + i.val, by omega⟩ j * I.v (ix2 j (hc h c))) fun j hj => by simp only [hz j hj, zero_mul]).symm
  · refine (pack16_den _ _ h i).trans ((loc_den I t ht lo n hn h i).trans ?_)
    exact (FinSumWindow.sum_window lo hn _ fun j hj => hz j hj).symm

theorem gloTile_holds (t : ℕ) (ht : t < 8) (lo n : ℕ) (hn : lo + n ≤ 1024) (hlo : 32 ≤ lo)
    (hw : ∀ (i : Fin 128) (j : Fin 1024), ¬ (lo ≤ j.val ∧ j.val < lo + n) → ¬ j.val < 32 → ¬ Seen (t * 128 + i.val) j.val) :
    Holds (gloTile I t ht lo n hn) I 0 (t * 128) (by omega) := by
  intro h i
  have hz : ∀ j : Fin 1024, ¬ (lo ≤ j.val ∧ j.val < lo + n) → ¬ j.val < 32 → wt I h 0 ⟨t * 128 + i.val, by omega⟩ j = 0 := fun j hj h32 =>
    wt_unseen _ _ _ _ _ (by rw [Nat.zero_add]; exact hw i j hj h32)
  constructor
  · intro c
    refine (pack16_num _ _ h i c).trans ((congrArg₂ (fun a b : EReal => a + b) (loc_num I t ht lo n hn h i c) (glo_num I t ht h i c)).trans ?_)
    exact (sum_two lo n hn hlo (fun j : Fin 1024 => wt I h 0 ⟨t * 128 + i.val, by omega⟩ j * I.v (ix2 j (hc h c))) fun j hj h32 => by simp only [hz j hj h32, zero_mul]).symm
  · refine (pack16_den _ _ h i).trans ((congrArg₂ (fun a b : EReal => a + b) (loc_den I t ht lo n hn h i) (glo_den I t ht h i)).trans ?_)
    exact (sum_two lo n hn hlo _ fun j hj h32 => hz j hj h32).symm

/-- Every block of device 0 against all its keys. -/
theorem tile_holds (t : ℕ) (ht : t < 8) : Holds (tile I t) I 0 (t * 128) (by omega) := by
  have far : ∀ p q : ℕ, Seen p q → ¬ p < 32 → ¬ q < 32 → p ≤ q + 128 ∧ q ≤ p + 128 := fun p q hs hp hq => by
    rcases hs with hs | hs | hs
    · exact hs
    · exact absurd hs hq
    · exact absurd hs hp
  match t, ht with
  | 0, _ => exact locTile_holds I 0 _ 0 1024 _ fun i j hj => absurd ⟨Nat.zero_le _, by omega⟩ hj
  | 1, _ => exact locTile_holds I 1 _ 0 384 _ fun i j hj hs => by have := far _ _ hs (by omega) (by omega); omega
  | 2, _ => exact gloTile_holds I 2 _ 128 384 _ (by omega) fun i j hj h32 hs => by have := far _ _ hs (by omega) h32; omega
  | 3, _ => exact gloTile_holds I 3 _ 256 384 _ (by omega) fun i j hj h32 hs => by have := far _ _ hs (by omega) h32; omega
  | 4, _ => exact gloTile_holds I 4 _ 384 384 _ (by omega) fun i j hj h32 hs => by have := far _ _ hs (by omega) h32; omega
  | 5, _ => exact gloTile_holds I 5 _ 512 384 _ (by omega) fun i j hj h32 hs => by have := far _ _ hs (by omega) h32; omega
  | 6, _ => exact gloTile_holds I 6 _ 640 384 _ (by omega) fun i j hj h32 hs => by have := far _ _ hs (by omega) h32; omega
  | 7, _ => exact gloTile_holds I 7 _ 768 256 _ (by omega) fun i j hj h32 hs => by have := far _ _ hs (by omega) h32; omega

/-- The first 32 queries against all the keys of a device, whichever they are. -/
theorem p32T_holds (o : ℕ) : Holds (p32T I) I o 0 (by omega) := by
  intro h i
  simp only [Nat.zero_add]
  constructor
  · intro c
    refine (pack16_num _ _ h i c).trans ((numW_at _ _ i c).trans ?_)
    exact Finset.sum_congr rfl fun j _ => by rw [p32W_at I o, kvWin_at]; simp only [Nat.zero_add]
  · refine (pack16_den _ _ h i).trans ((denW_at _ i).trans ?_)
    exact Finset.sum_congr rfl fun j _ => p32W_at I o h i j

/-- The last block of queries against device 1's keys. -/
theorem pxT_holds : Holds (pxT I) I 1024 896 (by omega) := by
  intro h i
  have hz : ∀ j : Fin 1024, ¬ (0 ≤ j.val ∧ j.val < 0 + 128) → wt I h 1024 ⟨896 + i.val, by omega⟩ j = 0 := fun j hj =>
    wt_unseen _ _ _ _ _ fun hs => by
      rcases hs with hs | hs | hs
      · have := hs.2; simp only at this; omega
      · omega
      · simp only at hs; omega
  constructor
  · intro c
    refine (pack16_num _ _ h i c).trans ((numW_at _ _ i c).trans ?_)
    refine Eq.trans ?_ (FinSumWindow.sum_window (W := 128) 0 (by omega) _ fun j hj => by rw [hz j hj, zero_mul]).symm
    exact Finset.sum_congr rfl fun j _ => by rw [pxW_at, kvWin_at]; simp only [Nat.zero_add]
  · refine (pack16_den _ _ h i).trans ((denW_at _ i).trans ?_)
    refine Eq.trans ?_ (FinSumWindow.sum_window (W := 128) 0 (by omega) _ fun j hj => hz j hj).symm
    exact Finset.sum_congr rfl fun j _ => by rw [pxW_at]; simp only [Nat.zero_add]

end Cert.KernelIdeal.Fused

end
-- ==== Proof.Totals.lean ====
/-
  What each device divides and makes of it: the result's rows as sums over the keys of all the devices.
-/
module

public import Idealize.ShloMosaic.Lib.Pointwise
public import Idealize.ShloMosaic.Lib.Pointwise.IndexVar
public import proofs.«01_k».proof.Proof.TileSums
public import proofs.«01_k».proof.Proof.Whole

@[expose] public section

set_option maxRecDepth 16384

noncomputable section

namespace Cert.KernelIdeal.Fused

open Idealize.ShloMosaic Idealize.ShloMosaic.TcCoe
open Cert.KernelIdeal Cert.KernelIdeal.Gen
open scoped BigOperators

/-! ## What a device divides -/

theorem lead32_at (X : S32x1152.Idx → Elt Ideal .bf16) (i : Fin 32) (j : Fin 1152) :
    lead squeezes_S1x32x1152_S32x1152 X (ix3 0 i j) = X (ix2 i j) :=
  congrArg X ((Equiv.symm_apply_eq _).2 (by pointwise))
theorem lead128_at (X : S128x1152.Idx → Elt Ideal .bf16) (i : Fin 128) (j : Fin 1152) :
    lead squeezes_S1x128x1152_S128x1152 X (ix3 0 i j) = X (ix2 i j) :=
  congrArg X ((Equiv.symm_apply_eq _).2 (by pointwise))
theorem leadO_at (X : S128x1024.Idx → Elt Ideal .bf16) (i : Fin 128) (j : Fin 1024) :
    lead squeezes_S1x128x1024_S128x1024 X (ix3 0 i j) = X (ix2 i j) :=
  congrArg X ((Equiv.symm_apply_eq _).2 (by pointwise))

theorem bs0_at (t : S128x1152.Idx → Elt Ideal .bf16) (i : Fin 128) (j : Fin 1152) : bs0 t (ix2 i j) = t (ix2 i j) := by
  pointwise [bs0]
theorem bsO_at (t : S1x128x1152.Idx → Elt Ideal .bf16) (i : Fin 128) (j : Fin 1152) : bsO t (ix2 i j) = t (ix3 0 i j) := by
  pointwise [bsO, k0_pay403]
theorem bs7_at (t u : S1x128x1152.Idx → Elt Ideal .bf16) (i : Fin 128) (j : Fin 1152) : bs7 t u (ix2 i j) = t (ix3 0 i j) + u (ix3 0 i j) := by
  pointwise [bs7, bsO, k0_pay403, k0_pay404]

theorem pay402_at (C : ℕ → S1x32x1152.Idx → Elt Ideal .bf16) (u : S32x1152.Idx → Elt Ideal .f32) (i : Fin 32) (j : Fin 1152) :
    k0_pay402 (k0_pay396 (C 0) (C 1)) (C 2) (C 3) (C 4) (C 5) (C 6) u (ix2 i j)
      = u (ix2 i j) + (C 0 (ix3 0 i j) + C 1 (ix3 0 i j) + C 2 (ix3 0 i j) + C 3 (ix3 0 i j) + C 4 (ix3 0 i j) + C 5 (ix3 0 i j) + C 6 (ix3 0 i j)) := by
  pointwise [k0_pay402, k0_pay396]

theorem win32_at (t : S128x1152.Idx → Elt Ideal .f32) (i : Fin 32) (j : Fin 1152) :
    VecWindow.window t ![0, 0] S32x1152.size inb_S128x1152_S32x1152_0_0 (ix2 i j) = t (ix2 ⟨i.val, by omega⟩ j) := by
  refine congrArg t (funext fun x => Fin.ext ?_)
  match x with
  | ⟨0, _⟩ => show 0 + 1 * _ = _; exact (Nat.zero_add _).trans (Nat.one_mul _)
  | ⟨1, _⟩ => show 0 + 1 * _ = _; exact (Nat.zero_add _).trans (Nat.one_mul _)

theorem bsG_first (t : S128x1152.Idx → Elt Ideal .bf16) (C : ℕ → S1x32x1152.Idx → Elt Ideal .bf16) (i : Fin 128) (j : Fin 1152) (hi : i.val < 32) :
    bsG t C (ix2 i j) = t (ix2 i j) + (C 0 (ix3 0 ⟨i.val, hi⟩ j) + C 1 (ix3 0 ⟨i.val, hi⟩ j) + C 2 (ix3 0 ⟨i.val, hi⟩ j) + C 3 (ix3 0 ⟨i.val, hi⟩ j)
      + C 4 (ix3 0 ⟨i.val, hi⟩ j) + C 5 (ix3 0 ⟨i.val, hi⟩ j) + C 6 (ix3 0 ⟨i.val, hi⟩ j)) := by
  have hin : ∀ a : Fin 2, (![0, 0] : Fin 2 → ℕ) a ≤ ((ix2 i j : S128x1152.Idx) a).val ∧ ((ix2 i j : S128x1152.Idx) a).val < (![0, 0] : Fin 2 → ℕ) a + S32x1152.size a := by
    intro a
    match a with
    | ⟨0, _⟩ => exact ⟨Nat.zero_le _, by show i.val < 0 + 32; omega⟩
    | ⟨1, _⟩ => exact ⟨Nat.zero_le _, by show j.val < 0 + 1152; omega⟩
  refine (dif_pos hin).trans ?_
  have e : Rect.unitLocal (s := S128x1152) (off := ![0, 0]) (size := S32x1152.size) (ix2 i j) hin = (ix2 (⟨i.val, hi⟩ : Fin 32) j : S32x1152.Idx) := by
    funext a
    match a with
    | ⟨0, _⟩ => rfl
    | ⟨1, _⟩ => rfl
  rw [e]
  exact (pay402_at C _ ⟨i.val, hi⟩ j).trans (congrArg (· + _) ((win32_at _ _ j).trans (bs0_at t i j)))
theorem bsG_rest (t : S128x1152.Idx → Elt Ideal .bf16) (C : ℕ → S1x32x1152.Idx → Elt Ideal .bf16) (i : Fin 128) (j : Fin 1152) (hi : ¬ i.val < 32) :
    bsG t C (ix2 i j) = t (ix2 i j) :=
  (dif_neg fun h => hi (by have := (h 0).2; simpa using this)).trans (bs0_at t i j)

variable (Is : Dev nD → Ins Ideal)

/-- A row of the result among the rows of its device. -/
def row (d : Dev nD) (i : Fin 128) : Fin 1024 := ⟨d.val * 128 + i.val, by have : d.val < 8 := d.isLt; omega⟩

/-- The weighted sums over the keys of all the devices. -/
def gnum (r : Fin 1024) (h : Fin 8) (c : Fin 128) : EReal := ∑ e : Fin 8, wnum (Is e) (e.val * 1024) r h c
def gden (r : Fin 1024) (h : Fin 8) : EReal := ∑ e : Fin 8, wden (Is e) (e.val * 1024) r h

/-- What is at a column of the packed block, as a sum over the devices of what each contributes. -/
theorem total_sum (f : Fin 8 → Fin 1024 → EReal) (j : Fin 1152) (hT : ∀ (t : ℕ) (ht : t < 8) (i : Fin 128), tile (Is 0) t (ix2 i j) = f 0 (row ⟨t, ht⟩ i))
    (hP : ∀ (e : Fin 8) (i : Fin 32), p32T (Is e) (ix2 i j) = f e ⟨i.val, by omega⟩) (hX : ∀ i : Fin 128, pxT (Is 1) (ix2 i j) = f 1 (row 7 i))
    (hz : ∀ (e : Fin 8) (r : Fin 1024), (∀ k : Fin 1024, ¬ Seen r.val (e.val * 1024 + k.val)) → f e r = 0) (d : Dev nD) (i : Fin 128) :
    total Is d (ix2 i j) = ∑ e : Fin 8, f e (row d i) := by
  have far : ∀ (e : Fin 8) (r : Fin 1024), 32 ≤ r.val → r.val + 128 < e.val * 1024 → f e r = 0 := fun e r hr he => hz e r fun k hs => by
    rcases hs with hs | hs | hs
    · have := hs.2; omega
    · omega
    · omega
  have hd8 : d.val < 8 := d.isLt
  unfold total bsV
  by_cases h0 : d = 0
  · subst h0
    rw [if_pos rfl]
    by_cases hi : i.val < 32
    · refine (bsG_first _ _ i j hi).trans ?_
      have hk : ∀ (k : ℕ) (e : Fin 8) (he : Fin.ofNat 8 (k + 1) = e), lead squeezes_S1x32x1152_S32x1152 ((sums Is).p32 (Fin.ofNat 8 (k + 1))) (ix3 0 ⟨i.val, hi⟩ j) = f e (row 0 i) := by
        intro k e he
        subst he
        refine (lead32_at _ ⟨i.val, hi⟩ j).trans ?_
        refine (congrFun (shapeCast_self _ _) _).trans ((hP _ ⟨i.val, hi⟩).trans (congrArg _ (Fin.ext ?_)))
        show i.val = 0 * 128 + i.val
        omega
      rw [hk 0 1 rfl, hk 1 2 rfl, hk 2 3 rfl, hk 3 4 rfl, hk 4 5 rfl, hk 5 6 rfl, hk 6 7 rfl, hT 0 (by omega) i, Fin.sum_univ_eight]
      simp only [add_assoc]
      rfl
    · refine (bsG_rest _ _ i j hi).trans ((hT 0 (by omega) i).trans ?_)
      refine (Finset.sum_eq_single_of_mem (0 : Fin 8) (Finset.mem_univ _) fun e _ he => far e _ ?_ ?_).symm
      · show 32 ≤ 0 * 128 + i.val; omega
      · have : e.val ≠ 0 := fun h => he (Fin.ext h)
        show 0 * 128 + i.val + 128 < _; omega
  · have hd0 : d.val ≠ 0 := fun h => h0 (Fin.ext h)
    have hps : ∀ k, k + 1 = d.val → (sums Is).ps k (ix3 0 i j) = f 0 (row d i) := by
      intro k hk
      refine (ValueIdx.shapeCast_ab_1ab_apply _ _ 0 i j).trans ((hT (k + 1) (by omega) i).trans (congrArg _ (Fin.ext ?_)))
      show (k + 1) * 128 + i.val = d.val * 128 + i.val
      rw [hk]
    rw [if_neg h0]
    by_cases h7 : d = 7
    · subst h7
      rw [if_pos rfl]
      refine (bs7_at _ _ i j).trans ?_
      have hx : lead squeezes_S1x128x1152_S128x1152 (sums Is).px (ix3 0 i j) = f 1 (row 7 i) :=
        (lead128_at _ i j).trans ((congrFun (shapeCast_self _ _) _).trans (hX i))
      rw [hps 6 rfl, hx, Fin.sum_univ_eight]
      have hf : ∀ e : Fin 8, 2 ≤ e.val → f e (row 7 i) = 0 := fun e he => far e _ (by show 32 ≤ 7 * 128 + i.val; omega) (by show 7 * 128 + i.val + 128 < _; omega)
      rw [hf 2 (by decide), hf 3 (by decide), hf 4 (by decide), hf 5 (by decide), hf 6 (by decide), hf 7 (by decide)]
      simp only [add_zero]
    · have hd7 : d.val ≠ 7 := fun h => h7 (Fin.ext h)
      rw [if_neg h7]
      refine (bsO_at _ i j).trans ((hps (d.val - 1) (by omega)).trans ?_)
      refine (Finset.sum_eq_single_of_mem (0 : Fin 8) (Finset.mem_univ _) fun e _ he => far e _ ?_ ?_).symm
      · show 32 ≤ d.val * 128 + i.val; omega
      · have : e.val ≠ 0 := fun h => he (Fin.ext h)
        show d.val * 128 + i.val + 128 < _; omega

theorem total_num (d : Dev nD) (i : Fin 128) (h : Fin 8) (c : Fin 128) : total Is d (ix2 i (nc h c)) = gnum Is (row d i) h c := by
  refine total_sum Is (fun e r => wnum (Is e) (e.val * 1024) r h c) (nc h c) ?_ ?_ ?_ ?_ d i
  · intro t ht i
    exact (tile_holds (Is 0) t ht h i).1 c
  · intro e i
    refine ((p32T_holds (Is e) (e.val * 1024) h i).1 c).trans ?_
    simp only [Nat.zero_add]
  · intro i
    exact (pxT_holds (Is 1) h i).1 c
  · exact fun e r hs => wnum_zero _ _ _ _ _ hs

theorem total_den (d : Dev nD) (i : Fin 128) (h : Fin 8) : total Is d (ix2 i (dc h)) = gden Is (row d i) h := by
  refine total_sum Is (fun e r => wden (Is e) (e.val * 1024) r h) (dc h) ?_ ?_ ?_ ?_ d i
  · intro t ht i
    exact (tile_holds (Is 0) t ht h i).2
  · intro e i
    refine ((p32T_holds (Is e) (e.val * 1024) h i).2).trans ?_
    simp only [Nat.zero_add]
  · intro i
    exact (pxT_holds (Is 1) h i).2
  · exact fun e r hs => wden_zero _ _ _ _ hs

/-! ## The finished rows -/

theorem num_at (b : S128x1152.Idx → Elt Ideal .f32) (h : Fin 8) (i c : Fin 128) :
    VecWindow.window b ![0, h.val * 128] S128x128.size (num_ok h) (ix2 i c) = b (ix2 i (nc h c)) := by
  refine congrArg b (funext fun x => Fin.ext ?_)
  match x with
  | ⟨0, _⟩ => show 0 + 1 * _ = _; exact (Nat.zero_add _).trans (Nat.one_mul _)
  | ⟨1, _⟩ => show h.val * 128 + 1 * _ = h.val * 128 + _; exact congrArg _ (Nat.one_mul _)
theorem den_at (b : S128x1152.Idx → Elt Ideal .f32) (h : Fin 8) (i : Fin 128) :
    VecWindow.window b ![0, 1024 + h.val] S128x1.size (den_ok h) (ix2 i 0) = b (ix2 i (dc h)) := by
  refine congrArg b (funext fun x => Fin.ext ?_)
  match x with
  | ⟨0, _⟩ => show 0 + 1 * _ = _; exact (Nat.zero_add _).trans (Nat.one_mul _)
  | ⟨1, _⟩ => rfl

theorem quot_at (b : S128x1152.Idx → Elt Ideal .f32) (h : Fin 8) (i c : Fin 128) :
    quot b h (ix2 i c) = Ideal.div (b (ix2 i (nc h c))) (b (ix2 i (dc h))) := by
  rw [← num_at b h i c, ← den_at b h i]
  pointwise [quot]

theorem heads_at (b : S128x1152.Idx → Elt Ideal .f32) (h : Fin 8) (i c : Fin 128) :
    heads b (ix2 i (hc h c)) = Ideal.div (b (ix2 i (nc h c))) (b (ix2 i (dc h))) := by
  refine Eq.trans ?_ (quot_at b h i c)
  refine (concatenate_apply (Sh 128 1024) 1 _ _ _).trans ?_
  refine (piece_at _ [] i rfl c [quot b 0, quot b 1, quot b 2, quot b 3, quot b 4, quot b 5, quot b 6, quot b 7] _ _ _ h.val h.isLt rfl).trans ?_
  exact congrFun (eight_get (quot b) h _) _

theorem oblk_at (b : S128x1152.Idx → Elt Ideal .f32) (wo : S1024x1024.Idx → Elt Ideal .f32) (i : Fin 128) (o : Fin 1024) :
    oblk b wo (ix2 i o) = ∑ k : Fin 1024, heads b (ix2 i k) * wo (ix2 k o) := by
  have e : oblk b wo (ix2 i o) = ∑ k : Fin 1024, heads b (ix2 i k) * win wo 0 0 1024 1024 (by omega) (by omega) (ix2 k o) := by
    pointwise [oblk]
  rw [e]
  refine Finset.sum_congr rfl fun k _ => ?_
  rw [win_at]
  simp only [Nat.zero_add]

/-- A sum over the columns is one over the heads and their columns. -/
theorem sum_heads (f : Fin 1024 → EReal) : ∑ k : Fin 1024, f k = ∑ h : Fin 8, ∑ c : Fin 128, f (hc h c) := by
  rw [← Finset.sum_product' Finset.univ Finset.univ fun h c => f (hc h c)]
  exact (Fintype.sum_equiv (finProdFinEquiv (m := 8) (n := 128)) (fun p => f (hc p.1 p.2)) f fun p => congrArg f (Fin.ext (by
    show p.1.val * 128 + p.2.val = p.2.val + 128 * p.1.val; omega))).symm

theorem made_at (d : Dev nD) (i : Fin 128) (o : Fin 1024) :
    made Is d (ix2 i o) = ∑ h : Fin 8, ∑ c : Fin 128, Ideal.div (gnum Is (row d i) h c) (gden Is (row d i) h) * (Is d).wo (ix2 (hc h c) o) := by
  rw [made, oblk_at, sum_heads]
  exact Finset.sum_congr rfl fun h _ => Finset.sum_congr rfl fun c _ => by rw [heads_at, total_num, total_den]

theorem sent_at (d : Dev nD) (i : Fin 128) (o : Fin 1024) : sent Is d (ix3 0 i o) = made Is d (ix2 i o) := by
  have e : sent Is d (ix3 0 i o) = lead squeezes_S1x128x1024_S128x1024 (obf (made Is d)) (ix3 0 i o) := by
    pointwise [sent, oExt, k0_pay411]
  rw [e, leadO_at]
  pointwise [obf]

theorem blockOf_at (c r : Dev nD) (i : Fin 128) (o : Fin 1024) : blockOf Is c r (ix3 0 i o) = made Is r (ix2 i o) := by
  unfold blockOf
  by_cases h : r = c
  · subst h
    rw [if_pos rfl]
    exact ValueIdx.shapeCast_ab_1ab_apply _ _ 0 i o
  · rw [if_neg h]
    exact sent_at Is r i o

/-- The result's row `r`, on every device. -/
theorem OUT_at (c : Dev nD) (r o : Fin 1024) (d : Dev nD) (i : Fin 128) (hr : r = row d i) :
    OUT Is c (ix3 0 r o) = ∑ h : Fin 8, ∑ k : Fin 128, Ideal.div (gnum Is r h k) (gden Is r h) * (Is d).wo (ix2 (hc h k) o) := by
  subst hr
  rw [← made_at, ← blockOf_at Is c d i o]
  have hd : (⟨((ix3 0 (row d i) o : S1x1024x1024.Idx) 1).val / 128, rowBlk _⟩ : Dev nD) = d := Fin.ext (by
    show (d.val * 128 + i.val) / 128 = d.val; omega)
  have hi : rowAt (ix3 0 (row d i) o) = (ix3 0 i o : S1x128x1024.Idx) := by
    funext a
    match a with
    | ⟨0, _⟩ => rfl
    | ⟨1, _⟩ => exact Fin.ext (by show (d.val * 128 + i.val) % 128 = i.val; omega)
    | ⟨2, _⟩ => rfl
  unfold OUT
  rw [hd, hi]

end Cert.KernelIdeal.Fused

end
-- ==== Proof.Fields.lean ====
/-
  What the kernel's flat matrices hold of the arguments, and the keys of all eight devices in one row.
-/
module

public import Idealize.ShloMosaic.Lib.Pointwise
public import Idealize.ShloMosaic.Lib.Pointwise.IndexVar
public import proofs.«01_k».proof.Proof.Totals
public import proofs.«01_k».proof.Proof.Data
public import Idealize.ShloMosaic.Lib.Layout

@[expose] public section

set_option maxRecDepth 16384

noncomputable section

namespace Cert.KernelIdeal.Fused

open Idealize.ShloMosaic Idealize.ShloMosaic.TcCoe
open Cert.KernelIdeal Cert.KernelIdeal.Gen
open scoped BigOperators

variable (m : (ℓ : Loc nD τ sig) → Buf (Elt Ideal) ℓ)

theorem x_field (c : Dev nD) : (insOf m c).x = m ((c.tc : Thread nD τ).loc main_arg0) := V_main_arg0 m c
theorem wq_field (c : Dev nD) : (insOf m c).wq = m ((c.tc : Thread nD τ).loc main_arg1) := V_main_arg1 m c
theorem wo_field (c : Dev nD) : (insOf m c).wo = m ((c.tc : Thread nD τ).loc main_arg4) := V_main_arg4 m c

theorem k_field (c : Dev nD) : (insOf m c).k = shapeCast S1024x1024 (shapeCast S1024x8x128 (show S1x1024x8x128.Idx → Ideal .f32 from m ((c.tc : Thread nD τ).loc main_arg2))
    shapeCasts_S1x1024x8x128_S1024x8x128) shapeCasts_S1024x8x128_S1024x1024 := by
  show StableHlo.after hostOps0 (fun b => m (c, b)) (Proc.devRef .tc main_v2) = _
  rfl
theorem v_field (c : Dev nD) : (insOf m c).v = shapeCast S1024x1024 (shapeCast S1024x8x128 (show S1x1024x8x128.Idx → Ideal .f32 from m ((c.tc : Thread nD τ).loc main_arg3))
    shapeCasts_S1x1024x8x128_S1024x8x128) shapeCasts_S1024x8x128_S1024x1024 := by
  show StableHlo.after hostOps0 (fun b => m (c, b)) (Proc.devRef .tc main_v4) = _
  rfl

/-- A column of the flat matrix is a head and a position in it. -/
theorem flat_at (a : FVec Ideal S1x1024x8x128 .f32) (j : Fin 1024) (h : Fin 8) (q : Fin 128) :
    shapeCast S1024x1024 (shapeCast S1024x8x128 a shapeCasts_S1x1024x8x128_S1024x8x128) shapeCasts_S1024x8x128_S1024x1024 (ix2 j (hc h q)) = a (ix4 0 j h q) := by
  have e : ∀ w : Fin 1024, shapeCast S1024x1024 (shapeCast S1024x8x128 a shapeCasts_S1x1024x8x128_S1024x8x128) shapeCasts_S1024x8x128_S1024x1024 (ix2 j w)
      = a (ix4 0 j ⟨w.val / 128, by omega⟩ ⟨w.val % 128, by omega⟩) := fun w => by
    pointwise
  rw [e]
  have e1 : (⟨(hc h q).val / 128, by omega⟩ : Fin 8) = h := Fin.ext (by show (h.val * 128 + q.val) / 128 = h.val; omega)
  have e2 : (⟨(hc h q).val % 128, by omega⟩ : Fin 128) = q := Fin.ext (by show (h.val * 128 + q.val) % 128 = q.val; omega)
  rw [e1, e2]

/-- Key `j` of device `e` among the keys of all devices. -/
def key (e : Fin 8) (j : Fin 1024) : Fin 8192 := ⟨e.val * 1024 + j.val, by omega⟩

theorem block_at (e : Fin 8) (V : FVec Ideal ⟨4, ![1, 8192, 8, 128]⟩ .f32) (ht : Layout.Tiles ⟨4, ![1, 1024, 8, 128]⟩ ⟨4, ![1, 8192, 8, 128]⟩ 1 8) (j : Fin 1024) (h : Fin 8) (q : Fin 128) :
    Layout.block ⟨4, ![1, 1024, 8, 128]⟩ ⟨4, ![1, 8192, 8, 128]⟩ 1 8 e V ht (ix4 0 j h q) = V (ix4 0 (key e j) h q) := by
  rw [Layout.block_apply]
  congr 1
  funext b
  refine Fin.ext ?_
  rw [Layout.Tiles.idx_val]
  fin_cases b <;> simp [ix4, key]

theorem sum_keys (f : Fin 8192 → EReal) : ∑ J : Fin 8192, f J = ∑ e : Fin 8, ∑ j : Fin 1024, f (key e j) := by
  rw [← Finset.sum_product' Finset.univ Finset.univ fun e j => f (key e j)]
  exact (Fintype.sum_equiv (finProdFinEquiv (m := 8) (n := 1024)) (fun p => f (key p.1 p.2)) f fun p => congrArg f (Fin.ext (by
    show p.1.val * 1024 + p.2.val = p.2.val + 1024 * p.1.val; omega))).symm

end Cert.KernelIdeal.Fused

end
-- ==== Proof.Softmax.lean ====
/-
  Real numbers among the extended reals, and a softmax with and without the greatest score subtracted.
-/
module

public import Idealize.ShloMosaic.Lib.Pointwise
public import Idealize.ShloMosaic.Lib.Pointwise.IndexVar
public import proofs.«01_k».proof.Proof.Totals

@[expose] public section

set_option maxRecDepth 16384

noncomputable section

namespace Cert.KernelIdeal.Fused

open Idealize.ShloMosaic Idealize.ShloMosaic.TcCoe
open Cert.KernelIdeal Cert.KernelIdeal.Gen
open scoped BigOperators

/-! ## A softmax that subtracts the greatest score, against one that does not -/

theorem coe_sum {ι : Type} (s : Finset ι) (f : ι → ℝ) : ((∑ i ∈ s, f i : ℝ) : EReal) = ∑ i ∈ s, (f i : EReal) := by
  classical
  refine Finset.induction_on s (by simp) fun a t ha ih => ?_
  rw [Finset.sum_insert ha, Finset.sum_insert ha, EReal.coe_add, ih]

/-- An extended real that is a real number. -/
def IsReal (x : EReal) : Prop := ∃ r : ℝ, x = r

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type} (s : Finset ι) {f : ι → EReal} (hf : ∀ i, IsReal (f i)) : IsReal (∑ i ∈ s, f i) := by
  choose g hg using hf
  exact ⟨∑ i ∈ s, g i, by rw [coe_sum]; exact Finset.sum_congr rfl fun i _ => hg i⟩

/-- A factor that is a real and not negative comes out of a sum, whatever infinities the sum has. -/
theorem sum_mul_real {ι : Type} (s : Finset ι) (f : ι → EReal) (c : ℝ) (hc : 0 ≤ c) : (∑ i ∈ s, f i) * (c : EReal) = ∑ i ∈ s, f i * (c : EReal) := by
  classical
  refine Finset.induction_on s (by simp) fun a t ha ih => ?_
  rw [Finset.sum_insert ha, Finset.sum_insert ha, EReal.right_distrib_of_nonneg_of_ne_top (EReal.coe_nonneg.mpr hc) (EReal.coe_ne_top c), ih]

theorem isReal_of_abs_lt {x : EReal} (h : max x (-x) < ⊤) : IsReal x := by
  refine ⟨x.toReal, (EReal.coe_toReal (fun e => ?_) (fun e => ?_)).symm⟩
  · subst e; simp at h
  · subst e; simp at h

section
variable {ι : Type} [Fintype ι] (P : ι → Prop) [DecidablePred P] (s : ι → ℝ) (v : ι → EReal)

/-- The greatest of finitely many entries, each a real or minus infinity, with at least one real: a real. -/
theorem max_real (ms : ι → EReal) (hms : ∀ i, ms i = ⊥ ∨ IsReal (ms i)) (i₀ : ι) (h₀ : IsReal (ms i₀)) :
    IsReal (Finset.univ.fold max ⊥ ms) := by
  have hle : ms i₀ ≤ Finset.univ.fold max ⊥ ms := (Finset.le_fold_max _).mpr (Or.inr ⟨i₀, Finset.mem_univ _, le_rfl⟩)
  have hlt : Finset.univ.fold max ⊥ ms < ⊤ := (Finset.fold_max_lt _).mpr ⟨bot_lt_top, fun i _ => by
    rcases hms i with h | ⟨a, h⟩ <;> rw [h]
    · exact bot_lt_top
    · exact EReal.coe_lt_top a⟩
  obtain ⟨a, ha⟩ := h₀
  have hgt : ⊥ < Finset.univ.fold max ⊥ ms := lt_of_lt_of_le (by rw [ha]; exact EReal.bot_lt_coe a) hle
  exact ⟨_, (EReal.coe_toReal hlt.ne hgt.ne').symm⟩

/-- Both ways of writing the weighted mean agree where the scores are reals, whatever the values are: the shift by the greatest score cancels. -/
theorem softmax_shift (i₀ : ι) (h₀ : P i₀) :
    (∑ i, v i * Ideal.div (Ideal.exp ((if P i then (s i : EReal) else ⊥) - Finset.univ.fold max ⊥ fun i => if P i then (s i : EReal) else ⊥))
        (∑ i, Ideal.exp ((if P i then (s i : EReal) else ⊥) - Finset.univ.fold max ⊥ fun i => if P i then (s i : EReal) else ⊥)))
      = Ideal.div (∑ i, (if P i then Ideal.exp (s i : EReal) else 0) * v i) (∑ i, if P i then Ideal.exp (s i : EReal) else 0) := by
  obtain ⟨M, hM⟩ := max_real (fun i => if P i then (s i : EReal) else ⊥)
    (fun i => by by_cases h : P i <;> simp only [h, if_true, if_false]; exacts [Or.inr ⟨_, rfl⟩, Or.inl trivial]) i₀ ⟨s i₀, if_pos h₀⟩
  rw [hM]
  set w : ι → ℝ := fun i => if P i then Real.exp (s i) else 0 with hw
  have hpos : 0 < ∑ i, w i := Finset.sum_pos' (fun i _ => by
    by_cases h : P i <;> simp only [hw, h, if_true, if_false]; exacts [(Real.exp_pos _).le, le_rfl])
    ⟨i₀, Finset.mem_univ _, by simp only [hw, h₀, if_true]; exact Real.exp_pos _⟩
  have e1 : ∀ i, Ideal.exp ((if P i then (s i : EReal) else ⊥) - (M : EReal)) = ((w i * Real.exp (-M) : ℝ) : EReal) := fun i => by
    by_cases h : P i <;> simp only [hw, h, if_true, if_false]
    · rw [← EReal.coe_sub, Ideal.exp_coe, sub_eq_add_neg, Real.exp_add]
    · rw [sub_eq_add_neg, EReal.bot_add, Ideal.exp_bot, zero_mul, EReal.coe_zero]
  have e2 : ∀ i, (if P i then Ideal.exp (s i : EReal) else 0) = (w i : EReal) := fun i => by
    by_cases h : P i <;> simp only [hw, h, if_true, if_false]
    · rw [Ideal.exp_coe]
    · rw [EReal.coe_zero]
  have hE : Real.exp (-M) ≠ 0 := (Real.exp_pos _).ne'
  have hd : (∑ i, w i * Real.exp (-M)) ≠ 0 := by rw [← Finset.sum_mul]; exact mul_ne_zero hpos.ne' hE
  simp only [e1, e2]
  rw [← coe_sum, ← coe_sum, Ideal.div_coe hpos.ne', sum_mul_real _ _ _ (one_div_pos.mpr hpos).le]
  refine Finset.sum_congr rfl fun i _ => ?_
  have hc : w i * Real.exp (-M) * (1 / ∑ i, w i * Real.exp (-M)) = w i * (1 / ∑ i, w i) := by
    rw [← Finset.sum_mul]
    have := hpos.ne'
    field_simp
  rw [Ideal.div_coe hd, ← EReal.coe_mul, hc, EReal.coe_mul, ← mul_assoc, mul_comm (v i)]
end

end Cert.KernelIdeal.Fused

end
-- ==== Proof.Finite.lean ====
/-
  The precondition read entry by entry: every entry of the first three arguments is a real number.
-/
module

public import Idealize.ShloMosaic.Lib.Pointwise
public import Idealize.ShloMosaic.Lib.Pointwise.IndexVar
public import proofs.«01_k».proof.Proof.Softmax
public import proofs.«01_k».proof.Proof.Gen.Pre_finite_KernelIdeal
public import Idealize.ShloMosaic.Lib.ReduceAll

@[expose] public section

set_option maxRecDepth 16384

noncomputable section

namespace Cert.KernelIdeal.Fused

open Idealize.ShloMosaic Idealize.ShloMosaic.TcCoe
open Cert.KernelIdeal Cert.KernelIdeal.Gen
open scoped BigOperators

/-! ## What the precondition says of each entry -/

theorem one_of_andi {a b : BitVec 1} (h : IntOp.andi a b = 1#1) : a = 1#1 ∧ b = 1#1 := by
  revert h; revert a b; decide

theorem isReal_of_finite {s : Shape} (a : FVec Ideal s .f32) (hb : (⟨0, ![]⟩ : Shape).BroadcastsInDim s (![] : Fin 0 → Fin s.rank)) (i : s.Idx)
    (h : cmpf .olt (Host.absf a) (broadcastInDim s ![] hb (constant ⟨0, ![]⟩ .f32 0x7F800000#32)) i = 1#1) : IsReal (a i) := by
  refine isReal_of_abs_lt ?_
  have htop : Ideal.ofBits .f32 0x7F800000#32 = ⊤ := by simp [Ideal.ofBits, Ideal.ieee]
  have h' : BitVec.ofBool (decide (max (a i : EReal) (-(a i : EReal)) < Ideal.ofBits .f32 0x7F800000#32)) = 1#1 := h
  rw [htop] at h'
  by_contra hn
  rw [decide_eq_false hn] at h'
  exact absurd h' (by decide)

open Cert.Pre_finite_KernelIdeal in
/-- Every entry of the first three arguments is a real number. -/
theorem finite_entries [Facts] (a0 : FVec Ideal S1x1024x1024 .f32) (a1 : FVec Ideal S1024x1024 .f32) (a2 a3 : FVec Ideal S1x1024x8x128 .f32) (a4 : FVec Ideal S1024x1024 .f32)
    (h : fn (F := Ideal) a0 a1 a2 a3 a4 = fun _ => 1#1) : (∀ i, IsReal (a0 i)) ∧ (∀ i, IsReal (a1 i)) ∧ ∀ i, IsReal (a2 i) := by
  have h' := congrFun h (fun b : Fin 0 => b.elim0)
  haveI : Subsingleton S_.Idx := ⟨fun a b => funext fun d => d.elim0⟩
  obtain ⟨h', h2⟩ := one_of_andi h'
  obtain ⟨h0, h1⟩ := one_of_andi h'
  exact ⟨fun i => isReal_of_finite a0 _ i (Host.reduce_andi_all _ _ _ _ _ h0 i), fun i => isReal_of_finite a1 _ i (Host.reduce_andi_all _ _ _ _ _ h1 i),
    fun i => isReal_of_finite a2 _ i (Host.reduce_andi_all _ _ _ _ _ h2 i)⟩

end Cert.KernelIdeal.Fused

end
-- ==== Proof.RefSums.lean ====
/-
  The reference read entry by entry: its scores, the mask, the softmax over all 8192 keys, the weighted values and the output projection, each as a plain sum of reals.
-/
module

public import Idealize.ShloMosaic.Lib.Pointwise
public import Idealize.ShloMosaic.Lib.Pointwise.IndexVar
public import proofs.«01_k».proof.Proof.Totals
public import proofs.«01_k».proof.Proof.Gen.ReferenceIdeal.Run

@[expose] public section

set_option maxRecDepth 16384

noncomputable section

namespace Cert.ReferenceIdeal.Value

open Idealize.ShloMosaic Idealize.ShloMosaic.TcCoe
open Cert.ReferenceIdeal Cert.ReferenceIdeal.Gen
open Cert.KernelIdeal.Fused (Near Seen word_near word_first scl)
open scoped BigOperators

/-! ## The reference, step by step -/

/-- The mask. -/
def msk : IVec S1024x8192 1 :=
  ori (cmpi .sle (absi (subi (broadcastInDim S1024x8192 ![0, 1] bcast_S1024x1_S1024x8192_0_1 (broadcastInDim S1024x1 ![0] bcast_S1024_S1024x1_0 (iotaInDim S1024 32 0)))
      (broadcastInDim S1024x8192 ![0, 1] bcast_S1x8192_S1024x8192_0_1 (broadcastInDim S1x8192 ![1] bcast_S8192_S1x8192_1 (iotaInDim S8192 32 0)))))
      (broadcastInDim S1024x8192 ![] bcast_S_S1024x8192 (constantI S_ 32 128#32)))
    (ori (broadcastInDim S1024x8192 ![0, 1] bcast_S1x8192_S1024x8192_0_1 (cmpi .slt (broadcastInDim S1x8192 ![1] bcast_S8192_S1x8192_1 (iotaInDim S8192 32 0))
        (broadcastInDim S1x8192 ![] bcast_S_S1x8192 (constantI S_ 32 32#32))))
      (broadcastInDim S1024x8192 ![0, 1] bcast_S1024x1_S1024x8192_0_1 (cmpi .slt (broadcastInDim S1024x1 ![0] bcast_S1024_S1024x1_0 (iotaInDim S1024 32 0))
        (broadcastInDim S1024x1 ![] bcast_S_S1024x1 (constantI S_ 32 32#32)))))

/-- Whether a query sees any key. -/
def keep : IVec S1024 1 := Host.reduce IntOp.ori msk (constantI S_ 1 0#1) reducesTo_S1024x8192_S1024_d1 h_S_

variable (x : FVec Ideal S1x1024x1024 .f32) (wq : FVec Ideal S1024x1024 .f32) (k v : FVec Ideal S1x8192x8x128 .f32) (wo : FVec Ideal S1024x1024 .f32)

/-- The scaled products, minus infinity where the mask does not hold. -/
def scr : FVec Ideal S1x8x1024x8192 .f32 :=
  select (broadcastInDim S1x8x1024x8192 ![0, 1, 2, 3] bcast_S1x1x1024x8192_S1x8x1024x8192_0_1_2_3 (broadcastInDim S1x1x1024x8192 ![2, 3] bcast_S1024x8192_S1x1x1024x8192_2_3 msk))
    (mulf (Host.dotGeneral dot_S1x1024x8x128_S1x8192x8x128_S1x8x1024x8192_3_3_1_1_02_02 none
      (shapeCast _ (Host.dotGeneral dot_S1x1024x1024_S1024x1024_S1x1024x1024_2_0_01_1_n_n none x wq) shapeCasts_S1x1024x1024_S1x1024x8x128) k)
      (broadcastInDim S1x8x1024x8192 ![] bcast_S_S1x8x1024x8192 (constant S_ .f32 0x3DB504F3#32)))
    (broadcastInDim S1x8x1024x8192 ![] bcast_S_S1x8x1024x8192 (id (constant S_ .f32 0xFF800000#32)))

/-- The greatest of a query's products. -/
def mxs : FVec Ideal S1x8x1024 .f32 :=
  Host.reduce FloatOps.maximumf (scr x wq k) (constant S_ .f32 0xFF800000#32) reducesTo_S1x8x1024x8192_S1x8x1024_d3 h_S_

/-- The exponentials. -/
def exs : FVec Ideal S1x8x1024x8192 .f32 :=
  Host.exp (subf (scr x wq k) (broadcastInDim S1x8x1024x8192 ![0, 1, 2, 3] bcast_S1x8x1024x1_S1x8x1024x8192_0_1_2_3
    (broadcastInDim S1x8x1024x1 ![0, 1, 2] bcast_S1x8x1024_S1x8x1024x1_0_1_2 (mxs x wq k))))

/-- What they are divided by. -/
def dvs : FVec Ideal S1x8x1024x1 .f32 :=
  select (broadcastInDim S1x8x1024x1 ![0, 1, 2, 3] bcast_S1x1x1024x1_S1x8x1024x1_0_1_2_3 (broadcastInDim S1x1x1024x1 ![2] bcast_S1024_S1x1x1024x1_2 keep))
    (broadcastInDim S1x8x1024x1 ![0, 1, 2] bcast_S1x8x1024_S1x8x1024x1_0_1_2
      (Host.reduceAdd (exs x wq k) (constant S_ .f32 0x00000000#32) reducesTo_S1x8x1024x8192_S1x8x1024_d3 h_S_))
    (broadcastInDim S1x8x1024x1 ![] bcast_S_S1x8x1024x1 (id (constant S_ .f32 0x3F800000#32)))

/-- The weights. -/
def wts : FVec Ideal S1x8x1024x8192 .f32 :=
  select (broadcastInDim S1x8x1024x8192 ![0, 1, 2, 3] bcast_S1x1x1024x1_S1x8x1024x8192_0_1_2_3 (broadcastInDim S1x1x1024x1 ![2] bcast_S1024_S1x1x1024x1_2 keep))
    (Host.divf (exs x wq k) (broadcastInDim S1x8x1024x8192 ![0, 1, 2, 3] bcast_S1x8x1024x1_S1x8x1024x8192_0_1_2_3 (dvs x wq k)))
    (broadcastInDim S1x8x1024x8192 ![] bcast_S_S1x8x1024x8192 (id (constant S_ .f32 0x00000000#32)))

/-- The weighted sums of the values, and their products with the last weights. -/
def ctx : FVec Ideal S1x8x128x1024 .f32 := Host.dotGeneral dot_S1x8192x8x128_S1x8x1024x8192_S1x8x128x1024_1_3_3_2_02_01 none v (wts x wq k)
def res : FVec Ideal S1x1024x1024 .f32 :=
  Host.dotGeneral dot_S1x1024x1024_S1024x1024_S1x1024x1024_2_0_01_1_n_n none
    (shapeCast _ (transpose S1x1024x8x128 [0, 3, 1, 2] (ctx x wq k v) transposes_S1x8x128x1024_S1x1024x8x128_0_3_1_2) shapeCasts_S1x1024x8x128_S1x1024x1024) wo

theorem res_out0_eq (m : (ℓ : Loc nD τ sig) → Buf (Elt Ideal) ℓ) (c : Dev nD) :
    res_out0 (F := Ideal) m c = res (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

/-! ## The same at an index -/

theorem msk_at (r : Fin 1024) (j : Fin 8192) : msk (ix2 r j) = BitVec.ofBool (decide (Seen r.val j.val)) := by
  have e : msk (ix2 r j) = IntOp.ori (IntOp.cmpi .sle (IntOp.absi (IntOp.subi (BitVec.ofNat 32 r.val) (BitVec.ofNat 32 j.val))) 128#32)
      (IntOp.ori (IntOp.cmpi .slt (BitVec.ofNat 32 j.val) 32#32) (IntOp.cmpi .slt (BitVec.ofNat 32 r.val) 32#32)) := by
    pointwise [msk]
  rw [e, word_near _ _ (by omega) (by omega), word_first _ (by omega), word_first _ (by omega), WordArith.ori_ofBool, WordArith.ori_ofBool]
  congr 1
  by_cases h1 : Near r.val j.val <;> by_cases h2 : j.val < 32 <;> by_cases h3 : r.val < 32 <;> simp [Seen, h1, h2, h3]

theorem fold_or {ι : Type} [DecidableEq ι] (s : Finset ι) (f : ι → BitVec 1) (a : ι) (ha : a ∈ s) (hf : f a = 1#1) :
    s.fold IntOp.ori 0#1 f = 1#1 := by
  rw [← Finset.insert_erase ha, Finset.fold_insert (Finset.notMem_erase a s), hf]
  have : ∀ b : BitVec 1, IntOp.ori 1#1 b = 1#1 := by decide
  exact this _

theorem keep_at (r : Fin 1024) : keep (ix1 r) = 1#1 := by
  have e : keep (ix1 r) = Finset.univ.fold IntOp.ori 0#1 fun j : Fin 8192 => msk (ix2 r j) := by
    pointwise [keep]
  rw [e]
  refine fold_or _ _ (⟨0, by omega⟩ : Fin 8192) (Finset.mem_univ _) ?_
  rw [msk_at]
  have : Seen r.val 0 := .inr (.inl (by omega))
  simp [this]

/-- Column `c` of head `h`. -/
abbrev hcol (h : Fin 8) (c : Fin 128) : Fin 1024 := ⟨h.val * 128 + c.val, by omega⟩

/-- The scaled product of query `r` and key `j` in head `h`. -/
def sc (h : Fin 8) (r : Fin 1024) (j : Fin 8192) : EReal :=
  (∑ c : Fin 128, (∑ d : Fin 1024, x (ix3 0 r d) * wq (ix2 d (hcol h c))) * k (ix4 0 j h c)) * scl
/-- The same, minus infinity where the query does not see the key. -/
def ms (h : Fin 8) (r : Fin 1024) (j : Fin 8192) : EReal := if Seen r.val j.val then sc x wq k h r j else ⊥
def mx (h : Fin 8) (r : Fin 1024) : EReal := Finset.univ.fold max ⊥ (ms x wq k h r)
def ex (h : Fin 8) (r : Fin 1024) (j : Fin 8192) : EReal := Ideal.exp (ms x wq k h r j - mx x wq k h r)

theorem sel_one (a b : EReal) : Scalar.select 1#1 a b = a := if_pos rfl

theorem neg_inf : Ideal.ofBits .f32 0xFF800000#32 = ⊥ := by
  simp [Ideal.ofBits, Ideal.ieee]

theorem scr_at (h : Fin 8) (r : Fin 1024) (j : Fin 8192) : scr x wq k (ix4 0 h r j) = ms x wq k h r j := by
  have e : scr x wq k (ix4 0 h r j) = Scalar.select (msk (ix2 r j)) (sc x wq k h r j) (Ideal.ofBits .f32 0xFF800000#32) := by
    pointwise [scr, sc, scl, id_eq]
  rw [e, msk_at, neg_inf, ms]
  by_cases hs : Seen r.val j.val <;> simp [hs, Scalar.select]

theorem mxs_at (h : Fin 8) (r : Fin 1024) : mxs x wq k (ix3 0 h r) = mx x wq k h r := by
  have e : mxs x wq k (ix3 0 h r) = Finset.univ.fold max (Ideal.ofBits .f32 0xFF800000#32) fun j : Fin 8192 => scr x wq k (ix4 0 h r j) := by
    pointwise [mxs]
  rw [e, neg_inf, mx]
  exact Finset.fold_congr fun j _ => scr_at x wq k h r j

theorem exs_at (h : Fin 8) (r : Fin 1024) (j : Fin 8192) : exs x wq k (ix4 0 h r j) = ex x wq k h r j := by
  have e : exs x wq k (ix4 0 h r j) = Ideal.exp (scr x wq k (ix4 0 h r j) - mxs x wq k (ix3 0 h r)) := by
    pointwise [exs]
  rw [e, scr_at, mxs_at, ex]

theorem dvs_at (h : Fin 8) (r : Fin 1024) : dvs x wq k (ix4 0 h r 0) = ∑ j : Fin 8192, ex x wq k h r j := by
  have e : dvs x wq k (ix4 0 h r 0) = Scalar.select (keep (ix1 r)) (∑ j : Fin 8192, exs x wq k (ix4 0 h r j)) 1 := by
    pointwise [dvs, id_eq]
  rw [e, keep_at]
  rw [sel_one]
  exact Finset.sum_congr rfl fun j _ => exs_at x wq k h r j

theorem wts_read (K : IVec S1024 1) (E : FVec Ideal S1x8x1024x8192 .f32) (D : FVec Ideal S1x8x1024x1 .f32) (h : Fin 8) (r : Fin 1024) (j : Fin 8192) :
    select (broadcastInDim S1x8x1024x8192 ![0, 1, 2, 3] bcast_S1x1x1024x1_S1x8x1024x8192_0_1_2_3 (broadcastInDim S1x1x1024x1 ![2] bcast_S1024_S1x1x1024x1_2 K))
      (Host.divf E (broadcastInDim S1x8x1024x8192 ![0, 1, 2, 3] bcast_S1x8x1024x1_S1x8x1024x8192_0_1_2_3 D))
      (broadcastInDim S1x8x1024x8192 ![] bcast_S_S1x8x1024x8192 (id (constant S_ .f32 0x00000000#32))) (ix4 0 h r j)
      = Scalar.select (K (ix1 r)) (Ideal.div (E (ix4 0 h r j)) (D (ix4 0 h r 0))) 0 := by
  pointwise [id_eq]

theorem wts_at (h : Fin 8) (r : Fin 1024) (j : Fin 8192) :
    wts x wq k (ix4 0 h r j) = Ideal.div (ex x wq k h r j) (∑ j : Fin 8192, ex x wq k h r j) := by
  refine (wts_read keep (exs x wq k) (dvs x wq k) h r j).trans ?_
  rw [keep_at, exs_at, dvs_at, sel_one]

theorem ctx_read (W : FVec Ideal S1x8x1024x8192 .f32) (h : Fin 8) (r : Fin 1024) (c : Fin 128) :
    Host.dotGeneral dot_S1x8192x8x128_S1x8x1024x8192_S1x8x128x1024_1_3_3_2_02_01 none v W (ix4 0 h c r) = ∑ j : Fin 8192, v (ix4 0 j h c) * W (ix4 0 h r j) := by
  pointwise

theorem ctx_at (h : Fin 8) (r : Fin 1024) (c : Fin 128) :
    ctx x wq k v (ix4 0 h c r) = ∑ j : Fin 8192, v (ix4 0 j h c) * Ideal.div (ex x wq k h r j) (∑ j : Fin 8192, ex x wq k h r j) :=
  (ctx_read v (wts x wq k) h r c).trans (Finset.sum_congr rfl fun j _ => congrArg (v (ix4 0 j h c) * ·) (wts_at x wq k h r j))

theorem res_read (C : FVec Ideal S1x8x128x1024 .f32) (r o : Fin 1024) :
    Host.dotGeneral dot_S1x1024x1024_S1024x1024_S1x1024x1024_2_0_01_1_n_n none
      (shapeCast _ (transpose S1x1024x8x128 [0, 3, 1, 2] C transposes_S1x8x128x1024_S1x1024x8x128_0_3_1_2) shapeCasts_S1x1024x8x128_S1x1024x1024) wo (ix3 0 r o)
      = ∑ q : Fin 1024, C (ix4 0 ⟨q.val / 128, by omega⟩ ⟨q.val % 128, by omega⟩ r) * wo (ix2 q o) := by
  pointwise

theorem res_at (r o : Fin 1024) : res x wq k v wo (ix3 0 r o) = ∑ h : Fin 8, ∑ c : Fin 128, ctx x wq k v (ix4 0 h c r) * wo (ix2 (hcol h c) o) := by
  refine (res_read wo (ctx x wq k v) r o).trans ((Cert.KernelIdeal.Fused.sum_heads _).trans ?_)
  refine Finset.sum_congr rfl fun h _ => Finset.sum_congr rfl fun c _ => ?_
  have e1 : (⟨(Cert.KernelIdeal.Fused.hc h c).val / 128, by omega⟩ : Fin 8) = h := Fin.ext (by show (h.val * 128 + c.val) / 128 = h.val; omega)
  have e2 : (⟨(Cert.KernelIdeal.Fused.hc h c).val % 128, by omega⟩ : Fin 128) = c := Fin.ext (by show (h.val * 128 + c.val) % 128 = c.val; omega)
  rw [e1, e2]
  rfl

end Cert.ReferenceIdeal.Value

end
-- ==== Proof.Join.lean ====
/-
  The kernel's result is the reference's: both are one sum over heads of a quotient of sums over all the keys.
-/
module

public import Idealize.ShloMosaic.Lib.Pointwise
public import Idealize.ShloMosaic.Lib.Pointwise.IndexVar
public import proofs.«01_k».proof.Proof.Fields
public import proofs.«01_k».proof.Proof.Finite
public import proofs.«01_k».proof.Proof.RefSums

@[expose] public section

set_option maxRecDepth 16384

noncomputable section

namespace Cert.KernelIdeal.Fused

open Idealize.ShloMosaic Idealize.ShloMosaic.TcCoe
open Cert.KernelIdeal Cert.KernelIdeal.Gen
open scoped BigOperators

open Cert.ReferenceIdeal.Value (sc ms mx ex hcol ctx_at res_at res res_out0_eq)

theorem scl_real : IsReal scl := by
  unfold scl
  simp [Ideal.ofBits, Ideal.ieee, -EReal.coe_mul]
  exact ⟨_, rfl⟩

section
variable (Is : Dev nD → Ins Ideal)
variable (x : FVec Ideal S1x1024x1024 .f32) (wq : FVec Ideal S1024x1024 .f32) (k v : FVec Ideal ⟨4, ![1, 8192, 8, 128]⟩ .f32) (wo : FVec Ideal S1024x1024 .f32)

/-- Each device's five blocks are its parts of the five whole arrays. -/
structure Parts : Prop where
  x : ∀ e, (Is e).x = x
  wq : ∀ e, (Is e).wq = wq
  k : ∀ (e : Fin 8) (j : Fin 1024) (h : Fin 8) (q : Fin 128), (Is e).k (ix2 j (hc h q)) = k (ix4 0 (key e j) h q)
  v : ∀ (e : Fin 8) (j : Fin 1024) (h : Fin 8) (q : Fin 128), (Is e).v (ix2 j (hc h q)) = v (ix4 0 (key e j) h q)
  wo : ∀ e, (Is e).wo = wo

/-- The entries the scores read are real numbers. -/
structure Reals : Prop where
  x : ∀ i, IsReal (x i)
  wq : ∀ i, IsReal (wq i)
  k : ∀ (J : Fin 8192) (h : Fin 8) (q : Fin 128), IsReal (k (ix4 0 J h q))

variable {Is x wq k v wo}

theorem ker_eq (hp : Parts Is x wq k v wo) (e : Fin 8) (h : Fin 8) (r j : Fin 1024) : ker (Is e) h r j = Ideal.exp (sc x wq k h r (key e j)) := by
  unfold ker qry sc
  rw [hp.x, hp.wq]
  simp only [hp.k]
  rfl

theorem wt_eq (hp : Parts Is x wq k v wo) (e : Fin 8) (h : Fin 8) (r j : Fin 1024) :
    wt (Is e) h (e.val * 1024) r j = if Seen r.val (key e j).val then Ideal.exp (sc x wq k h r (key e j)) else 0 := by
  unfold wt
  rw [ker_eq hp]
  rfl

theorem gden_eq (hp : Parts Is x wq k v wo) (h : Fin 8) (r : Fin 1024) :
    gden Is r h = ∑ J : Fin 8192, if Seen r.val J.val then Ideal.exp (sc x wq k h r J) else 0 := by
  rw [sum_keys]
  unfold gden wden
  exact Finset.sum_congr rfl fun e _ => Finset.sum_congr rfl fun j _ => wt_eq hp e h r j

theorem gnum_eq (hp : Parts Is x wq k v wo) (h : Fin 8) (r : Fin 1024) (q : Fin 128) :
    gnum Is r h q = ∑ J : Fin 8192, (if Seen r.val J.val then Ideal.exp (sc x wq k h r J) else 0) * v (ix4 0 J h q) := by
  rw [sum_keys]
  unfold gnum wnum
  exact Finset.sum_congr rfl fun e _ => Finset.sum_congr rfl fun j _ => by rw [wt_eq hp, hp.v]

theorem sc_real (hr : Reals x wq k) (h : Fin 8) (r : Fin 1024) (J : Fin 8192) : IsReal (sc x wq k h r J) :=
  (IsReal.sum _ fun q => (IsReal.sum _ fun d => (hr.x _).mul (hr.wq _)).mul (hr.k J h q)).mul scl_real

/-- The reference's weighted mean is the kernel's quotient of two sums. -/
theorem mean_eq (hp : Parts Is x wq k v wo) (hr : Reals x wq k) (h : Fin 8) (r : Fin 1024) (q : Fin 128) :
    (∑ J : Fin 8192, v (ix4 0 J h q) * Ideal.div (ex x wq k h r J) (∑ J : Fin 8192, ex x wq k h r J)) = Ideal.div (gnum Is r h q) (gden Is r h) := by
  rw [gnum_eq hp, gden_eq hp]
  choose s hs using sc_real hr h r
  unfold ex mx ms
  simp only [hs]
  exact softmax_shift (fun J : Fin 8192 => Seen r.val J.val) s (fun J => v (ix4 0 J h q)) (⟨0, by omega⟩ : Fin 8192) (Or.inr (Or.inl (by show 0 < 32; omega)))

/-- Every device ends with the reference's result. -/
theorem out_eq (hp : Parts Is x wq k v wo) (hr : Reals x wq k) (c : Dev nD) : OUT Is c = res x wq k v wo := by
  funext i
  have hi : ∃ r o : Fin 1024, i = ix3 0 r o := ⟨i 1, i 2, by
    funext b
    fin_cases b
    · exact Fin.ext (by have := (i 0).isLt; simp [Shape.size] at this; simpa using this)
    · rfl
    · rfl⟩
  obtain ⟨r, o, rfl⟩ := hi
  have hrow : r = row ⟨r.val / 128, by show _ < 8; omega⟩ ⟨r.val % 128, by omega⟩ := Fin.ext (by show r.val = r.val / 128 * 128 + r.val % 128; omega)
  rw [OUT_at Is c r o _ _ hrow, res_at]
  refine Finset.sum_congr rfl fun h _ => Finset.sum_congr rfl fun q _ => ?_
  rw [ctx_at, mean_eq hp hr, hp.wo]
  rfl
end

end Cert.KernelIdeal.Fused

end
-- ==== Proof.Algebraic.lean ====
/- Over the reals and with finite scores every device ends with what the reference computes. -/
module

public import proofs.«01_k».proof.Defs
public import proofs.«01_k».proof.Proof.Frames
public import proofs.«01_k».proof.Proof.Join

@[expose] public section

noncomputable section

namespace Cert.Proof

open Idealize.ShloMosaic Idealize.SL.Sem
open Cert.KernelIdeal.Fused

/-- Key `J` of all is key `J mod 1024` of device `J / 1024`. -/
theorem key_split (J : Fin 8192) : ∃ (e : Fin 8) (j : Fin 1024), key e j = J :=
  ⟨⟨J.val / 1024, by omega⟩, ⟨J.val % 1024, by omega⟩, Fin.ext (by show J.val / 1024 * 1024 + J.val % 1024 = J.val; omega)⟩

theorem algebraic : Cert.algebraic_KernelIdeal_ReferenceIdeal_pre_finite_KernelIdeal := by
  intro m g m' g' hpre hargs
  have hfin := fun c => finite_entries _ _ _ _ _ (hpre c)
  have hp : Parts (insOf (F := Ideal) m) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { x := fun e => (x_field m e).trans (hargs e).1
      wq := fun e => (wq_field m e).trans (hargs e).2.1
      k := fun e j h q => by rw [k_field, flat_at, (hargs e).2.2.1]; exact block_at e _ _ j h q
      v := fun e j h q => by rw [v_field, flat_at, (hargs e).2.2.2.1]; exact block_at e _ _ j h q
      wo := fun e => (wo_field m e).trans (hargs e).2.2.2.2 }
  have hr : Reals (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)) :=
    { x := fun i => by rw [← (hargs 0).1]; exact (hfin 0).1 i
      wq := fun i => by rw [← (hargs 0).2.1]; exact (hfin 0).2.1 i
      k := fun J h q => by
        obtain ⟨e, j, rfl⟩ := key_split J
        obtain ⟨a, ha⟩ := (hfin e).2.2 (ix4 0 j h q)
        rw [(hargs e).2.2.1] at ha
        exact ⟨a, (block_at e _ _ j h q).symm.trans ha⟩ }
  refine ⟨Cert.ReferenceIdeal.Value.res_out0 m' 0, ?_, ?_⟩
  · refine (θ_run (Cert.KernelIdeal.defs (F := Ideal)) _ _).mono (fun r h c => ⟨?_, (h.1 c).2⟩) (run_main (F := Ideal) m g)
    rw [Cert.ReferenceIdeal.Value.res_out0_eq]
    exact (h.1 c).1.trans (out_eq hp hr c)
  · exact (θ_run (Cert.ReferenceIdeal.defs (F := Ideal)) _ _).mono (fun r h => h 0) (Cert.ReferenceIdeal.Value.run (F := Ideal) m' g')

end Cert.Proof

end
-- ==== Proof.lean ====
module

public import proofs.«01_k».proof.Defs
public import proofs.«01_k».proof.Proof.Frames
public import proofs.«01_k».proof.Proof.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_KernelIdeal.Gen.facts, Cert.Pre_finite_ReferenceIdeal.Gen.facts,
    frame_kernel, frame_ideal, frame_ideal_pre, frame_reference, frame_reference_pre, trivial, algebraic⟩

end Cert.Proof

end
